-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_tables_in_range : Cert.Pre_tables_in_range.Facts] (m : (ℓ : Loc Cert.Kernel3.nD Cert.Kernel3.τ Cert.Kernel3.sig) → Buf (Elt Bits) ℓ) : Prop :=
  ∀ c : Dev Cert.Kernel3.nD,
    (Cert.Pre_tables_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_tables_in_range : Cert.Pre_tables_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables_in_range [hPre_tables_in_range : Cert.Pre_tables_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_dest_in_range : Cert.Pre_dest_in_range.Facts] (m : (ℓ : Loc Cert.Kernel5.nD Cert.Kernel5.τ Cert.Kernel5.sig) → Buf (Elt Bits) ℓ) : Prop :=
  ∀ c : Dev Cert.Kernel5.nD,
    (Cert.Pre_dest_in_range.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5))) = (fun _ => 1#1)

def Pre_Kernel5Ideal [hPre_dest_in_range : Cert.Pre_dest_in_range.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_dest_in_range.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_dest_in_range [hPre_dest_in_range : Cert.Pre_dest_in_range.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_dest_in_range.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_tables_in_range : Cert.Pre_tables_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_tables_in_range : Cert.Pre_tables_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_tables_in_range [hReference3Ideal : Cert.Reference3Ideal.Facts] [hPre_tables_in_range : Cert.Pre_tables_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] [hPre_dest_in_range : Cert.Pre_dest_in_range.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] [hPre_dest_in_range : Cert.Pre_dest_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_dest_in_range [hReference5Ideal : Cert.Reference5Ideal.Facts] [hPre_dest_in_range : Cert.Pre_dest_in_range.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_dest_in_range m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] [hPre_tables_in_range : Cert.Pre_tables_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] [hPre_dest_in_range : Cert.Pre_dest_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v81) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_tables_in_range : Cert.Pre_tables_in_range.Facts) (hPre_dest_in_range : Cert.Pre_dest_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_tables_in_range := hPre_tables_in_range)
    ∧ quiescent_Kernel3Ideal (hKernel3Ideal := hKernel3Ideal) (hPre_tables_in_range := hPre_tables_in_range)
    ∧ quiescent_Reference3Ideal (hReference3Ideal := hReference3Ideal)
    ∧ quiescent_Reference3Ideal_pre_tables_in_range (hReference3Ideal := hReference3Ideal) (hPre_tables_in_range := hPre_tables_in_range)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_dest_in_range := hPre_dest_in_range)
    ∧ quiescent_Kernel5Ideal (hKernel5Ideal := hKernel5Ideal) (hPre_dest_in_range := hPre_dest_in_range)
    ∧ quiescent_Reference5Ideal (hReference5Ideal := hReference5Ideal)
    ∧ quiescent_Reference5Ideal_pre_dest_in_range (hReference5Ideal := hReference5Ideal) (hPre_dest_in_range := hPre_dest_in_range)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_tables_in_range := hPre_tables_in_range)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_dest_in_range := hPre_dest_in_range)
    ∧ preserves_Kernel6_Kernel6Ideal
    ∧ algebraic_Kernel6Ideal_Reference6Ideal (hKernel6Ideal := hKernel6Ideal) (hReference6Ideal := hReference6Ideal)
-- ==== Pre_dest_in_range.lean ====
abbrev S139264x1024 : Shape := ⟨2, ![139264, 1024]⟩
abbrev S131072 : Shape := ⟨1, ![131072]⟩
abbrev S32768x128 : Shape := ⟨2, ![32768, 128]⟩
abbrev S32768x1024 : Shape := ⟨2, ![32768, 1024]⟩
abbrev S16x1x1024 : Shape := ⟨3, ![16, 1, 1024]⟩
abbrev S1x1024 : Shape := ⟨2, ![1, 1024]⟩
abbrev S_ : Shape := ⟨0, ![]⟩

class Facts : Prop where
  bcast_S_S131072 : S_.BroadcastsInDim S131072 (![] : Fin 0 → Fin S131072.rank)
  reducesTo_S131072_S_d0 : S131072.ReducesTo [0] S_
  h_S_ : 0 < S_.numel

variable [Facts]

def fn {F : FTy → Type} [FloatOps F] (main_arg0 : FVec F S139264x1024 .f32) (main_arg1 : IVec S131072 32) (main_arg2 : FVec F S32768x128 .f32) (main_arg3 : FVec F S32768x1024 .f32) (main_arg4 : FVec F S16x1x1024 .f32) (main_arg5 : FVec F S1x1024 .f32) : IVec S_ 1 :=
  let main_c : IVec S_ 32 := constantI S_ 32 0#32
  let main_v0 : IVec S131072 32 := broadcastInDim S131072 ![] bcast_S_S131072 main_c
  let main_v1 : IVec S131072 1 := cmpi .sge main_arg1 main_v0
  let main_c_0 : IVec S_ 32 := constantI S_ 32 139264#32
  let main_v2 : IVec S131072 32 := broadcastInDim S131072 ![] bcast_S_S131072 main_c_0
  let main_v3 : IVec S131072 1 := cmpi .slt main_arg1 main_v2
  let main_v4 : IVec S131072 1 := andi main_v1 main_v3
  let main_c_1 : IVec S_ 1 := constantI S_ 1 1#1
  let main_v5 : IVec S_ 1 := (fun x v => Host.reduce IntOp.andi x v reducesTo_S131072_S_d0 h_S_) main_v4 main_c_1
  main_v5
-- ==== Pre_tables_in_range.lean ====
abbrev S544 : Shape := ⟨1, ![544]⟩
abbrev S1 : Shape := ⟨1, ![1]⟩
abbrev S139264x1024 : Shape := ⟨2, ![139264, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S544 : S_.BroadcastsInDim S544 (![] : Fin 0 → Fin S544.rank)
  reducesTo_S544_S_d0 : S544.ReducesTo [0] S_
  h_S_ : 0 < S_.numel
  shapeCasts_S1_S_ : S1.ShapeCasts S_

variable [Facts]

def fn {F : FTy → Type} [FloatOps F] (main_arg0 : IVec S544 32) (main_arg1 : IVec S1 32) (main_arg2 : FVec F S139264x1024 .f32) (main_arg3 : FVec F S32x1024x2048 .bf16) (main_arg4 : FVec F S32x1x2048 .f32) (main_arg5 : FVec F S32x1024x1024 .bf16) (main_arg6 : FVec F S32x1x1024 .f32) : IVec S_ 1 :=
  let main_c : IVec S_ 32 := constantI S_ 32 0#32
  let main_v0 : IVec S544 32 := broadcastInDim S544 ![] bcast_S_S544 main_c
  let main_v1 : IVec S544 1 := cmpi .sge main_arg0 main_v0
  let main_c_0 : IVec S_ 32 := constantI S_ 32 32#32
  let main_v2 : IVec S544 32 := broadcastInDim S544 ![] bcast_S_S544 main_c_0
  let main_v3 : IVec S544 1 := cmpi .slt main_arg0 main_v2
  let main_v4 : IVec S544 1 := andi main_v1 main_v3
  let main_c_1 : IVec S_ 1 := constantI S_ 1 1#1
  let main_v5 : IVec S_ 1 := (fun x v => Host.reduce IntOp.andi x v reducesTo_S544_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S32768x512 : Shape := ⟨2, ![32768, 512]⟩
abbrev S32768x5632 : Shape := ⟨2, ![32768, 5632]⟩
abbrev S32768x1024 : Shape := ⟨2, ![32768, 1024]⟩
abbrev S16x1x1024 : Shape := ⟨3, ![16, 1, 1024]⟩
abbrev S1x1024 : Shape := ⟨2, ![1, 1024]⟩
abbrev S512x1024 : Shape := ⟨2, ![512, 1024]⟩
abbrev S1024x1024 : Shape := ⟨2, ![1024, 1024]⟩
abbrev S1024x128 : Shape := ⟨2, ![1024, 128]⟩
abbrev S1x128 : Shape := ⟨2, ![1, 128]⟩
abbrev S32768x128 : Shape := ⟨2, ![32768, 128]⟩
abbrev S512x512 : Shape := ⟨2, ![512, 512]⟩
abbrev S1x1x1024 : Shape := ⟨3, ![1, 1, 1024]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 20
  | .vmem => 35
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x5632, .bf16⟩
  | .hbm, ⟨3, _⟩ => ⟨S32768x1024, .f32⟩
  | .hbm, ⟨4, _⟩ => ⟨S16x1x1024, .f32⟩
  | .hbm, ⟨5, _⟩ => ⟨S16x1x1024, .f32⟩
  | .hbm, ⟨6, _⟩ => ⟨S16x1x1024, .f32⟩
  | .hbm, ⟨7, _⟩ => ⟨S1x1024, .f32⟩
  | .hbm, ⟨8, _⟩ => ⟨S1x1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1024x128, .f32⟩
  | .hbm, ⟨13, _⟩ => ⟨S1x128, .f32⟩
  | .hbm, ⟨14, _⟩ => ⟨S32768x1024, .f32⟩
  | .hbm, ⟨15, _⟩ => ⟨S32768x1024, .f32⟩
  | .hbm, ⟨16, _⟩ => ⟨S32768x128, .i32⟩
  | .hbm, ⟨17, _⟩ => ⟨S32768x128, .f32⟩
  | .hbm, ⟨18, _⟩ => ⟨S32768x128, .i32⟩
  | .hbm, ⟨19, _⟩ => ⟨S1x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1x1024, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1024x128, .f32⟩
  | .local _ .vmem, ⟨22, _⟩ => ⟨S1x128, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x128, .i32⟩
  | .local _ .vmem, ⟨28, _⟩ => ⟨S512x128, .i32⟩
  | .local _ .vmem, ⟨29, _⟩ => ⟨S512x128, .f32⟩
  | .local _ .vmem, ⟨30, _⟩ => ⟨S512x128, .f32⟩
  | .local _ .vmem, ⟨31, _⟩ => ⟨S512x128, .i32⟩
  | .local _ .vmem, ⟨32, _⟩ => ⟨S512x128, .i32⟩
  | .local _ .vmem, ⟨33, _⟩ => ⟨S1x128, .f32⟩
  | .local _ .vmem, ⟨34, _⟩ => ⟨S1x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .i32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceIdeal.lean ====
abbrev S32768x512 : Shape := ⟨2, ![32768, 512]⟩
abbrev S32768x5632 : Shape := ⟨2, ![32768, 5632]⟩
abbrev S32768x1024 : Shape := ⟨2, ![32768, 1024]⟩
abbrev S16x1x1024 : Shape := ⟨3, ![16, 1, 1024]⟩
abbrev S1x1024 : Shape := ⟨2, ![1, 1024]⟩
abbrev S512x1024 : Shape := ⟨2, ![512, 1024]⟩
abbrev S1024x1024 : Shape := ⟨2, ![1024, 1024]⟩
abbrev S1024x128 : Shape := ⟨2, ![1024, 128]⟩
abbrev S1x128 : Shape := ⟨2, ![1, 128]⟩
abbrev S_ : Shape := ⟨0, ![]⟩
abbrev S16x2048x1024 : Shape := ⟨3, ![16, 2048, 1024]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 91
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x5632, .bf16⟩
  | .hbm, ⟨3, _⟩ => ⟨S32768x1024, .f32⟩
  | .hbm, ⟨4, _⟩ => ⟨S16x1x1024, .f32⟩
  | .hbm, ⟨5, _⟩ => ⟨S16x1x1024, .f32⟩
  | .hbm, ⟨6, _⟩ => ⟨S16x1x1024, .f32⟩
  | .hbm, ⟨7, _⟩ => ⟨S1x1024, .f32⟩
  | .hbm, ⟨8, _⟩ => ⟨S1x1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1024x128, .f32⟩
  | .hbm, ⟨13, _⟩ => ⟨S1x128, .f32⟩
  | .hbm, ⟨14, _⟩ => ⟨S32768x1024, .bf16⟩
  | .hbm, ⟨15, _⟩ => ⟨S32768x1024, .f32⟩
  | .hbm, ⟨16, _⟩ => ⟨S32768x1024, .bf16⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S32768x512, .f32⟩
  | .hbm, ⟨27, _⟩ => ⟨S512x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x512, .f32⟩
  | .hbm, ⟨39, _⟩ => ⟨S512x1024, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S1024x1024, .f32⟩
  | .hbm, ⟨44, _⟩ => ⟨S32768x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S_, .f32⟩
  | .hbm, ⟨49, _⟩ => ⟨S16x2048, .f32⟩
  | .hbm, ⟨50, _⟩ => ⟨S16x2048x1, .f32⟩
  | .hbm, ⟨51, _⟩ => ⟨S_, .f32⟩
  | .hbm, ⟨52, _⟩ => ⟨S16x2048x1, .f32⟩
  | .hbm, ⟨53, _⟩ => ⟨S16x2048x1, .f32⟩
  | .hbm, ⟨54, _⟩ => ⟨S_, .f32⟩
  | .hbm, ⟨55, _⟩ => ⟨S16x2048x1, .f32⟩
  | .hbm, ⟨56, _⟩ => ⟨S16x2048x1, .f32⟩
  | .hbm, ⟨57, _⟩ => ⟨S16x2048x1, .f32⟩
  | .hbm, ⟨58, _⟩ => ⟨S16x2048x1024, .f32⟩
  | .hbm, ⟨59, _⟩ => ⟨S16x2048x1024, .f32⟩
  | .hbm, ⟨60, _⟩ => ⟨S1x1x1024, .f32⟩
  | .hbm, ⟨61, _⟩ => ⟨S16x2048x1024, .f32⟩
  | .hbm, ⟨62, _⟩ => ⟨S16x2048x1024, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | .hbm, ⟨66, _⟩ => ⟨S16x2048x1024, .f32⟩
  | .hbm, ⟨67, _⟩ => ⟨S_, .f32⟩
  | .hbm, ⟨68, _⟩ => ⟨S16x2048, .f32⟩
  | .hbm, ⟨69, _⟩ => ⟨S16x2048x1, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S_, .f32⟩
  | .hbm, ⟨74, _⟩ => ⟨S16x2048x1, .f32⟩
  | .hbm, ⟨75, _⟩ => ⟨S16x2048x1, .f32⟩
  | .hbm, ⟨76, _⟩ => ⟨S16x2048x1, .f32⟩
  | .hbm, ⟨77, _⟩ => ⟨S16x2048x1024, .f32⟩
  | .hbm, ⟨78, _⟩ => ⟨S16x2048x1024, .f32⟩
  | .hbm, ⟨79, _⟩ => ⟨S1x1x1024, .f32⟩
  | .hbm, ⟨80, _⟩ => ⟨S16x2048x1024, .f32⟩
  | .hbm, ⟨81, _⟩ => ⟨S16x2048x1024, .f32⟩
  | .hbm, ⟨82, _⟩ => ⟨S_, .f32⟩
  | .hbm, ⟨83, _⟩ => ⟨S16x1x1024, .f32⟩
  | .hbm, ⟨84, _⟩ => ⟨S16x1x1024, .f32⟩
  | .hbm, ⟨85, _⟩ => ⟨S16x2048x1024, .f32⟩
  | .hbm, ⟨86, _⟩ => ⟨S16x2048x1024, .f32⟩
  | .hbm, ⟨87, _⟩ => ⟨S16x2048x1024, .f32⟩
  | .hbm, ⟨88, _⟩ => ⟨S16x2048x1024, .f32⟩
  | .hbm, ⟨89, _⟩ => ⟨S32768x1024, .f32⟩
  | .hbm, ⟨90, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩

abbrev nD : Nat := 1
abbrev τ : Topo := Topo.v7x

variable {F : FTy → Type} [FloatOps F]
-- ==== Kernel2.lean ====
abbrev S32768x1024 : Shape := ⟨2, ![32768, 1024]⟩
abbrev S1x1024 : Shape := ⟨2, ![1, 1024]⟩
abbrev S16x1x1024 : Shape := ⟨3, ![16, 1, 1024]⟩
abbrev S1024x5632 : Shape := ⟨2, ![1024, 5632]⟩
abbrev S1x5632 : Shape := ⟨2, ![1, 5632]⟩
abbrev S32768x5632 : Shape := ⟨2, ![32768, 5632]⟩
abbrev S1024x1024 : Shape := ⟨2, ![1024, 1024]⟩
abbrev S1x1x1024 : Shape := ⟨3, ![1, 1, 1024]⟩
abbrev S1024x1408 : Shape := ⟨2, ![1024, 1408]⟩
abbrev S1x1408 : Shape := ⟨2, ![1, 1408]⟩
abbrev S1024 : Shape := ⟨1, ![1024]⟩
abbrev S1024x1 : Shape := ⟨2, ![1024, 1]⟩

abbrev nBuf : Space → Nat
  | .hbm => 7
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S16x1x1024, .f32⟩
  | .hbm, ⟨3, _⟩ => ⟨S16x1x1024, .f32⟩
  | .hbm, ⟨4, _⟩ => ⟨S1024x5632, .bf16⟩
  | .hbm, ⟨5, _⟩ => ⟨S1x5632, .f32⟩
  | .hbm, ⟨6, _⟩ => ⟨S32768x5632, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1408, .bf16⟩
  | .local _ .vmem, ⟨8, _⟩ => ⟨S1024x1408, .bf16⟩
  | .local _ .vmem, ⟨9, _⟩ => ⟨S1x1408, .f32⟩
  | .local _ .vmem, ⟨10, _⟩ => ⟨S1x1408, .f32⟩
  | .local _ .vmem, ⟨11, _⟩ => ⟨S1024x1408, .bf16⟩
  | .local _ .vmem, ⟨12, _⟩ => ⟨S1024x1408, .bf16⟩
  | .local _ .vmem, ⟨13, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S32768x1024 : Shape := ⟨2, ![32768, 1024]⟩
abbrev S1x1024 : Shape := ⟨2, ![1, 1024]⟩
abbrev S16x1x1024 : Shape := ⟨3, ![16, 1, 1024]⟩
abbrev S1024x5632 : Shape := ⟨2, ![1024, 5632]⟩
abbrev S1x5632 : Shape := ⟨2, ![1, 5632]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S32768x5632 : Shape := ⟨2, ![32768, 5632]⟩

abbrev nBuf : Space → Nat
  | .hbm => 36
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S16x1x1024, .f32⟩
  | .hbm, ⟨3, _⟩ => ⟨S16x1x1024, .f32⟩
  | .hbm, ⟨4, _⟩ => ⟨S1024x5632, .bf16⟩
  | .hbm, ⟨5, _⟩ => ⟨S1x5632, .f32⟩
  | .hbm, ⟨6, _⟩ => ⟨S16x2048x1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S_, .f32⟩
  | .hbm, ⟨24, _⟩ => ⟨S16x1x1024, .f32⟩
  | .hbm, ⟨25, _⟩ => ⟨S16x1x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S32768x1024, .f32⟩
  | .hbm, ⟨31, _⟩ => ⟨S1024x5632, .f32⟩
  | .hbm, ⟨32, _⟩ => ⟨S32768x5632, .f32⟩
  | .hbm, ⟨33, _⟩ => ⟨S32768x5632, .f32⟩
  | .hbm, ⟨34, _⟩ => ⟨S32768x5632, .f32⟩
  | .hbm, ⟨35, _⟩ => ⟨S32768x5632, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel3.lean ====
abbrev S544 : Shape := ⟨1, ![544]⟩
abbrev S1 : Shape := ⟨1, ![1]⟩
abbrev S139264x1024 : Shape := ⟨2, ![139264, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S256x2048 : Shape := ⟨2, ![256, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 6
  | .vmem => 12
  | .smem => 2
  | _ => 0

abbrev bufTy : (tb : Table) → Fin (tcTables nBuf tb) → BufTy
  | .hbm, ⟨0, _⟩ => ⟨S139264x1024, .f32⟩
  | .hbm, ⟨1, _⟩ => ⟨S32x1024x2048, .bf16⟩
  | .hbm, ⟨2, _⟩ => ⟨S32x1x2048, .f32⟩
  | .hbm, ⟨3, _⟩ => ⟨S32x1024x1024, .bf16⟩
  | .hbm, ⟨4, _⟩ => ⟨S32x1x1024, .f32⟩
  | .hbm, ⟨5, _⟩ => ⟨S139264x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .smem, ⟨0, _⟩ => ⟨S544, .i32⟩
  | .local _ .smem, ⟨1, _⟩ => ⟨S1, .i32⟩
  | _, _ => ⟨S139264x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S544 : Shape := ⟨1, ![544]⟩
abbrev S1 : Shape := ⟨1, ![1]⟩
abbrev S139264x1024 : Shape := ⟨2, ![139264, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S544x256x1024 : Shape := ⟨3, ![544, 256, 1024]⟩
abbrev S_ : Shape := ⟨0, ![]⟩
abbrev S544x1 : Shape := ⟨2, ![544, 1]⟩
abbrev S544x1024x2048 : Shape := ⟨3, ![544, 1024, 2048]⟩
abbrev S544x256x2048 : Shape := ⟨3, ![544, 256, 2048]⟩
abbrev S544x1x2048 : Shape := ⟨3, ![544, 1, 2048]⟩
abbrev S544x1024x1024 : Shape := ⟨3, ![544, 1024, 1024]⟩
abbrev S544x1x1024 : Shape := ⟨3, ![544, 1, 1024]⟩
abbrev S544x1x1 : Shape := ⟨3, ![544, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S544, .i32⟩
  | .hbm, ⟨1, _⟩ => ⟨S1, .i32⟩
  | .hbm, ⟨2, _⟩ => ⟨S139264x1024, .f32⟩
  | .hbm, ⟨3, _⟩ => ⟨S32x1024x2048, .bf16⟩
  | .hbm, ⟨4, _⟩ => ⟨S32x1x2048, .f32⟩
  | .hbm, ⟨5, _⟩ => ⟨S32x1024x1024, .bf16⟩
  | .hbm, ⟨6, _⟩ => ⟨S32x1x1024, .f32⟩
  | .hbm, ⟨7, _⟩ => ⟨S544x256x1024, .f32⟩
  | .hbm, ⟨8, _⟩ => ⟨S32x1024x2048, .f32⟩
  | .hbm, ⟨9, _⟩ => ⟨S_, .i32⟩
  | .hbm, ⟨10, _⟩ => ⟨S544, .i32⟩
  | .hbm, ⟨11, _⟩ => ⟨S544, .i1⟩
  | .hbm, ⟨12, _⟩ => ⟨S_, .i32⟩
  | .hbm, ⟨13, _⟩ => ⟨S544, .i32⟩
  | .hbm, ⟨14, _⟩ => ⟨S544, .i32⟩
  | .hbm, ⟨15, _⟩ => ⟨S544, .i32⟩
  | .hbm, ⟨16, _⟩ => ⟨S544x1, .i32⟩
  | .hbm, ⟨17, _⟩ => ⟨S544x1024x2048, .f32⟩
  | .hbm, ⟨18, _⟩ => ⟨S544x256x2048, .f32⟩
  | .hbm, ⟨19, _⟩ => ⟨S_, .i32⟩
  | .hbm, ⟨20, _⟩ => ⟨S544, .i32⟩
  | .hbm, ⟨21, _⟩ => ⟨S544, .i1⟩
  | .hbm, ⟨22, _⟩ => ⟨S_, .i32⟩
  | .hbm, ⟨23, _⟩ => ⟨S544, .i32⟩
  | .hbm, ⟨24, _⟩ => ⟨S544, .i32⟩
  | .hbm, ⟨25, _⟩ => ⟨S544, .i32⟩
  | .hbm, ⟨26, _⟩ => ⟨S544x1, .i32⟩
  | .hbm, ⟨27, _⟩ => ⟨S544x1x2048, .f32⟩
  | .hbm, ⟨28, _⟩ => ⟨S544x256x2048, .f32⟩
  | .hbm, ⟨29, _⟩ => ⟨S544x256x2048, .f32⟩
  | .hbm, ⟨30, _⟩ => ⟨S544x256x1024, .f32⟩
  | .hbm, ⟨31, _⟩ => ⟨S_, .f32⟩
  | .hbm, ⟨32, _⟩ => ⟨S544x256x1024, .f32⟩
  | .hbm, ⟨33, _⟩ => ⟨S544x256x1024, .f32⟩
  | .hbm, ⟨34, _⟩ => ⟨S544x256x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S544x256x1024, .f32⟩
  | .hbm, ⟨39, _⟩ => ⟨S544x256x1024, .f32⟩
  | .hbm, ⟨40, _⟩ => ⟨S_, .f32⟩
  | .hbm, ⟨41, _⟩ => ⟨S544x256x1024, .f32⟩
  | .hbm, ⟨42, _⟩ => ⟨S544x256x1024, .f32⟩
  | .hbm, ⟨43, _⟩ => ⟨S_, .f32⟩
  | .hbm, ⟨44, _⟩ => ⟨S544x256x1024, .f32⟩
  | .hbm, ⟨45, _⟩ => ⟨S544x256x1024, .f32⟩
  | .hbm, ⟨46, _⟩ => ⟨S544x256x1024, .f32⟩
  | .hbm, ⟨47, _⟩ => ⟨S_, .f32⟩
  | .hbm, ⟨48, _⟩ => ⟨S544x256x1024, .f32⟩
  | .hbm, ⟨49, _⟩ => ⟨S544x256x1024, .f32⟩
  | .hbm, ⟨50, _⟩ => ⟨S544x256x1024, .f32⟩
  | .hbm, ⟨51, _⟩ => ⟨S544x256x1024, .f32⟩
  | .hbm, ⟨52, _⟩ => ⟨S_, .f32⟩
  | .hbm, ⟨53, _⟩ => ⟨S544x256x1024, .f32⟩
  | .hbm, ⟨54, _⟩ => ⟨S544x256x1024, .f32⟩
  | .hbm, ⟨55, _⟩ => ⟨S_, .f32⟩
  | .hbm, ⟨56, _⟩ => ⟨S544x256x1024, .f32⟩
  | .hbm, ⟨57, _⟩ => ⟨S544x256x1024, .f32⟩
  | .hbm, ⟨58, _⟩ => ⟨S544x256x1024, .f32⟩
  | .hbm, ⟨59, _⟩ => ⟨S32x1024x1024, .f32⟩
  | .hbm, ⟨60, _⟩ => ⟨S_, .i32⟩
  | .hbm, ⟨61, _⟩ => ⟨S544, .i32⟩
  | .hbm, ⟨62, _⟩ => ⟨S544, .i1⟩
  | .hbm, ⟨63, _⟩ => ⟨S_, .i32⟩
  | .hbm, ⟨64, _⟩ => ⟨S544, .i32⟩
  | .hbm, ⟨65, _⟩ => ⟨S544, .i32⟩
  | .hbm, ⟨66, _⟩ => ⟨S544, .i32⟩
  | .hbm, ⟨67, _⟩ => ⟨S544x1, .i32⟩
  | .hbm, ⟨68, _⟩ => ⟨S544x1024x1024, .f32⟩
  | .hbm, ⟨69, _⟩ => ⟨S544x256x1024, .f32⟩
  | .hbm, ⟨70, _⟩ => ⟨S_, .i32⟩
  | .hbm, ⟨71, _⟩ => ⟨S544, .i32⟩
  | .hbm, ⟨72, _⟩ => ⟨S544, .i1⟩
  | .hbm, ⟨73, _⟩ => ⟨S_, .i32⟩
  | .hbm, ⟨74, _⟩ => ⟨S544, .i32⟩
  | .hbm, ⟨75, _⟩ => ⟨S544, .i32⟩
  | .hbm, ⟨76, _⟩ => ⟨S544, .i32⟩
  | .hbm, ⟨77, _⟩ => ⟨S544x1, .i32⟩
  | .hbm, ⟨78, _⟩ => ⟨S544x1x1024, .f32⟩
  | .hbm, ⟨79, _⟩ => ⟨S544x256x1024, .f32⟩
  | .hbm, ⟨80, _⟩ => ⟨S544x256x1024, .f32⟩
  | .hbm, ⟨81, _⟩ => ⟨S544, .i32⟩
  | .hbm, ⟨82, _⟩ => ⟨S_, .i32⟩
  | .hbm, ⟨83, _⟩ => ⟨S544, .i32⟩
  | .hbm, ⟨84, _⟩ => ⟨S544, .i1⟩
  | .hbm, ⟨85, _⟩ => ⟨S544x1x1, .i1⟩
  | .hbm, ⟨86, _⟩ => ⟨S_, .f32⟩
  | .hbm, ⟨87, _⟩ => ⟨S_, .f32⟩
  | .hbm, ⟨88, _⟩ => ⟨S544x256x1024, .i1⟩
  | .hbm, ⟨89, _⟩ => ⟨S544x256x1024, .f32⟩
  | .hbm, ⟨90, _⟩ => ⟨S544x256x1024, .f32⟩
  | .hbm, ⟨91, _⟩ => ⟨S139264x1024, .f32⟩
  | _, _ => ⟨S544, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Kernel4.lean ====
abbrev S32768x1024 : Shape := ⟨2, ![32768, 1024]⟩
abbrev S1x1024 : Shape := ⟨2, ![1, 1024]⟩
abbrev S16x1x1024 : Shape := ⟨3, ![16, 1, 1024]⟩
abbrev S1024x1152 : Shape := ⟨2, ![1024, 1152]⟩
abbrev S1x1152 : Shape := ⟨2, ![1, 1152]⟩
abbrev S32768x1152 : Shape := ⟨2, ![32768, 1152]⟩
abbrev S1024x1024 : Shape := ⟨2, ![1024, 1024]⟩
abbrev S1x1x1024 : Shape := ⟨3, ![1, 1, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S16x1x1024, .f32⟩
  | .hbm, ⟨3, _⟩ => ⟨S16x1x1024, .f32⟩
  | .hbm, ⟨4, _⟩ => ⟨S1024x1152, .bf16⟩
  | .hbm, ⟨5, _⟩ => ⟨S1x1152, .f32⟩
  | .hbm, ⟨6, _⟩ => ⟨S32768x1152, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1152, .bf16⟩
  | .local _ .vmem, ⟨8, _⟩ => ⟨S1x1152, .f32⟩
  | .local _ .vmem, ⟨9, _⟩ => ⟨S1024x1152, .f32⟩
  | .local _ .vmem, ⟨10, _⟩ => ⟨S1024x1152, .f32⟩
  | .local _ .vmem, ⟨11, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x1152 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S1024x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S32768x1024 : Shape := ⟨2, ![32768, 1024]⟩
abbrev S1x1024 : Shape := ⟨2, ![1, 1024]⟩
abbrev S16x1x1024 : Shape := ⟨3, ![16, 1, 1024]⟩
abbrev S1024x1152 : Shape := ⟨2, ![1024, 1152]⟩
abbrev S1x1152 : Shape := ⟨2, ![1, 1152]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S32768x1152 : Shape := ⟨2, ![32768, 1152]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S16x1x1024, .f32⟩
  | .hbm, ⟨3, _⟩ => ⟨S16x1x1024, .f32⟩
  | .hbm, ⟨4, _⟩ => ⟨S1024x1152, .bf16⟩
  | .hbm, ⟨5, _⟩ => ⟨S1x1152, .f32⟩
  | .hbm, ⟨6, _⟩ => ⟨S16x2048x1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S_, .f32⟩
  | .hbm, ⟨24, _⟩ => ⟨S16x1x1024, .f32⟩
  | .hbm, ⟨25, _⟩ => ⟨S16x1x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S32768x1024, .f32⟩
  | .hbm, ⟨31, _⟩ => ⟨S1024x1152, .f32⟩
  | .hbm, ⟨32, _⟩ => ⟨S32768x1152, .f32⟩
  | .hbm, ⟨33, _⟩ => ⟨S32768x1152, .f32⟩
  | .hbm, ⟨34, _⟩ => ⟨S32768x1152, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel5.lean ====
abbrev S139264x1024 : Shape := ⟨2, ![139264, 1024]⟩
abbrev S131072 : Shape := ⟨1, ![131072]⟩
abbrev S32768x128 : Shape := ⟨2, ![32768, 128]⟩
abbrev S32768x1024 : Shape := ⟨2, ![32768, 1024]⟩
abbrev S16x1x1024 : Shape := ⟨3, ![16, 1, 1024]⟩
abbrev S1x1024 : Shape := ⟨2, ![1, 1024]⟩
abbrev S128x1x1024 : Shape := ⟨3, ![128, 1, 1024]⟩
abbrev S1x1x1024 : Shape := ⟨3, ![1, 1, 1024]⟩
abbrev S256x128 : Shape := ⟨2, ![256, 128]⟩
abbrev S256x1024 : Shape := ⟨2, ![256, 1024]⟩
abbrev S4x256x1024 : Shape := ⟨3, ![4, 256, 1024]⟩
abbrev S_ : Shape := ⟨0, ![]⟩
abbrev S1x1x1 : Shape := ⟨3, ![1, 1, 1]⟩
abbrev S1x256x1024 : Shape := ⟨3, ![1, 256, 1024]⟩
abbrev S256x1 : Shape := ⟨2, ![256, 1]⟩
abbrev S256 : Shape := ⟨1, ![256]⟩

abbrev nBuf : Space → Nat
  | .hbm => 8
  | .vmem => 10
  | .smem => 2
  | _ => 0

abbrev bufTy : (tb : Table) → Fin (tcTables nBuf tb) → BufTy
  | .hbm, ⟨0, _⟩ => ⟨S139264x1024, .f32⟩
  | .hbm, ⟨1, _⟩ => ⟨S131072, .i32⟩
  | .hbm, ⟨2, _⟩ => ⟨S32768x128, .f32⟩
  | .hbm, ⟨3, _⟩ => ⟨S32768x1024, .f32⟩
  | .hbm, ⟨4, _⟩ => ⟨S16x1x1024, .f32⟩
  | .hbm, ⟨5, _⟩ => ⟨S1x1024, .f32⟩
  | .hbm, ⟨6, _⟩ => ⟨S128x1x1024, .i32⟩
  | .hbm, ⟨7, _⟩ => ⟨S32768x1024, .f32⟩
  | .local _ .vmem, ⟨0, _⟩ => ⟨S256x128, .f32⟩
  | .local _ .vmem, ⟨1, _⟩ => ⟨S256x128, .f32⟩
  | .local _ .vmem, ⟨2, _⟩ => ⟨S256x1024, .f32⟩
  | .local _ .vmem, ⟨3, _⟩ => ⟨S256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S4x256x1024, .f32⟩
  | .local _ .smem, ⟨0, _⟩ => ⟨S1x1x1024, .i32⟩
  | .local _ .smem, ⟨1, _⟩ => ⟨S1x1x1024, .i32⟩
  | _, _ => ⟨S139264x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 3 → Nat :=
  let c0_26 : Index := 0#32
  let c0_27 : Index := 0#32
  let c0_i32 : BitVec 32 := 0#32
  let c1_i32 : BitVec 32 := 1#32
  let arg10 : BitVec 32 := Scf.iv c0_i32 c1_i32 k0_t1
  let c4_i32 : BitVec 32 := 4#32
  let v46 : BitVec 32 := Scalar.muli arg10 c4_i32
  let c0_i32_25 : BitVec 32 := 0#32
  let v47 : BitVec 32 := Scalar.addi v46 c0_i32_25
  let v48 : Index := Scalar.indexCast v47
  ![0, 0, v48.toNat]
def k0_off2 (k0_t1 : Fin k0_t1_loop.trips) : Fin 3 → Nat :=
  let c0_i32_28 : BitVec 32 := 0#32
  let c0_i32 : BitVec 32 := 0#32
  let c1_i32 : BitVec 32 := 1#32
  let arg10 : BitVec 32 := Scf.iv c0_i32 c1_i32 k0_t1
  let c0_i32_29 : BitVec 32 := 0#32
  ![0, arg10.toNat, 0]
def k0_off3 (v49 : BitVec 32) : Fin 2 → Nat :=
  let c0_i32_30 : BitVec 32 := 0#32
  ![v49.toNat, 0]

def k0_chk1 (v49 : BitVec 32) : Prop :=
  (∀ a, (k0_off3 v49) a + S1x1024.size a ≤ S139264x1024.size a)
theorem k0_off3_inb : ∀ (v49 : BitVec 32) (k0_hw1 : k0_chk1 v49), ∀ a, (k0_off3 v49) a + S1x1024.size a ≤ S139264x1024.size a := fun v49 k0_hw1 => k0_hw1

def k0_off4 (k0_t1 : Fin k0_t1_loop.trips) : Fin 3 → Nat :=
  let c0_33 : Index := 0#32
  let c0_34 : Index := 0#32
  let c0_i32 : BitVec 32 := 0#32
  let c1_i32 : BitVec 32 := 1#32
  let arg10 : BitVec 32 := Scf.iv c0_i32 c1_i32 k0_t1
  let c4_i32_31 : BitVec 32 := 4#32
  let v53 : BitVec 32 := Scalar.muli arg10 c4_i32_31
  let c1_i32_32 : BitVec 32 := 1#32
  let v54 : BitVec 32 := Scalar.addi v53 c1_i32_32
  let v55 : Index := Scalar.indexCast v54
  ![0, 0, v55.toNat]
def k0_off5 (k0_t1 : Fin k0_t1_loop.trips) : Fin 3 → Nat :=
  let c1_i32_35 : BitVec 32 := 1#32
  let c0_i32 : BitVec 32 := 0#32
  let c1_i32 : BitVec 32 := 1#32
  let arg10 : BitVec 32 := Scf.iv c0_i32 c1_i32 k0_t1
  let c0_i32_36 : BitVec 32 := 0#32
  ![1, arg10.toNat, 0]
def k0_off6 (v56 : BitVec 32) : Fin 2 → Nat :=
  let c0_i32_37 : BitVec 32 := 0#32
  ![v56.toNat, 0]

def k0_chk2 (v56 : BitVec 32) : Prop :=
  (∀ a, (k0_off6 v56) a + S1x1024.size a ≤ S139264x1024.size a)
theorem k0_off6_inb : ∀ (v56 : BitVec 32) (k0_hw2 : k0_chk2 v56), ∀ a, (k0_off6 v56) a + S1x1024.size a ≤ S139264x1024.size a := fun v56 k0_hw2 => k0_hw2

def k0_off7 (k0_t1 : Fin k0_t1_loop.trips) : Fin 3 → Nat :=
  let c0_39 : Index := 0#32
  let c0_40 : Index := 0#32
  let c0_i32 : BitVec 32 := 0#32
  let c1_i32 : BitVec 32 := 1#32
  let arg10 : BitVec 32 := Scf.iv c0_i32 c1_i32 k0_t1
  let c4_i32_38 : BitVec 32 := 4#32
  let v60 : BitVec 32 := Scalar.muli arg10 c4_i32_38
  let c2_i32 : BitVec 32 := 2#32
  let v61 : BitVec 32 := Scalar.addi v60 c2_i32
  let v62 : Index := Scalar.indexCast v61
  ![0, 0, v62.toNat]
def k0_off8 (k0_t1 : Fin k0_t1_loop.trips) : Fin 3 → Nat :=
  let c2_i32_41 : BitVec 32 := 2#32
  let c0_i32 : BitVec 32 := 0#32
  let c1_i32 : BitVec 32 := 1#32
  let arg10 : BitVec 32 := Scf.iv c0_i32 c1_i32 k0_t1
  let c0_i32_42 : BitVec 32 := 0#32
  ![2, arg10.toNat, 0]
def k0_off9 (v63 : BitVec 32) : Fin 2 → Nat :=
  let c0_i32_43 : BitVec 32 := 0#32
  ![v63.toNat, 0]

def k0_chk3 (v63 : BitVec 32) : Prop :=
  (∀ a, (k0_off9 v63) a + S1x1024.size a ≤ S139264x1024.size a)
theorem k0_off9_inb : ∀ (v63 : BitVec 32) (k0_hw3 : k0_chk3 v63), ∀ a, (k0_off9 v63) a + S1x1024.size a ≤ S139264x1024.size a := fun v63 k0_hw3 => k0_hw3

def k0_off10 (k0_t1 : Fin k0_t1_loop.trips) : Fin 3 → Nat :=
  let c0_45 : Index := 0#32
  let c0_46 : Index := 0#32
  let c0_i32 : BitVec 32 := 0#32
  let c1_i32 : BitVec 32 := 1#32
  let arg10 : BitVec 32 := Scf.iv c0_i32 c1_i32 k0_t1
  let c4_i32_44 : BitVec 32 := 4#32
  let v67 : BitVec 32 := Scalar.muli arg10 c4_i32_44
  let c3_i32 : BitVec 32 := 3#32
  let v68 : BitVec 32 := Scalar.addi v67 c3_i32
  let v69 : Index := Scalar.indexCast v68
  ![0, 0, v69.toNat]
def k0_off11 (k0_t1 : Fin k0_t1_loop.trips) : Fin 3 → Nat :=
  let c3_i32_47 : BitVec 32 := 3#32
  let c0_i32 : BitVec 32 := 0#32
  let c1_i32 : BitVec 32 := 1#32
  let arg10 : BitVec 32 := Scf.iv c0_i32 c1_i32 k0_t1
  let c0_i32_48 : BitVec 32 := 0#32
  ![3, arg10.toNat, 0]
def k0_off12 (v70 : BitVec 32) : Fin 2 → Nat :=
  let c0_i32_49 : BitVec 32 := 0#32
  ![v70.toNat, 0]

def k0_chk4 (v70 : BitVec 32) : Prop :=
  (∀ a, (k0_off12 v70) a + S1x1024.size a ≤ S139264x1024.size a)
theorem k0_off12_inb : ∀ (v70 : BitVec 32) (k0_hw4 : k0_chk4 v70), ∀ a, (k0_off12 v70) a + S1x1024.size a ≤ S139264x1024.size a := fun v70 k0_hw4 => k0_hw4

@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S139264x1024 : Shape := ⟨2, ![139264, 1024]⟩
abbrev S131072 : Shape := ⟨1, ![131072]⟩
abbrev S32768x128 : Shape := ⟨2, ![32768, 128]⟩
abbrev S32768x1024 : Shape := ⟨2, ![32768, 1024]⟩
abbrev S16x1x1024 : Shape := ⟨3, ![16, 1, 1024]⟩
abbrev S1x1024 : Shape := ⟨2, ![1, 1024]⟩
abbrev S_ : Shape := ⟨0, ![]⟩
abbrev S131072x1 : Shape := ⟨2, ![131072, 1]⟩
abbrev S131072x1024 : Shape := ⟨2, ![131072, 1024]⟩
abbrev S32768x4x1024 : Shape := ⟨3, ![32768, 4, 1024]⟩
abbrev S32768x4 : Shape := ⟨2, ![32768, 4]⟩
abbrev S32768x4x1 : Shape := ⟨3, ![32768, 4, 1]⟩
abbrev S16x2048x1024 : Shape := ⟨3, ![16, 2048, 1024]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S139264x1024, .f32⟩
  | .hbm, ⟨1, _⟩ => ⟨S131072, .i32⟩
  | .hbm, ⟨2, _⟩ => ⟨S32768x128, .f32⟩
  | .hbm, ⟨3, _⟩ => ⟨S32768x1024, .f32⟩
  | .hbm, ⟨4, _⟩ => ⟨S16x1x1024, .f32⟩
  | .hbm, ⟨5, _⟩ => ⟨S1x1024, .f32⟩
  | .hbm, ⟨6, _⟩ => ⟨S_, .i32⟩
  | .hbm, ⟨7, _⟩ => ⟨S131072, .i32⟩
  | .hbm, ⟨8, _⟩ => ⟨S131072, .i1⟩
  | .hbm, ⟨9, _⟩ => ⟨S_, .i32⟩
  | .hbm, ⟨10, _⟩ => ⟨S131072, .i32⟩
  | .hbm, ⟨11, _⟩ => ⟨S131072, .i32⟩
  | .hbm, ⟨12, _⟩ => ⟨S131072, .i32⟩
  | .hbm, ⟨13, _⟩ => ⟨S131072x1, .i32⟩
  | .hbm, ⟨14, _⟩ => ⟨S131072x1024, .f32⟩
  | .hbm, ⟨15, _⟩ => ⟨S32768x4x1024, .f32⟩
  | .hbm, ⟨16, _⟩ => ⟨S32768x4, .f32⟩
  | .hbm, ⟨17, _⟩ => ⟨S32768x4x1, .f32⟩
  | .hbm, ⟨18, _⟩ => ⟨S32768x4x1024, .f32⟩
  | .hbm, ⟨19, _⟩ => ⟨S32768x4x1024, .f32⟩
  | .hbm, ⟨20, _⟩ => ⟨S_, .f32⟩
  | .hbm, ⟨21, _⟩ => ⟨S32768x1024, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | .hbm, ⟨25, _⟩ => ⟨S_, .f32⟩
  | .hbm, ⟨26, _⟩ => ⟨S16x2048, .f32⟩
  | .hbm, ⟨27, _⟩ => ⟨S16x2048x1, .f32⟩
  | .hbm, ⟨28, _⟩ => ⟨S_, .f32⟩
  | .hbm, ⟨29, _⟩ => ⟨S16x2048x1, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S16x2048x1, .f32⟩
  | .hbm, ⟨35, _⟩ => ⟨S16x2048x1024, .f32⟩
  | .hbm, ⟨36, _⟩ => ⟨S16x2048x1024, .f32⟩
  | .hbm, ⟨37, _⟩ => ⟨S1x1x1024, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S16x2048x1024, .f32⟩
  | .hbm, ⟨43, _⟩ => ⟨S32768x1024, .f32⟩
  | _, _ => ⟨S139264x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel6.lean ====
abbrev S32768x5632 : Shape := ⟨2, ![32768, 5632]⟩
abbrev S16x1024 : Shape := ⟨2, ![16, 1024]⟩
abbrev S32768x1024 : Shape := ⟨2, ![32768, 1024]⟩
abbrev S2048x256 : Shape := ⟨2, ![2048, 256]⟩
abbrev S16x256 : Shape := ⟨2, ![16, 256]⟩
abbrev S1x256 : Shape := ⟨2, ![1, 256]⟩
abbrev S64x256 : Shape := ⟨2, ![64, 256]⟩
abbrev S1984x256 : Shape := ⟨2, ![1984, 256]⟩

abbrev nBuf : Space → Nat
  | .hbm => 3
  | .vmem => 6
  | .smem => 0
  | _ => 0

abbrev bufTy : (tb : Table) → Fin (tcTables nBuf tb) → BufTy
  | .hbm, ⟨0, _⟩ => ⟨S32768x5632, .bf16⟩
  | .hbm, ⟨1, _⟩ => ⟨S16x1024, .f32⟩
  | .hbm, ⟨2, _⟩ => ⟨S32768x1024, .bf16⟩
  | .local _ .vmem, ⟨0, _⟩ => ⟨S2048x256, .bf16⟩
  | .local _ .vmem, ⟨1, _⟩ => ⟨S2048x256, .bf16⟩
  | .local _ .vmem, ⟨2, _⟩ => ⟨S16x256, .f32⟩
  | .local _ .vmem, ⟨3, _⟩ => ⟨S16x256, .f32⟩
  | .local _ .vmem, ⟨4, _⟩ => ⟨S2048x256, .bf16⟩
  | .local _ .vmem, ⟨5, _⟩ => ⟨S2048x256, .bf16⟩
  | _, _ => ⟨S32768x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S32768x5632 : Shape := ⟨2, ![32768, 5632]⟩
abbrev S16x1024 : Shape := ⟨2, ![16, 1024]⟩
abbrev S32768x1024 : Shape := ⟨2, ![32768, 1024]⟩
abbrev S16x32x64x1024 : Shape := ⟨4, ![16, 32, 64, 1024]⟩
abbrev S_ : Shape := ⟨0, ![]⟩
abbrev S16x34x66x1024 : Shape := ⟨4, ![16, 34, 66, 1024]⟩
abbrev S1x1024 : Shape := ⟨2, ![1, 1024]⟩
abbrev S1024 : Shape := ⟨1, ![1024]⟩
abbrev S1x1x1x1024 : Shape := ⟨4, ![1, 1, 1, 1024]⟩
abbrev S32768x512 : Shape := ⟨2, ![32768, 512]⟩

abbrev nBuf : Space → Nat
  | .hbm => 90
  | .vmem => 0
  | .smem => 0
  | _ => 0

abbrev bufTy : (tb : Table) → Fin (tcTables nBuf tb) → BufTy
  | .hbm, ⟨0, _⟩ => ⟨S32768x5632, .bf16⟩
  | .hbm, ⟨1, _⟩ => ⟨S16x1024, .f32⟩
  | .hbm, ⟨2, _⟩ => ⟨S32768x1024, .bf16⟩
  | .hbm, ⟨3, _⟩ => ⟨S32768x1024, .f32⟩
  | .hbm, ⟨4, _⟩ => ⟨S16x32x64x1024, .f32⟩
  | .hbm, ⟨5, _⟩ => ⟨S_, .i32⟩
  | .hbm, ⟨6, _⟩ => ⟨S_, .f32⟩
  | .hbm, ⟨7, _⟩ => ⟨S16x34x66x1024, .f32⟩
  | .hbm, ⟨8, _⟩ => ⟨S1x1024, .f32⟩
  | .hbm, ⟨9, _⟩ => ⟨S1024, .f32⟩
  | .hbm, ⟨10, _⟩ => ⟨S16x32x64x1024, .f32⟩
  | .hbm, ⟨11, _⟩ => ⟨S1x1x1x1024, .f32⟩
  | .hbm, ⟨12, _⟩ => ⟨S16x32x64x1024, .f32⟩
  | .hbm, ⟨13, _⟩ => ⟨S16x32x64x1024, .f32⟩
  | .hbm, ⟨14, _⟩ => ⟨S_, .f32⟩
  | .hbm, ⟨15, _⟩ => ⟨S16x32x64x1024, .f32⟩
  | .hbm, ⟨16, _⟩ => ⟨S16x32x64x1024, .f32⟩
  | .hbm, ⟨17, _⟩ => ⟨S1x1024, .f32⟩
  | .hbm, ⟨18, _⟩ => ⟨S1024, .f32⟩
  | .hbm, ⟨19, _⟩ => ⟨S16x32x64x1024, .f32⟩
  | .hbm, ⟨20, _⟩ => ⟨S1x1x1x1024, .f32⟩
  | .hbm, ⟨21, _⟩ => ⟨S16x32x64x1024, .f32⟩
  | .hbm, ⟨22, _⟩ => ⟨S16x32x64x1024, .f32⟩
  | .hbm, ⟨23, _⟩ => ⟨S16x32x64x1024, .f32⟩
  | .hbm, ⟨24, _⟩ => ⟨S1x1024, .f32⟩
  | .hbm, ⟨25, _⟩ => ⟨S1024, .f32⟩
  | .hbm, ⟨26, _⟩ => ⟨S16x32x64x1024, .f32⟩
  | .hbm, ⟨27, _⟩ => ⟨S1x1x1x1024, .f32⟩
  | .hbm, ⟨28, _⟩ => ⟨S16x32x64x1024, .f32⟩
  | .hbm, ⟨29, _⟩ => ⟨S16x32x64x1024, .f32⟩
  | .hbm, ⟨30, _⟩ => ⟨S16x32x64x1024, .f32⟩
  | .hbm, ⟨31, _⟩ => ⟨S1x1024, .f32⟩
  | .hbm, ⟨32, _⟩ => ⟨S1024, .f32⟩
  | .hbm, ⟨33, _⟩ => ⟨S16x32x64x1024, .f32⟩
  | .hbm, ⟨34, _⟩ => ⟨S1x1x1x1024, .f32⟩
  | .hbm, ⟨35, _⟩ => ⟨S16x32x64x1024, .f32⟩
  | .hbm, ⟨36, _⟩ => ⟨S16x32x64x1024, .f32⟩
  | .hbm, ⟨37, _⟩ => ⟨S16x32x64x1024, .f32⟩
  | .hbm, ⟨38, _⟩ => ⟨S1x1024, .f32⟩
  | .hbm, ⟨39, _⟩ => ⟨S1024, .f32⟩
  | .hbm, ⟨40, _⟩ => ⟨S16x32x64x1024, .f32⟩
  | .hbm, ⟨41, _⟩ => ⟨S1x1x1x1024, .f32⟩
  | .hbm, ⟨42, _⟩ => ⟨S16x32x64x1024, .f32⟩
  | .hbm, ⟨43, _⟩ => ⟨S16x32x64x1024, .f32⟩
  | .hbm, ⟨44, _⟩ => ⟨S16x32x64x1024, .f32⟩
  | .hbm, ⟨45, _⟩ => ⟨S1x1024, .f32⟩
  | .hbm, ⟨46, _⟩ => ⟨S1024, .f32⟩
  | .hbm, ⟨47, _⟩ => ⟨S16x32x64x1024, .f32⟩
  | .hbm, ⟨48, _⟩ => ⟨S1x1x1x1024, .f32⟩
  | .hbm, ⟨49, _⟩ => ⟨S16x32x64x1024, .f32⟩
  | .hbm, ⟨50, _⟩ => ⟨S16x32x64x1024, .f32⟩
  | .hbm, ⟨51, _⟩ => ⟨S16x32x64x1024, .f32⟩
  | .hbm, ⟨52, _⟩ => ⟨S1x1024, .f32⟩
  | .hbm, ⟨53, _⟩ => ⟨S1024, .f32⟩
  | .hbm, ⟨54, _⟩ => ⟨S16x32x64x1024, .f32⟩
  | .hbm, ⟨55, _⟩ => ⟨S1x1x1x1024, .f32⟩
  | .hbm, ⟨56, _⟩ => ⟨S16x32x64x1024, .f32⟩
  | .hbm, ⟨57, _⟩ => ⟨S16x32x64x1024, .f32⟩
  | .hbm, ⟨58, _⟩ => ⟨S16x32x64x1024, .f32⟩
  | .hbm, ⟨59, _⟩ => ⟨S1x1024, .f32⟩
  | .hbm, ⟨60, _⟩ => ⟨S1024, .f32⟩
  | .hbm, ⟨61, _⟩ => ⟨S16x32x64x1024, .f32⟩
  | .hbm, ⟨62, _⟩ => ⟨S1x1x1x1024, .f32⟩
  | .hbm, ⟨63, _⟩ => ⟨S16x32x64x1024, .f32⟩
  | .hbm, ⟨64, _⟩ => ⟨S16x32x64x1024, .f32⟩
  | .hbm, ⟨65, _⟩ => ⟨S16x32x64x1024, .f32⟩
  | .hbm, ⟨66, _⟩ => ⟨S1x1024, .f32⟩
  | .hbm, ⟨67, _⟩ => ⟨S1024, .f32⟩
  | .hbm, ⟨68, _⟩ => ⟨S16x32x64x1024, .f32⟩
  | .hbm, ⟨69, _⟩ => ⟨S1x1x1x1024, .f32⟩
  | .hbm, ⟨70, _⟩ => ⟨S16x32x64x1024, .f32⟩
  | .hbm, ⟨71, _⟩ => ⟨S16x32x64x1024, .f32⟩
  | .hbm, ⟨72, _⟩ => ⟨S16x32x64x1024, .f32⟩
  | .hbm, ⟨73, _⟩ => ⟨S32768x1024, .f32⟩
  | .hbm, ⟨74, _⟩ => ⟨S32768x1024, .f32⟩
  | .hbm, ⟨75, _⟩ => ⟨S32768x1024, .f32⟩
  | .hbm, ⟨76, _⟩ => ⟨S_, .f32⟩
  | .hbm, ⟨77, _⟩ => ⟨S32768x1024, .f32⟩
  | .hbm, ⟨78, _⟩ => ⟨S32768x1024, .f32⟩
  | .hbm, ⟨79, _⟩ => ⟨S_, .f32⟩
  | .hbm, ⟨80, _⟩ => ⟨S32768x1024, .f32⟩
  | .hbm, ⟨81, _⟩ => ⟨S32768x1024, .f32⟩
  | .hbm, ⟨82, _⟩ => ⟨S32768x1024, .f32⟩
  | .hbm, ⟨83, _⟩ => ⟨S32768x512, .f32⟩
  | .hbm, ⟨84, _⟩ => ⟨S_, .f32⟩
  | .hbm, ⟨85, _⟩ => ⟨S32768x512, .f32⟩
  | .hbm, ⟨86, _⟩ => ⟨S32768x512, .f32⟩
  | .hbm, ⟨87, _⟩ => ⟨S32768x512, .f32⟩
  | .hbm, ⟨88, _⟩ => ⟨S32768x1024, .f32⟩
  | .hbm, ⟨89, _⟩ => ⟨S32768x1024, .bf16⟩
  | _, _ => ⟨S32768x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_cst_0 : Ref sig .tc := ⟨.hbm, 76, rfl⟩
abbrev main_v71 : Ref sig .tc := ⟨.hbm, 77, rfl⟩
abbrev main_v72 : Ref sig .tc := ⟨.hbm, 78, rfl⟩
abbrev main_cst_1 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_cst_2 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩

abbrev nD : Nat := 1
abbrev τ : Topo := Topo.v7x

variable {F : FTy → Type} [FloatOps F]
-- ==== Proof.Merge.Stored.lean ====
/-
  What one grid point of the gate merge leaves in the staging buffers of `x1` and `h2`: the stored vectors, over the
  point's input blocks. The first point differs from the others only in resetting the carried counts, which neither
  vector reads.
-/
module

public import proofs.«01_k».proof.Proof.Gen.KernelIdeal.Value
public import Idealize.ShloMosaic.Lib.Pipeline.Value
public import Idealize.ShloMosaic.Lib.Tactic

@[expose] public section

set_option maxRecDepth 16384

noncomputable section

namespace Cert.Layer

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The projected block of point `t`. -/
abbrev projBlk (c : Dev nD) (t : Fin cfg0.N) : Vec F S512x1024 .f32 :=
  k0_pay2 (iblk m c 0 t) (iblk m c 10 t) (iblk m c 1 t) (iblk m c 11 t) (X0_2 m c t) (X0_3 m c t) (iblk m c 12 t)

/-- The `x1` block of point `t`. -/
abbrev x1Blk (c : Dev nD) (t : Fin cfg0.N) : Vec F S512x1024 .f32 :=
  k0_pay3 (projBlk m c t) (iblk m c 4 t) (iblk m c 5 t) (iblk m c 8 t)

/-- The `h2` block of point `t`. -/
abbrev h2Blk (c : Dev nD) (t : Fin cfg0.N) : Vec F S512x1024 .f32 :=
  k0_pay6 (k0_pay4 (projBlk m c t) (iblk m c 4 t) (iblk m c 5 t) (iblk m c 8 t) (iblk m c 9 t)) (k0_pay5 (iblk m c 7 t)) (iblk m c 6 t)

theorem x1_A (c : Dev nD) (t : Fin cfg0.N) (h0 : t.val % 64 = 0) :
    (outsAt0 m c t.val t.isLt).1 = x1Blk m c t := by
  rw [outsAt0_A m c t h0]
  dsimp only
  unfold out0_A_15
  rw [View.read_writes_eq_canon _ _ _ (fun y => by exact cover0_A_15 (y := y) ..)]
  unfold kernelRun0_A
  dsimp only
  sl_unfold_words
  rw [View.canon_unit_zero zero2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, View.ld_unit_zero (S := S512x512) zero2, View.ld_unit_zero (S := S512x1024) zero2, View.ld_unit_zero (S := S1024x1024) zero2, View.ld_unit_zero (S := S1x1024) zero2, View.ld_unit_zero (S := S1x1x1024) zero3]

theorem h2_A (c : Dev nD) (t : Fin cfg0.N) (h0 : t.val % 64 = 0) :
    (outsAt0 m c t.val t.isLt).2.1 = h2Blk m c t := by
  rw [outsAt0_A m c t h0]
  dsimp only
  unfold out0_A_16
  rw [View.read_writes_eq_canon _ _ _ (fun y => by exact cover0_A_16 (y := y) ..)]
  unfold kernelRun0_A
  dsimp only
  sl_unfold_words
  rw [View.canon_unit_zero zero2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, View.ld_unit_zero (S := S512x512) zero2, View.ld_unit_zero (S := S512x1024) zero2, View.ld_unit_zero (S := S1024x1024) zero2, View.ld_unit_zero (S := S1x1024) zero2, View.ld_unit_zero (S := S1x1x1024) zero3]

theorem x1_B (c : Dev nD) (t : Fin cfg0.N) (h0 : ¬t.val % 64 = 0) :
    (outsAt0 m c t.val t.isLt).1 = x1Blk m c t := by
  rw [outsAt0_B m c t h0]
  dsimp only
  unfold out0_B_15
  rw [View.read_writes_eq_canon _ _ _ (fun y => by exact cover0_B_15 (y := y) ..)]
  unfold kernelRun0_B
  dsimp only
  sl_unfold_words
  rw [View.canon_unit_zero zero2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, View.ld_unit_zero (S := S512x512) zero2, View.ld_unit_zero (S := S512x1024) zero2, View.ld_unit_zero (S := S1024x1024) zero2, View.ld_unit_zero (S := S1x1024) zero2, View.ld_unit_zero (S := S1x1x1024) zero3]

theorem h2_B (c : Dev nD) (t : Fin cfg0.N) (h0 : ¬t.val % 64 = 0) :
    (outsAt0 m c t.val t.isLt).2.1 = h2Blk m c t := by
  rw [outsAt0_B m c t h0]
  dsimp only
  unfold out0_B_16
  rw [View.read_writes_eq_canon _ _ _ (fun y => by exact cover0_B_16 (y := y) ..)]
  unfold kernelRun0_B
  dsimp only
  sl_unfold_words
  rw [View.canon_unit_zero zero2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, View.ld_unit_zero (S := S512x512) zero2, View.ld_unit_zero (S := S512x1024) zero2, View.ld_unit_zero (S := S1024x1024) zero2, View.ld_unit_zero (S := S1x1024) zero2, View.ld_unit_zero (S := S1x1x1024) zero3]

/-- The x1 block after point `t`, whichever case it runs. -/
theorem x1_stored (c : Dev nD) (t : Fin cfg0.N) : (outsAt0 m c t.val t.isLt).1 = x1Blk m c t := by
  by_cases h0 : t.val % 64 = 0
  · exact x1_A m c t h0
  · exact x1_B m c t h0

/-- The h2 block after point `t`, whichever case it runs. -/
theorem h2_stored (c : Dev nD) (t : Fin cfg0.N) : (outsAt0 m c t.val t.isLt).2.1 = h2Blk m c t := by
  by_cases h0 : t.val % 64 = 0
  · exact h2_A m c t h0
  · exact h2_B m c t h0

end Cert.Layer

end
-- ==== Proof.Merge.Spec.lean ====
/-
  One token of the gate merge, as plain functions on the extended reals: the two mixers' outputs through their
  up-projections, each under its sigmoid gate, the output projection, the gated residual with its RMS norm (`x1`), and
  the modulated RMS norm of that (`h2`). A row is a function of its column.
-/
module

public import Idealize.ShloMosaic.PureOps.Ideal
public import Idealize.ShloMosaic.Lib.ValueIdx

@[expose] public section

noncomputable section

namespace Cert.Layer

open Idealize.ShloMosaic

/-- Subtracting from zero negates. -/
theorem zero_sub_ereal (x : EReal) : 0 - x = -x := by
  rw [sub_eq_add_neg, zero_add]

/-- The sigmoid as both programs write it: `1 / (1 + exp (-x))`. -/
def sigm (x : EReal) : EReal :=
  Ideal.div 1 (1 + Ideal.exp (-x))

/-- The RMS norm of a row of 1024 with weights `w`: `y · rsqrt (mean y² + ε) · w`. -/
def rms (y w : Fin 1024 → EReal) (k : Fin 1024) : EReal :=
  y k * Ideal.rsqrt (Ideal.div (∑ j, y j * y j) (Ideal.ofBits .f32 0x44800000#32) + Ideal.ofBits .f32 0x358637BD#32) * w k

/-- The gated sum of the two mixers' outputs, each through its up-projection. -/
def merged (a b : Fin 512 → EReal) (ga gb : Fin 1024 → EReal) (wa wb : Fin 512 → Fin 1024 → EReal) (k : Fin 1024) : EReal :=
  sigm (ga k) * (∑ j, a j * wa j k) + sigm (gb k) * (∑ j, b j * wb j k)

/-- The output projection of the merged row. -/
def outRow (a b : Fin 512 → EReal) (ga gb : Fin 1024 → EReal) (wa wb : Fin 512 → Fin 1024 → EReal)
    (wo : Fin 1024 → Fin 1024 → EReal) (k : Fin 1024) : EReal :=
  ∑ j, merged a b ga gb wa wb j * wo j k

/-- The residual row after the mixer: `x + g1 · rms y`. -/
def x1Row (x g1 y wp : Fin 1024 → EReal) (k : Fin 1024) : EReal := x k + g1 k * rms y wp k

/-- The router's input: the modulated RMS norm of the residual row. -/
def h2Row (x1 wq sc2 sh2 : Fin 1024 → EReal) (k : Fin 1024) : EReal :=
  rms x1 wq k * (1 + sc2 k) + sh2 k

end Cert.Layer

end
-- ==== Proof.Merge.Block.lean ====
/-
  One block of the gate merge at an index: the vectors the kernel stores to `x1` and `h2`, read as the row functions of
  `Merge/Spec.lean`.
-/
module

public import proofs.«01_k».proof.Proof.Merge.Spec
public import proofs.«01_k».proof.Proof.Gen.KernelIdeal.Skeleton
public import Idealize.ShloMosaic.Lib.Pointwise

@[expose] public section

set_option maxRecDepth 16384

noncomputable section

namespace Cert.Layer

open Idealize.ShloMosaic Cert.KernelIdeal Cert.KernelIdeal.Gen

/-- The output projection's block at row `r`, column `q`. -/
theorem pay2_at (v3 : Vec Ideal S512x512 .bf16) (v4 : Vec Ideal S512x1024 .bf16) (v6 : Vec Ideal S512x512 .bf16)
    (v7 v9 v19 : Vec Ideal S512x1024 .bf16) (v31 : Vec Ideal S1024x1024 .bf16) (r : Fin 512) (q : Fin 1024) :
    k0_pay2 (F := Ideal) v3 v4 v6 v7 v9 v19 v31 (ix2 r q)
      = outRow (fun j => v3 (ix2 r j)) (fun j => v6 (ix2 r j)) (fun j => v9 (ix2 r j)) (fun j => v19 (ix2 r j))
          (fun j k => v4 (ix2 j k)) (fun j k => v7 (ix2 j k)) (fun j k => v31 (ix2 j k)) q := by
  pointwise [k0_pay2]
  simp only [outRow, merged, sigm, zero_sub_ereal]

/-- The stored `x1` block at row `r`, column `q`. -/
theorem pay3_at (v32 v33 : Vec Ideal S512x1024 .f32) (v34 : Vec Ideal S1x1x1024 .f32) (v36 : Vec Ideal S1x1024 .f32)
    (r : Fin 512) (q : Fin 1024) :
    k0_pay3 (F := Ideal) v32 v33 v34 v36 (ix2 r q)
      = x1Row (fun k => v33 (ix2 r k)) (fun k => v34 (ix3 0 0 k)) (fun k => v32 (ix2 r k)) (fun k => v36 (ix2 0 k)) q := by
  pointwise [k0_pay3]
  rfl

/-- The stored `h2` block at row `r`, column `q`, over the row it norms. -/
theorem pay6_at (v32 v33 : Vec Ideal S512x1024 .f32) (v34 : Vec Ideal S1x1x1024 .f32) (v36 v53 : Vec Ideal S1x1024 .f32)
    (v66 v72 : Vec Ideal S1x1x1024 .f32) (r : Fin 512) (q : Fin 1024) :
    k0_pay6 (F := Ideal) (k0_pay4 v32 v33 v34 v36 v53) (k0_pay5 v66) v72 (ix2 r q)
      = h2Row (fun k => k0_pay3 (F := Ideal) v32 v33 v34 v36 (ix2 r k)) (fun k => v53 (ix2 0 k))
          (fun k => v66 (ix3 0 0 k)) (fun k => v72 (ix3 0 0 k)) q := by
  pointwise [k0_pay6, k0_pay5, k0_pay4]
  rfl

end Cert.Layer

end
-- ==== Proof.Merge.Ref.lean ====
/-
  The reference's two results at an index, as the row functions of `Merge/Spec.lean`.
-/
module

public import proofs.«01_k».proof.Proof.Merge.Spec
public import proofs.«01_k».proof.Proof.Gen.ReferenceIdeal.Read
public import Idealize.ShloMosaic.Lib.Pointwise

@[expose] public section

set_option maxRecDepth 16384

noncomputable section

namespace Cert.Layer

open Idealize.ShloMosaic Cert.ReferenceIdeal Cert.ReferenceIdeal.Read

variable (x0 x1 : (⟨S32768x512, .bf16⟩ : BufTy).Contents (Elt Ideal)) (x2 : (⟨S32768x5632, .bf16⟩ : BufTy).Contents (Elt Ideal)) (x3 : (⟨S32768x1024, .f32⟩ : BufTy).Contents (Elt Ideal)) (x4 x5 x6 : (⟨S16x1x1024, .f32⟩ : BufTy).Contents (Elt Ideal)) (x7 x8 : (⟨S1x1024, .f32⟩ : BufTy).Contents (Elt Ideal)) (x9 x10 : (⟨S512x1024, .bf16⟩ : BufTy).Contents (Elt Ideal)) (x11 : (⟨S1024x1024, .bf16⟩ : BufTy).Contents (Elt Ideal))

/-- The output projection at token `r`, column `q`. -/
theorem v26_at (r : Fin 32768) (q : Fin 1024) :
    val_main_v26 (F := Ideal) x0 x1 x2 x9 x10 x11 (ix2 r q)
      = outRow (fun j => x0 (ix2 r j)) (fun j => x1 (ix2 r j)) (fun j => x2 (ix2 r ⟨1024 + j.val, by omega⟩))
          (fun j => x2 (ix2 r ⟨2048 + j.val, by omega⟩)) (fun j k => x9 (ix2 j k)) (fun j k => x10 (ix2 j k))
          (fun j k => x11 (ix2 j k)) q := by
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

/-- The token `t` of batch `b`, counted over all batches. -/
def tok (b : Fin 16) (t : Fin 2048) : Fin 32768 := ⟨b.val * 2048 + t.val, by omega⟩

/-- The reshaped projection at batch `b`, token `t`. -/
theorem v27_at (b : Fin 16) (t : Fin 2048) (q : Fin 1024) :
    val_main_v27 (F := Ideal) x0 x1 x2 x9 x10 x11 (ix3 b t q) = val_main_v26 (F := Ideal) x0 x1 x2 x9 x10 x11 (ix2 (tok b t) q) := by
  rw [val_main_v27_apply]
  congr 1
  funext a
  match a with
  | ⟨0, _⟩ => apply Fin.ext; show ((b.val * 2048 + t.val) * 1024 + q.val) / 1024 = b.val * 2048 + t.val; omega
  | ⟨1, _⟩ => apply Fin.ext; show ((b.val * 2048 + t.val) * 1024 + q.val) % 1024 = q.val; omega

/-- The reshaped residual input at batch `b`, token `t`. -/
theorem v28_at (b : Fin 16) (t : Fin 2048) (q : Fin 1024) :
    val_main_v28 (F := Ideal) x3 (ix3 b t q) = x3 (ix2 (tok b t) q) := by
  rw [val_main_v28_apply]
  congr 1
  funext a
  match a with
  | ⟨0, _⟩ => apply Fin.ext; show ((b.val * 2048 + t.val) * 1024 + q.val) / 1024 = b.val * 2048 + t.val; omega
  | ⟨1, _⟩ => apply Fin.ext; show ((b.val * 2048 + t.val) * 1024 + q.val) % 1024 = q.val; omega

set_option maxHeartbeats 1000000 in
/-- `x1` at batch `b`, token `t`. -/
theorem v44_at (b : Fin 16) (t : Fin 2048) (q : Fin 1024) :
    val_main_v44 (F := Ideal) x0 x1 x2 x3 x4 x7 x9 x10 x11 (ix3 b t q)
      = x1Row (fun k => x3 (ix2 (tok b t) k)) (fun k => x4 (ix3 b 0 k))
          (fun k => val_main_v26 (F := Ideal) x0 x1 x2 x9 x10 x11 (ix2 (tok b t) k)) (fun k => x7 (ix2 0 k)) q := by
  simp only [← v27_at, ← v28_at]
  pointwise [val_main_v44, val_main_v43, val_main_v42, val_main_v41, val_main_v40, val_main_v39, val_main_v38, val_main_v37, val_main_v36, val_main_v35, val_main_v34, val_main_v33, val_main_v32, val_main_v31, val_main_v30, val_main_v29, val_main_cst_3, val_main_cst_4, val_main_cst_5]
  rfl

set_option maxHeartbeats 1000000 in
/-- `h2` at batch `b`, token `t`. -/
theorem v63_at (b : Fin 16) (t : Fin 2048) (q : Fin 1024) :
    val_main_v63 (F := Ideal) x0 x1 x2 x3 x4 x5 x6 x7 x8 x9 x10 x11 (ix3 b t q)
      = h2Row (fun k => val_main_v44 (F := Ideal) x0 x1 x2 x3 x4 x7 x9 x10 x11 (ix3 b t k)) (fun k => x8 (ix2 0 k))
          (fun k => x6 (ix3 b 0 k)) (fun k => x5 (ix3 b 0 k)) q := by
  pointwise [val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_cst_6, val_main_cst_7, val_main_cst_8, val_main_cst_9]
  rfl

/-- The result `x1` read at a token. -/
theorem v64_at (r : Fin 32768) (q : Fin 1024) :
    val_main_v64 (F := Ideal) x0 x1 x2 x3 x4 x7 x9 x10 x11 (ix2 r q)
      = val_main_v44 (F := Ideal) x0 x1 x2 x3 x4 x7 x9 x10 x11 (ix3 ⟨r.val / 2048, by omega⟩ ⟨r.val % 2048, by omega⟩ q) := by
  rw [val_main_v64_apply]
  congr 1
  funext a
  match a with
  | ⟨0, _⟩ => apply Fin.ext; show (r.val * 1024 + q.val) / 2097152 = r.val / 2048; omega
  | ⟨1, _⟩ => apply Fin.ext; show (r.val * 1024 + q.val) / 1024 % 2048 = r.val % 2048; omega
  | ⟨2, _⟩ => apply Fin.ext; show (r.val * 1024 + q.val) % 1024 = q.val; omega

/-- The result `h2` read at a token. -/
theorem v65_at (r : Fin 32768) (q : Fin 1024) :
    val_main_v65 (F := Ideal) x0 x1 x2 x3 x4 x5 x6 x7 x8 x9 x10 x11 (ix2 r q)
      = val_main_v63 (F := Ideal) x0 x1 x2 x3 x4 x5 x6 x7 x8 x9 x10 x11 (ix3 ⟨r.val / 2048, by omega⟩ ⟨r.val % 2048, by omega⟩ q) := by
  rw [val_main_v65_apply]
  congr 1
  funext a
  match a with
  | ⟨0, _⟩ => apply Fin.ext; show (r.val * 1024 + q.val) / 2097152 = r.val / 2048; omega
  | ⟨1, _⟩ => apply Fin.ext; show (r.val * 1024 + q.val) / 1024 % 2048 = r.val % 2048; omega
  | ⟨2, _⟩ => apply Fin.ext; show (r.val * 1024 + q.val) % 1024 = q.val; omega

theorem tok_divmod (r : Fin 32768) : tok ⟨r.val / 2048, by omega⟩ ⟨r.val % 2048, by omega⟩ = r := by
  apply Fin.ext
  show r.val / 2048 * 2048 + r.val % 2048 = r.val
  omega

end Cert.Layer

end
-- ==== Proof.Merge.Kernel.lean ====
/-
  The arrays the gate merge leaves: every block the pipeline writes back is the reference's value on that block's rows,
  and the blocks cover the arrays.
-/
module

public import proofs.«01_k».proof.Proof.Merge.Stored
public import proofs.«01_k».proof.Proof.Merge.Block
public import proofs.«01_k».proof.Proof.Merge.Ref

@[expose] public section

set_option maxRecDepth 16384

noncomputable section

namespace Cert.Layer

open Idealize.ShloMosaic Idealize.ShloMosaic.TcCoe Idealize.SL.Sem
open Cert.KernelIdeal Cert.KernelIdeal.Gen Cert.KernelIdeal.Value

variable (m : (ℓ : Loc nD τ sig) → Buf (Elt Ideal) ℓ)

/-- The row of the whole array that row `r` of block `t` is. -/
abbrev rowOf (t : Fin cfg0.N) (r : Fin 512) : Fin 32768 :=
  ⟨t.val * 512 + r.val, by have ht : t.val < 64 := t.isLt; have := r.isLt; omega⟩

/-- The batch block `t` lies in. -/
abbrev batOf (t : Fin cfg0.N) : Fin 16 := ⟨t.val / 4, by have ht : t.val < 64 := t.isLt; omega⟩

theorem win0_ix : ∀ t : Fin cfg0.N, win0_0.index t (0 : Fin 2) = t.val ∧ win0_0.index t (1 : Fin 2) = 0 :=
  (by decide +kernel : ∀ t : Fin grid0.N, _)

theorem blk0_at (c : Dev nD) (t : Fin cfg0.N) (r : Fin 512) (k : Fin 512) :
    iblk m c 0 t (ix2 r k) = m ((c : Thread nD τ).loc main_arg0) (ix2 (rowOf t r) k) := by
  obtain ⟨e0, e1⟩ := win0_ix t
  show m ((c : Thread nD τ).loc main_arg0) (((cfg0.win 0).blk t).view.emb (ix2 r k)) = _
  congr 1
  funext a
  match a with
  | ⟨0, _⟩ => exact Fin.ext (by show win0_0.index t (0 : Fin 2) * 512 + 1 * r.val = t.val * 512 + r.val; omega)
  | ⟨1, _⟩ => exact Fin.ext (by show win0_0.index t (1 : Fin 2) * 512 + 1 * k.val = k.val; omega)

theorem win1_ix : ∀ t : Fin cfg0.N, win0_1.index t (0 : Fin 2) = t.val ∧ win0_1.index t (1 : Fin 2) = 0 :=
  (by decide +kernel : ∀ t : Fin grid0.N, _)

theorem blk1_at (c : Dev nD) (t : Fin cfg0.N) (r : Fin 512) (k : Fin 512) :
    iblk m c 1 t (ix2 r k) = m ((c : Thread nD τ).loc main_arg1) (ix2 (rowOf t r) k) := by
  obtain ⟨e0, e1⟩ := win1_ix t
  show m ((c : Thread nD τ).loc main_arg1) (((cfg0.win 1).blk t).view.emb (ix2 r k)) = _
  congr 1
  funext a
  match a with
  | ⟨0, _⟩ => exact Fin.ext (by show win0_1.index t (0 : Fin 2) * 512 + 1 * r.val = t.val * 512 + r.val; omega)
  | ⟨1, _⟩ => exact Fin.ext (by show win0_1.index t (1 : Fin 2) * 512 + 1 * k.val = k.val; omega)

theorem win4_ix : ∀ t : Fin cfg0.N, win0_4.index t (0 : Fin 2) = t.val ∧ win0_4.index t (1 : Fin 2) = 0 :=
  (by decide +kernel : ∀ t : Fin grid0.N, _)

theorem blk4_at (c : Dev nD) (t : Fin cfg0.N) (r : Fin 512) (k : Fin 1024) :
    iblk m c 4 t (ix2 r k) = m ((c : Thread nD τ).loc main_arg3) (ix2 (rowOf t r) k) := by
  obtain ⟨e0, e1⟩ := win4_ix t
  show m ((c : Thread nD τ).loc main_arg3) (((cfg0.win 4).blk t).view.emb (ix2 r k)) = _
  congr 1
  funext a
  match a with
  | ⟨0, _⟩ => exact Fin.ext (by show win0_4.index t (0 : Fin 2) * 512 + 1 * r.val = t.val * 512 + r.val; omega)
  | ⟨1, _⟩ => exact Fin.ext (by show win0_4.index t (1 : Fin 2) * 1024 + 1 * k.val = k.val; omega)

theorem win2_ix : ∀ t : Fin cfg0.N, win0_2.index t (0 : Fin 2) = t.val ∧ win0_2.index t (1 : Fin 2) = 1 :=
  (by decide +kernel : ∀ t : Fin grid0.N, _)

theorem blk2_at (c : Dev nD) (t : Fin cfg0.N) (r : Fin 512) (k : Fin 1024) :
    X0_2 m c t (ix2 r k) = m ((c : Thread nD τ).loc main_arg2) (ix2 (rowOf t r) ⟨1024 + k.val, by omega⟩) := by
  obtain ⟨e0, e1⟩ := win2_ix t
  unfold X0_2 Idealize.ShloMosaic.Pipeline.Window.fill
  rw [dif_pos (moved0_2 t _)]
  show m ((c : Thread nD τ).loc main_arg2) (((cfg0.win 2).blk t).view.emb _) = _
  congr 1
  funext a
  match a with
  | ⟨0, _⟩ => exact Fin.ext (by show win0_2.index t (0 : Fin 2) * 512 + 1 * r.val = t.val * 512 + r.val; omega)
  | ⟨1, _⟩ => exact Fin.ext (by show win0_2.index t (1 : Fin 2) * 1024 + 1 * k.val = 1024 + k.val; omega)

theorem win3_ix : ∀ t : Fin cfg0.N, win0_3.index t (0 : Fin 2) = t.val ∧ win0_3.index t (1 : Fin 2) = 2 :=
  (by decide +kernel : ∀ t : Fin grid0.N, _)

theorem blk3_at (c : Dev nD) (t : Fin cfg0.N) (r : Fin 512) (k : Fin 1024) :
    X0_3 m c t (ix2 r k) = m ((c : Thread nD τ).loc main_arg2) (ix2 (rowOf t r) ⟨2048 + k.val, by omega⟩) := by
  obtain ⟨e0, e1⟩ := win3_ix t
  unfold X0_3 Idealize.ShloMosaic.Pipeline.Window.fill
  rw [dif_pos (moved0_3 t _)]
  show m ((c : Thread nD τ).loc main_arg2) (((cfg0.win 3).blk t).view.emb _) = _
  congr 1
  funext a
  match a with
  | ⟨0, _⟩ => exact Fin.ext (by show win0_3.index t (0 : Fin 2) * 512 + 1 * r.val = t.val * 512 + r.val; omega)
  | ⟨1, _⟩ => exact Fin.ext (by show win0_3.index t (1 : Fin 2) * 1024 + 1 * k.val = 2048 + k.val; omega)

theorem win5_ix : ∀ t : Fin cfg0.N, win0_5.index t (0 : Fin 3) = t.val / 4 ∧ win0_5.index t (1 : Fin 3) = 0 ∧ win0_5.index t (2 : Fin 3) = 0 :=
  (by decide +kernel : ∀ t : Fin grid0.N, _)

theorem blk5_at (c : Dev nD) (t : Fin cfg0.N) (k : Fin 1024) :
    iblk m c 5 t (ix3 0 0 k) = m ((c : Thread nD τ).loc main_arg4) (ix3 (batOf t) 0 k) := by
  obtain ⟨e0, e1, e2⟩ := win5_ix t
  show m ((c : Thread nD τ).loc main_arg4) (((cfg0.win 5).blk t).view.emb (ix3 0 0 k)) = _
  congr 1
  funext a
  match a with
  | ⟨0, _⟩ => exact Fin.ext (by show win0_5.index t (0 : Fin 3) * 1 + 1 * 0 = t.val / 4; omega)
  | ⟨1, _⟩ => exact Fin.ext (by show win0_5.index t (1 : Fin 3) * 1 + 1 * 0 = 0; omega)
  | ⟨2, _⟩ => exact Fin.ext (by show win0_5.index t (2 : Fin 3) * 1024 + 1 * k.val = k.val; omega)

theorem win6_ix : ∀ t : Fin cfg0.N, win0_6.index t (0 : Fin 3) = t.val / 4 ∧ win0_6.index t (1 : Fin 3) = 0 ∧ win0_6.index t (2 : Fin 3) = 0 :=
  (by decide +kernel : ∀ t : Fin grid0.N, _)

theorem blk6_at (c : Dev nD) (t : Fin cfg0.N) (k : Fin 1024) :
    iblk m c 6 t (ix3 0 0 k) = m ((c : Thread nD τ).loc main_arg5) (ix3 (batOf t) 0 k) := by
  obtain ⟨e0, e1, e2⟩ := win6_ix t
  show m ((c : Thread nD τ).loc main_arg5) (((cfg0.win 6).blk t).view.emb (ix3 0 0 k)) = _
  congr 1
  funext a
  match a with
  | ⟨0, _⟩ => exact Fin.ext (by show win0_6.index t (0 : Fin 3) * 1 + 1 * 0 = t.val / 4; omega)
  | ⟨1, _⟩ => exact Fin.ext (by show win0_6.index t (1 : Fin 3) * 1 + 1 * 0 = 0; omega)
  | ⟨2, _⟩ => exact Fin.ext (by show win0_6.index t (2 : Fin 3) * 1024 + 1 * k.val = k.val; omega)

theorem win7_ix : ∀ t : Fin cfg0.N, win0_7.index t (0 : Fin 3) = t.val / 4 ∧ win0_7.index t (1 : Fin 3) = 0 ∧ win0_7.index t (2 : Fin 3) = 0 :=
  (by decide +kernel : ∀ t : Fin grid0.N, _)

theorem blk7_at (c : Dev nD) (t : Fin cfg0.N) (k : Fin 1024) :
    iblk m c 7 t (ix3 0 0 k) = m ((c : Thread nD τ).loc main_arg6) (ix3 (batOf t) 0 k) := by
  obtain ⟨e0, e1, e2⟩ := win7_ix t
  show m ((c : Thread nD τ).loc main_arg6) (((cfg0.win 7).blk t).view.emb (ix3 0 0 k)) = _
  congr 1
  funext a
  match a with
  | ⟨0, _⟩ => exact Fin.ext (by show win0_7.index t (0 : Fin 3) * 1 + 1 * 0 = t.val / 4; omega)
  | ⟨1, _⟩ => exact Fin.ext (by show win0_7.index t (1 : Fin 3) * 1 + 1 * 0 = 0; omega)
  | ⟨2, _⟩ => exact Fin.ext (by show win0_7.index t (2 : Fin 3) * 1024 + 1 * k.val = k.val; omega)

theorem win8_ix : ∀ t : Fin cfg0.N, win0_8.index t (0 : Fin 2) = 0 ∧ win0_8.index t (1 : Fin 2) = 0 :=
  (by decide +kernel : ∀ t : Fin grid0.N, _)

theorem blk8_at (c : Dev nD) (t : Fin cfg0.N) (r : Fin 1) (k : Fin 1024) :
    iblk m c 8 t (ix2 r k) = m ((c : Thread nD τ).loc main_arg7) (ix2 r k) := by
  obtain ⟨e0, e1⟩ := win8_ix t
  show m ((c : Thread nD τ).loc main_arg7) (((cfg0.win 8).blk t).view.emb (ix2 r k)) = _
  congr 1
  funext a
  match a with
  | ⟨0, _⟩ => exact Fin.ext (by show win0_8.index t (0 : Fin 2) * 1 + 1 * r.val = r.val; omega)
  | ⟨1, _⟩ => exact Fin.ext (by show win0_8.index t (1 : Fin 2) * 1024 + 1 * k.val = k.val; omega)

theorem win9_ix : ∀ t : Fin cfg0.N, win0_9.index t (0 : Fin 2) = 0 ∧ win0_9.index t (1 : Fin 2) = 0 :=
  (by decide +kernel : ∀ t : Fin grid0.N, _)

theorem blk9_at (c : Dev nD) (t : Fin cfg0.N) (r : Fin 1) (k : Fin 1024) :
    iblk m c 9 t (ix2 r k) = m ((c : Thread nD τ).loc main_arg8) (ix2 r k) := by
  obtain ⟨e0, e1⟩ := win9_ix t
  show m ((c : Thread nD τ).loc main_arg8) (((cfg0.win 9).blk t).view.emb (ix2 r k)) = _
  congr 1
  funext a
  match a with
  | ⟨0, _⟩ => exact Fin.ext (by show win0_9.index t (0 : Fin 2) * 1 + 1 * r.val = r.val; omega)
  | ⟨1, _⟩ => exact Fin.ext (by show win0_9.index t (1 : Fin 2) * 1024 + 1 * k.val = k.val; omega)

theorem win10_ix : ∀ t : Fin cfg0.N, win0_10.index t (0 : Fin 2) = 0 ∧ win0_10.index t (1 : Fin 2) = 0 :=
  (by decide +kernel : ∀ t : Fin grid0.N, _)

theorem blk10_at (c : Dev nD) (t : Fin cfg0.N) (r : Fin 512) (k : Fin 1024) :
    iblk m c 10 t (ix2 r k) = m ((c : Thread nD τ).loc main_arg9) (ix2 r k) := by
  obtain ⟨e0, e1⟩ := win10_ix t
  show m ((c : Thread nD τ).loc main_arg9) (((cfg0.win 10).blk t).view.emb (ix2 r k)) = _
  congr 1
  funext a
  match a with
  | ⟨0, _⟩ => exact Fin.ext (by show win0_10.index t (0 : Fin 2) * 512 + 1 * r.val = r.val; omega)
  | ⟨1, _⟩ => exact Fin.ext (by show win0_10.index t (1 : Fin 2) * 1024 + 1 * k.val = k.val; omega)

theorem win11_ix : ∀ t : Fin cfg0.N, win0_11.index t (0 : Fin 2) = 0 ∧ win0_11.index t (1 : Fin 2) = 0 :=
  (by decide +kernel : ∀ t : Fin grid0.N, _)

theorem blk11_at (c : Dev nD) (t : Fin cfg0.N) (r : Fin 512) (k : Fin 1024) :
    iblk m c 11 t (ix2 r k) = m ((c : Thread nD τ).loc main_arg10) (ix2 r k) := by
  obtain ⟨e0, e1⟩ := win11_ix t
  show m ((c : Thread nD τ).loc main_arg10) (((cfg0.win 11).blk t).view.emb (ix2 r k)) = _
  congr 1
  funext a
  match a with
  | ⟨0, _⟩ => exact Fin.ext (by show win0_11.index t (0 : Fin 2) * 512 + 1 * r.val = r.val; omega)
  | ⟨1, _⟩ => exact Fin.ext (by show win0_11.index t (1 : Fin 2) * 1024 + 1 * k.val = k.val; omega)

theorem win12_ix : ∀ t : Fin cfg0.N, win0_12.index t (0 : Fin 2) = 0 ∧ win0_12.index t (1 : Fin 2) = 0 :=
  (by decide +kernel : ∀ t : Fin grid0.N, _)

theorem blk12_at (c : Dev nD) (t : Fin cfg0.N) (r : Fin 1024) (k : Fin 1024) :
    iblk m c 12 t (ix2 r k) = m ((c : Thread nD τ).loc main_arg11) (ix2 r k) := by
  obtain ⟨e0, e1⟩ := win12_ix t
  show m ((c : Thread nD τ).loc main_arg11) (((cfg0.win 12).blk t).view.emb (ix2 r k)) = _
  congr 1
  funext a
  match a with
  | ⟨0, _⟩ => exact Fin.ext (by show win0_12.index t (0 : Fin 2) * 1024 + 1 * r.val = r.val; omega)
  | ⟨1, _⟩ => exact Fin.ext (by show win0_12.index t (1 : Fin 2) * 1024 + 1 * k.val = k.val; omega)

/-- `x1` as the reference computes it, over the kernel's arguments. -/
abbrev x1Ref (c : Dev nD) : S32768x1024.Idx → EReal :=
  Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg9)) (m ((c : Thread nD τ).loc main_arg10)) (m ((c : Thread nD τ).loc main_arg11))

/-- `h2` as the reference computes it, over the kernel's arguments. -/
abbrev h2Ref (c : Dev nD) : S32768x1024.Idx → EReal :=
  Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem proj_row (c : Dev nD) (t : Fin cfg0.N) (r : Fin 512) (q : Fin 1024) :
    projBlk m c t (ix2 r q) = Cert.ReferenceIdeal.Read.val_main_v26 (F := Ideal) (m ((c : Thread nD τ).loc main_arg0)) (m ((c : Thread nD τ).loc main_arg1)) (m ((c : Thread nD τ).loc main_arg2)) (m ((c : Thread nD τ).loc main_arg9)) (m ((c : Thread nD τ).loc main_arg10)) (m ((c : Thread nD τ).loc main_arg11)) (ix2 (rowOf t r) q) := by
  rw [v26_at]
  show k0_pay2 (F := Ideal) _ _ _ _ _ _ _ (ix2 r q) = _
  rw [pay2_at]
  simp only [blk0_at, blk1_at, blk2_at, blk3_at, blk10_at, blk11_at, blk12_at]

theorem x1_row (c : Dev nD) (t : Fin cfg0.N) (r : Fin 512) (q : Fin 1024) :
    x1Blk m c t (ix2 r q) = x1Ref m c (ix2 (rowOf t r) q) := by
  have hb : (⟨(rowOf t r).val / 2048, by omega⟩ : Fin 16) = batOf t :=
    Fin.ext (by show (t.val * 512 + r.val) / 2048 = t.val / 4; have := r.isLt; omega)
  show k0_pay3 (F := Ideal) _ _ _ _ (ix2 r q) = Cert.ReferenceIdeal.Read.val_main_v64 (F := Ideal) _ _ _ _ _ _ _ _ _ (ix2 _ q)
  rw [v64_at, v44_at, tok_divmod, pay3_at, hb]
  simp only [blk4_at, blk5_at, blk8_at, proj_row]

theorem h2_row (c : Dev nD) (t : Fin cfg0.N) (r : Fin 512) (q : Fin 1024) :
    h2Blk m c t (ix2 r q) = h2Ref m c (ix2 (rowOf t r) q) := by
  have hb : (⟨(rowOf t r).val / 2048, by omega⟩ : Fin 16) = batOf t :=
    Fin.ext (by show (t.val * 512 + r.val) / 2048 = t.val / 4; have := r.isLt; omega)
  show k0_pay6 (F := Ideal) _ _ _ (ix2 r q) = Cert.ReferenceIdeal.Read.val_main_v65 (F := Ideal) _ _ _ _ _ _ _ _ _ _ _ _ (ix2 _ q)
  rw [v65_at, v63_at, pay6_at, hb]
  have hx : ∀ k, k0_pay3 (F := Ideal) (projBlk m c t) (iblk m c 4 t) (iblk m c 5 t) (iblk m c 8 t) (ix2 r k) = x1Ref m c (ix2 (rowOf t r) k) :=
    fun k => x1_row m c t r k
  simp only [hx, blk6_at, blk7_at, blk9_at]
  refine congrArg (fun f => h2Row f _ _ _ q) (funext fun k => ?_)
  rw [← hb]
  exact v64_at ..

theorem x1_flushed (c : Dev nD) (t : Fin cfg0.N) :
    (dats m 0 c).flushed 15 t = ((cfg0.win 15).blk t).view.read (Elt Ideal) (x1Ref m c) := by
  obtain ⟨a0, b0, a1, b1, e⟩ := idx_facts15 t
  rw [flushed15, x1_stored]
  funext y
  have hy0 : (y 0).val < 512 := (y 0).isLt
  have hy1 : (y 1).val < 1024 := (y 1).isLt
  have hl : (cfg0.win 15).xinj (grid0.coords t) y = ix2 (⟨(y 0).val, hy0⟩ : Fin 512) (⟨(y 1).val, hy1⟩ : Fin 1024) := by
    funext a
    match a with
    | ⟨0, _⟩ => rfl
    | ⟨1, _⟩ => rfl
  have hr : ((cfg0.win 15).blk t).view.emb y = ix2 (rowOf t ⟨(y 0).val, hy0⟩) (⟨(y 1).val, hy1⟩ : Fin 1024) := by
    funext a
    match a with
    | ⟨0, _⟩ => exact Fin.ext (by show win0_15.index t (0 : Fin 2) * 512 + 1 * (y 0).val = t.val * 512 + (y 0).val; omega)
    | ⟨1, _⟩ => exact Fin.ext (by show win0_15.index t (1 : Fin 2) * 1024 + 1 * (y 1).val = (y 1).val; omega)
  show x1Blk m c t ((cfg0.win 15).xinj (grid0.coords t) y) = x1Ref m c (((cfg0.win 15).blk t).view.emb y)
  rw [hl, hr, x1_row]

/-- The array of `x1` after the run is the reference's. -/
theorem x1_array (c : Dev nD) : (dats m 0 c).arrAt 15 cfg0.N = x1Ref m c :=
  (dats m 0 c).arrAt_eq_of_cover 15 (x1Ref m c) (fun t _ => x1_flushed m c t) (fun i => (covered_iff15 i).2 (by
    have h0 : (i 0).val < 32768 := (i 0).isLt
    have h1 : (i 1).val < 1024 := (i 1).isLt
    omega))

theorem h2_flushed (c : Dev nD) (t : Fin cfg0.N) :
    (dats m 0 c).flushed 16 t = ((cfg0.win 16).blk t).view.read (Elt Ideal) (h2Ref m c) := by
  obtain ⟨a0, b0, a1, b1, e⟩ := idx_facts16 t
  rw [flushed16, h2_stored]
  funext y
  have hy0 : (y 0).val < 512 := (y 0).isLt
  have hy1 : (y 1).val < 1024 := (y 1).isLt
  have hl : (cfg0.win 16).xinj (grid0.coords t) y = ix2 (⟨(y 0).val, hy0⟩ : Fin 512) (⟨(y 1).val, hy1⟩ : Fin 1024) := by
    funext a
    match a with
    | ⟨0, _⟩ => rfl
    | ⟨1, _⟩ => rfl
  have hr : ((cfg0.win 16).blk t).view.emb y = ix2 (rowOf t ⟨(y 0).val, hy0⟩) (⟨(y 1).val, hy1⟩ : Fin 1024) := by
    funext a
    match a with
    | ⟨0, _⟩ => exact Fin.ext (by show win0_16.index t (0 : Fin 2) * 512 + 1 * (y 0).val = t.val * 512 + (y 0).val; omega)
    | ⟨1, _⟩ => exact Fin.ext (by show win0_16.index t (1 : Fin 2) * 1024 + 1 * (y 1).val = (y 1).val; omega)
  show h2Blk m c t ((cfg0.win 16).xinj (grid0.coords t) y) = h2Ref m c (((cfg0.win 16).blk t).view.emb y)
  rw [hl, hr, h2_row]

/-- The array of `h2` after the run is the reference's. -/
theorem h2_array (c : Dev nD) : (dats m 0 c).arrAt 16 cfg0.N = h2Ref m c :=
  (dats m 0 c).arrAt_eq_of_cover 16 (h2Ref m c) (fun t _ => h2_flushed m c t) (fun i => (covered_iff16 i).2 (by
    have h0 : (i 0).val < 32768 := (i 0).isLt
    have h1 : (i 1).val < 1024 := (i 1).isLt
    omega))

end Cert.Layer

end
-- ==== Proof.InProj.Stored.lean ====
/-
  What a grid point of the input projection leaves: the block stored to the output, over the normed rows that the first
  point of a row block keeps for the others.
-/
module

public import proofs.«01_k».proof.Proof.Gen.Kernel2Ideal.Value
public import Idealize.ShloMosaic.Lib.Pipeline.Value
public import Idealize.ShloMosaic.Lib.Tactic

@[expose] public section

set_option maxRecDepth 16384

noncomputable section

namespace Cert.InProj

open Idealize.ShloMosaic Idealize.ShloMosaic.TcCoe Idealize.SL.Sem
open Cert.Kernel2Ideal Cert.Kernel2Ideal.Gen

variable {F : FTy → Type} [FloatOps F]
variable (m : (ℓ : Loc nD τ sig) → Buf (Elt F) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The normed rows that point `t`'s input blocks give. -/
abbrev rowsBlk (c : Dev nD) (t : Fin cfg0.N) : Vec F S1024x1024 .bf16 :=
  k0_pay1 (iblk m c 0 t) (iblk m c 1 t) (iblk m c 2 t) (iblk m c 3 t)

theorem kept_A (c : Dev nD) (t : Fin cfg0.N) (h0 : t.val % 4 = 0) :
    (outsAt0 m c t.val t.isLt).2 = rowsBlk m c t := by
  rw [outsAt0_A m c t h0]
  dsimp only
  unfold sout0_A_0
  rw [View.read_writes_eq_canon _ _ _ (fun y => by exact scover0_A_0 (y := y) ..)]
  unfold kernelRun0_A
  dsimp only
  sl_unfold_words
  rw [View.canon_unit_zero zero2]
  simp only [View.readAt_eq_ld, (hs0_0 t).read_unread, (hs0_1 t).read_unread, (hs0_2 t).read_unread, (hs0_3 t).read_unread, (hs0_4 t).read_unread, (hs0_5 t).read_unread, View.ld_unit_zero (S := S1024x1024) zero2, View.ld_unit_zero (S := S1024x1408) zero2, View.ld_unit_zero (S := S1x1024) zero2, View.ld_unit_zero (S := S1x1408) zero2, View.ld_unit_zero (S := S1x1x1024) zero3]

theorem kept_B (c : Dev nD) (t : Fin cfg0.N) (h0 : ¬t.val % 4 = 0) :
    (outsAt0 m c t.val t.isLt).2 = (outsAt0 m c (t.val - 1) (Nat.lt_of_le_of_lt (Nat.sub_le _ _) t.isLt)).2 := by
  rw [outsAt0_B m c t h0]
  rfl

theorem stored_A (c : Dev nD) (t : Fin cfg0.N) (h0 : t.val % 4 = 0) :
    (outsAt0 m c t.val t.isLt).1 = k0_pay2 ((outsAt0 m c t.val t.isLt).2) (iblk m c 4 t) (iblk m c 5 t) := by
  rw [kept_A m c t h0, outsAt0_A m c t h0]
  dsimp only
  unfold out0_A_6
  rw [View.read_writes_eq_canon _ _ _ (fun y => by exact cover0_A_6 (y := y) ..)]
  unfold kernelRun0_A
  dsimp only
  sl_unfold_words
  rw [View.canon_unit_zero zero2]
  simp only [View.readCov_unit_zero (S := S1024x1024) _ zero2, View.readAt_eq_ld, (hs0_0 t).read_unread, (hs0_1 t).read_unread, (hs0_2 t).read_unread, (hs0_3 t).read_unread, (hs0_4 t).read_unread, (hs0_5 t).read_unread, View.ld_unit_zero (S := S1024x1024) zero2, View.ld_unit_zero (S := S1024x1408) zero2, View.ld_unit_zero (S := S1x1024) zero2, View.ld_unit_zero (S := S1x1408) zero2, View.ld_unit_zero (S := S1x1x1024) zero3]

theorem stored_B (c : Dev nD) (t : Fin cfg0.N) (h0 : ¬t.val % 4 = 0) :
    (outsAt0 m c t.val t.isLt).1 = k0_pay2 ((outsAt0 m c t.val t.isLt).2) (iblk m c 4 t) (iblk m c 5 t) := by
  rw [kept_B m c t h0, outsAt0_B m c t h0]
  dsimp only
  unfold out0_B_6
  rw [View.read_writes_eq_canon _ _ _ (fun y => by exact cover0_B_6 (y := y) ..)]
  unfold kernelRun0_B
  dsimp only
  sl_unfold_words
  rw [View.canon_unit_zero zero2]
  simp only [View.readAt_eq_ld, (hs0_4 t).read_unread, (hs0_5 t).read_unread, (Memref.isWhole_whole cc0_scratch0).read_unread, View.ld_unit_zero (S := S1024x1024) zero2, View.ld_unit_zero (S := S1024x1408) zero2, View.ld_unit_zero (S := S1x1408) zero2]

/-- The block stored at point `t`, over the rows kept after it. -/
theorem stored (c : Dev nD) (t : Fin cfg0.N) :
    (outsAt0 m c t.val t.isLt).1 = k0_pay2 ((outsAt0 m c t.val t.isLt).2) (iblk m c 4 t) (iblk m c 5 t) := by
  by_cases h0 : t.val % 4 = 0
  · exact stored_A m c t h0
  · exact stored_B m c t h0

/-- The rows kept after a point are those of its row block's first point. -/
theorem kept (c : Dev nD) (i : ℕ) : (j : ℕ) → (hj : j < 4) → (hb : i * 4 + j < cfg0.N) →
    (outsAt0 m c (i * 4 + j) hb).2 = rowsBlk m c ⟨i * 4, by omega⟩
  | 0, _, hb => kept_A m c ⟨i * 4, by omega⟩ (Nat.mul_mod_left _ _)
  | j + 1, hj, hb => by
    rw [kept_B m c ⟨i * 4 + (j + 1), hb⟩ (by show ¬(i * 4 + (j + 1)) % 4 = 0; omega)]
    exact kept c i j (by omega) (by omega)

end Cert.InProj

end
-- ==== Proof.InProj.Block.lean ====
/-
  One block of the input projection at an index: the normed rows the kernel keeps for a row block, and the block it stores.
-/
module

public import proofs.«01_k».proof.Proof.Merge.Spec
public import proofs.«01_k».proof.Proof.Gen.Kernel2Ideal.Skeleton
public import Idealize.ShloMosaic.Lib.Pointwise

@[expose] public section

set_option maxRecDepth 16384

noncomputable section

namespace Cert.InProj

open Idealize.ShloMosaic Cert.Kernel2Ideal Cert.Kernel2Ideal.Gen Cert.Layer

/-- A row against the columns of a matrix, with a bias. -/
def colRow {n : Nat} (h : Fin 1024 → EReal) (w : Fin 1024 → Fin n → EReal) (b : Fin n → EReal) (q : Fin n) : EReal :=
  (∑ k, h k * w k q) + b q

/-- The kept rows at row `r`, column `q`: the modulated RMS norm of the row. -/
theorem pay1_at (v11 : Vec Ideal S1024x1024 .f32) (v12 : Vec Ideal S1x1024 .f32) (v25 v31 : Vec Ideal S1x1x1024 .f32)
    (r : Fin 1024) (q : Fin 1024) :
    k0_pay1 (F := Ideal) v11 v12 v25 v31 (ix2 r q)
      = h2Row (fun k => v11 (ix2 r k)) (fun k => v12 (ix2 0 k)) (fun k => v25 (ix3 0 0 k)) (fun k => v31 (ix3 0 0 k)) q := by
  pointwise [k0_pay1]
  rfl

/-- The stored block at row `r`, column `q`, over the kept rows. -/
theorem pay2_at (v3 : Vec Ideal S1024x1024 .bf16) (v4 : Vec Ideal S1024x1408 .bf16) (v6 : Vec Ideal S1x1408 .f32)
    (r : Fin 1024) (q : Fin 1408) :
    k0_pay2 (F := Ideal) v3 v4 v6 (ix2 r q)
      = colRow (fun k => v3 (ix2 r k)) (fun k q => v4 (ix2 k q)) (fun q => v6 (ix2 0 q)) q := by
  pointwise [k0_pay2]
  rfl

end Cert.InProj

end
-- ==== Proof.InProj.Ref.lean ====
/-
  The input projection's reference at an index: the modulated RMS norm of a token's row against the columns.
-/
module

public import proofs.«01_k».proof.Proof.InProj.Block
public import proofs.«01_k».proof.Proof.Gen.Reference2Ideal.Read
public import Idealize.ShloMosaic.Lib.Pointwise

@[expose] public section

set_option maxRecDepth 16384

noncomputable section

namespace Cert.InProj

open Idealize.ShloMosaic Cert.Reference2Ideal Cert.Reference2Ideal.Read Cert.Layer

variable (x0 : (⟨S32768x1024, .f32⟩ : BufTy).Contents (Elt Ideal)) (x1 : (⟨S1x1024, .f32⟩ : BufTy).Contents (Elt Ideal)) (x2 x3 : (⟨S16x1x1024, .f32⟩ : BufTy).Contents (Elt Ideal)) (x4 : (⟨S1024x5632, .bf16⟩ : BufTy).Contents (Elt Ideal)) (x5 : (⟨S1x5632, .f32⟩ : BufTy).Contents (Elt Ideal))

/-- The token `t` of batch `b`, counted over all batches. -/
def tokAt (b : Fin 16) (t : Fin 2048) : Fin 32768 := ⟨b.val * 2048 + t.val, by omega⟩

/-- The reshaped input at batch `b`, token `t`. -/
theorem v0_at (b : Fin 16) (t : Fin 2048) (q : Fin 1024) :
    val_main_v0 (F := Ideal) x0 (ix3 b t q) = x0 (ix2 (tokAt b t) q) := by
  rw [val_main_v0_apply]
  congr 1
  funext a
  match a with
  | ⟨0, _⟩ => apply Fin.ext; show ((b.val * 2048 + t.val) * 1024 + q.val) / 1024 = b.val * 2048 + t.val; omega
  | ⟨1, _⟩ => apply Fin.ext; show ((b.val * 2048 + t.val) * 1024 + q.val) % 1024 = q.val; omega

set_option maxHeartbeats 1000000 in
/-- The normed row at batch `b`, token `t`. -/
theorem v19_at (b : Fin 16) (t : Fin 2048) (q : Fin 1024) :
    val_main_v19 (F := Ideal) x0 x1 x2 x3 (ix3 b t q)
      = h2Row (fun k => x0 (ix2 (tokAt b t) k)) (fun k => x1 (ix2 0 k)) (fun k => x2 (ix3 b 0 k)) (fun k => x3 (ix3 b 0 k)) q := by
  simp only [← v0_at]
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2]
  rfl

/-- The normed row read at a token counted over all batches. -/
theorem v20_at (r : Fin 32768) (q : Fin 1024) :
    val_main_v20 (F := Ideal) x0 x1 x2 x3 (ix2 r q)
      = val_main_v19 (F := Ideal) x0 x1 x2 x3 (ix3 ⟨r.val / 2048, by omega⟩ ⟨r.val % 2048, by omega⟩ q) := by
  rw [val_main_v20_apply]
  congr 1
  funext a
  match a with
  | ⟨0, _⟩ => apply Fin.ext; show (r.val * 1024 + q.val) / 2097152 = r.val / 2048; omega
  | ⟨1, _⟩ => apply Fin.ext; show (r.val * 1024 + q.val) / 1024 % 2048 = r.val % 2048; omega
  | ⟨2, _⟩ => apply Fin.ext; show (r.val * 1024 + q.val) % 1024 = q.val; omega

theorem tokAt_divmod (r : Fin 32768) : tokAt ⟨r.val / 2048, by omega⟩ ⟨r.val % 2048, by omega⟩ = r := by
  apply Fin.ext
  show r.val / 2048 * 2048 + r.val % 2048 = r.val
  omega

/-- The normed row at a token counted over all batches. -/
theorem normed_at (r : Fin 32768) (k : Fin 1024) :
    val_main_v20 (F := Ideal) x0 x1 x2 x3 (ix2 r k)
      = h2Row (fun k => x0 (ix2 r k)) (fun k => x1 (ix2 0 k)) (fun k => x2 (ix3 ⟨r.val / 2048, by omega⟩ 0 k)) (fun k => x3 (ix3 ⟨r.val / 2048, by omega⟩ 0 k)) k := by
  rw [v20_at, v19_at, tokAt_divmod]

/-- The reference's result at token `r`, column `q`. -/
theorem v25_at (r : Fin 32768) (q : Fin 5632) :
    val_main_v25 (F := Ideal) x0 x1 x2 x3 x4 x5 (ix2 r q)
      = colRow (h2Row (fun k => x0 (ix2 r k)) (fun k => x1 (ix2 0 k)) (fun k => x2 (ix3 ⟨r.val / 2048, by omega⟩ 0 k)) (fun k => x3 (ix3 ⟨r.val / 2048, by omega⟩ 0 k)))
          (fun k q => x4 (ix2 k q)) (fun q => x5 (ix2 0 q)) q := by
  simp only [colRow, ← normed_at]
  pointwise [val_main_v25, val_main_v24, val_main_v23, val_main_v22, val_main_v21]

end Cert.InProj

end
-- ==== Proof.InProj.Kernel.lean ====
/-
  The array the input projection leaves: every block the pipeline writes back is the reference's value on that block's rows
  and columns, and the blocks cover the array.
-/
module

public import proofs.«01_k».proof.Proof.InProj.Stored
public import proofs.«01_k».proof.Proof.InProj.Block
public import proofs.«01_k».proof.Proof.InProj.Ref

@[expose] public section

set_option maxRecDepth 16384

noncomputable section

namespace Cert.InProj

open Idealize.ShloMosaic Idealize.ShloMosaic.TcCoe Idealize.SL.Sem
open Cert.Kernel2Ideal Cert.Kernel2Ideal.Gen Cert.Kernel2Ideal.Value Cert.Layer

variable (m : (ℓ : Loc nD τ sig) → Buf (Elt Ideal) ℓ)

theorem points_eq : cfg0.N = 128 := N_0

/-- The row of the whole array that row `r` of point `t`'s block is. -/
abbrev rowOf (t : Fin cfg0.N) (r : Fin 1024) : Fin 32768 :=
  ⟨t.val / 4 * 1024 + r.val, by have ht : t.val < 128 := t.isLt; have := r.isLt; omega⟩

/-- The column of the whole array that column `q` of point `t`'s block is. -/
abbrev colOf (t : Fin cfg0.N) (q : Fin 1408) : Fin 5632 :=
  ⟨t.val % 4 * 1408 + q.val, by have := q.isLt; omega⟩

/-- The batch point `t` lies in. -/
abbrev batOf (t : Fin cfg0.N) : Fin 16 := ⟨t.val / 8, by have ht : t.val < 128 := t.isLt; omega⟩

/-- The first point of point `t`'s row block. -/
abbrev firstOf (t : Fin cfg0.N) : Fin cfg0.N := ⟨t.val / 4 * 4, by have ht := t.isLt; omega⟩

theorem win0_ix : ∀ t : Fin cfg0.N, win0_0.index t (0 : Fin 2) = t.val / 4 ∧ win0_0.index t (1 : Fin 2) = 0 :=
  (by decide +kernel : ∀ t : Fin grid0.N, _)

theorem blk0_at (c : Dev nD) (t : Fin cfg0.N) (r : Fin 1024) (k : Fin 1024) :
    iblk m c 0 t (ix2 r k) = m ((c : Thread nD τ).loc main_arg0) (ix2 (rowOf t r) k) := by
  obtain ⟨e0, e1⟩ := win0_ix t
  show m ((c : Thread nD τ).loc main_arg0) (((cfg0.win 0).blk t).view.emb (ix2 r k)) = _
  congr 1
  funext a
  match a with
  | ⟨0, _⟩ => exact Fin.ext (by show win0_0.index t (0 : Fin 2) * 1024 + 1 * r.val = t.val / 4 * 1024 + r.val; omega)
  | ⟨1, _⟩ => exact Fin.ext (by show win0_0.index t (1 : Fin 2) * 1024 + 1 * k.val = k.val; omega)

theorem win1_ix : ∀ t : Fin cfg0.N, win0_1.index t (0 : Fin 2) = 0 ∧ win0_1.index t (1 : Fin 2) = 0 :=
  (by decide +kernel : ∀ t : Fin grid0.N, _)

theorem blk1_at (c : Dev nD) (t : Fin cfg0.N) (r : Fin 1) (k : Fin 1024) :
    iblk m c 1 t (ix2 r k) = m ((c : Thread nD τ).loc main_arg1) (ix2 r k) := by
  obtain ⟨e0, e1⟩ := win1_ix t
  show m ((c : Thread nD τ).loc main_arg1) (((cfg0.win 1).blk t).view.emb (ix2 r k)) = _
  congr 1
  funext a
  match a with
  | ⟨0, _⟩ => exact Fin.ext (by show win0_1.index t (0 : Fin 2) * 1 + 1 * r.val = r.val; omega)
  | ⟨1, _⟩ => exact Fin.ext (by show win0_1.index t (1 : Fin 2) * 1024 + 1 * k.val = k.val; omega)

theorem win2_ix : ∀ t : Fin cfg0.N, win0_2.index t (0 : Fin 3) = t.val / 8 ∧ win0_2.index t (1 : Fin 3) = 0 ∧ win0_2.index t (2 : Fin 3) = 0 :=
  (by decide +kernel : ∀ t : Fin grid0.N, _)

theorem blk2_at (c : Dev nD) (t : Fin cfg0.N) (k : Fin 1024) :
    iblk m c 2 t (ix3 0 0 k) = m ((c : Thread nD τ).loc main_arg2) (ix3 (batOf t) 0 k) := by
  obtain ⟨e0, e1, e2⟩ := win2_ix t
  show m ((c : Thread nD τ).loc main_arg2) (((cfg0.win 2).blk t).view.emb (ix3 0 0 k)) = _
  congr 1
  funext a
  match a with
  | ⟨0, _⟩ => exact Fin.ext (by show win0_2.index t (0 : Fin 3) * 1 + 1 * 0 = t.val / 8; omega)
  | ⟨1, _⟩ => exact Fin.ext (by show win0_2.index t (1 : Fin 3) * 1 + 1 * 0 = 0; omega)
  | ⟨2, _⟩ => exact Fin.ext (by show win0_2.index t (2 : Fin 3) * 1024 + 1 * k.val = k.val; omega)

theorem win3_ix : ∀ t : Fin cfg0.N, win0_3.index t (0 : Fin 3) = t.val / 8 ∧ win0_3.index t (1 : Fin 3) = 0 ∧ win0_3.index t (2 : Fin 3) = 0 :=
  (by decide +kernel : ∀ t : Fin grid0.N, _)

theorem blk3_at (c : Dev nD) (t : Fin cfg0.N) (k : Fin 1024) :
    iblk m c 3 t (ix3 0 0 k) = m ((c : Thread nD τ).loc main_arg3) (ix3 (batOf t) 0 k) := by
  obtain ⟨e0, e1, e2⟩ := win3_ix t
  show m ((c : Thread nD τ).loc main_arg3) (((cfg0.win 3).blk t).view.emb (ix3 0 0 k)) = _
  congr 1
  funext a
  match a with
  | ⟨0, _⟩ => exact Fin.ext (by show win0_3.index t (0 : Fin 3) * 1 + 1 * 0 = t.val / 8; omega)
  | ⟨1, _⟩ => exact Fin.ext (by show win0_3.index t (1 : Fin 3) * 1 + 1 * 0 = 0; omega)
  | ⟨2, _⟩ => exact Fin.ext (by show win0_3.index t (2 : Fin 3) * 1024 + 1 * k.val = k.val; omega)

theorem win4_ix : ∀ t : Fin cfg0.N, win0_4.index t (0 : Fin 2) = 0 ∧ win0_4.index t (1 : Fin 2) = t.val % 4 :=
  (by decide +kernel : ∀ t : Fin grid0.N, _)

theorem blk4_at (c : Dev nD) (t : Fin cfg0.N) (r : Fin 1024) (k : Fin 1408) :
    iblk m c 4 t (ix2 r k) = m ((c : Thread nD τ).loc main_arg4) (ix2 r (colOf t k)) := by
  obtain ⟨e0, e1⟩ := win4_ix t
  show m ((c : Thread nD τ).loc main_arg4) (((cfg0.win 4).blk t).view.emb (ix2 r k)) = _
  congr 1
  funext a
  match a with
  | ⟨0, _⟩ => exact Fin.ext (by show win0_4.index t (0 : Fin 2) * 1024 + 1 * r.val = r.val; omega)
  | ⟨1, _⟩ => exact Fin.ext (by show win0_4.index t (1 : Fin 2) * 1408 + 1 * k.val = t.val % 4 * 1408 + k.val; omega)

theorem win5_ix : ∀ t : Fin cfg0.N, win0_5.index t (0 : Fin 2) = 0 ∧ win0_5.index t (1 : Fin 2) = t.val % 4 :=
  (by decide +kernel : ∀ t : Fin grid0.N, _)

theorem blk5_at (c : Dev nD) (t : Fin cfg0.N) (r : Fin 1) (k : Fin 1408) :
    iblk m c 5 t (ix2 r k) = m ((c : Thread nD τ).loc main_arg5) (ix2 r (colOf t k)) := by
  obtain ⟨e0, e1⟩ := win5_ix t
  show m ((c : Thread nD τ).loc main_arg5) (((cfg0.win 5).blk t).view.emb (ix2 r k)) = _
  congr 1
  funext a
  match a with
  | ⟨0, _⟩ => exact Fin.ext (by show win0_5.index t (0 : Fin 2) * 1 + 1 * r.val = r.val; omega)
  | ⟨1, _⟩ => exact Fin.ext (by show win0_5.index t (1 : Fin 2) * 1408 + 1 * k.val = t.val % 4 * 1408 + k.val; omega)

theorem win6_ix : ∀ t : Fin cfg0.N, win0_6.index t (0 : Fin 2) = t.val / 4 ∧ win0_6.index t (1 : Fin 2) = t.val % 4 :=
  (by decide +kernel : ∀ t : Fin grid0.N, _)

/-- The projection as the reference computes it, over the kernel's arguments. -/
abbrev yRef (c : Dev nD) : S32768x5632.Idx → EReal :=
  Cert.Reference2Ideal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The normed row `r` of point `t`'s block. -/
abbrev normRow (c : Dev nD) (t : Fin cfg0.N) (r : Fin 1024) : Fin 1024 → EReal :=
  h2Row (fun k => m ((c : Thread nD τ).loc main_arg0) (ix2 (rowOf t r) k)) (fun k => m ((c : Thread nD τ).loc main_arg1) (ix2 0 k))
    (fun k => m ((c : Thread nD τ).loc main_arg2) (ix3 (batOf t) 0 k)) (fun k => m ((c : Thread nD τ).loc main_arg3) (ix3 (batOf t) 0 k))

theorem rows_row (c : Dev nD) (t : Fin cfg0.N) (r : Fin 1024) (q : Fin 1024) :
    rowsBlk m c t (ix2 r q) = normRow m c t r q := by
  refine (pay1_at _ _ _ _ r q).trans ?_
  simp only [blk0_at, blk1_at, blk2_at, blk3_at]

/-- The rows kept after point `t`: those of its row block. -/
theorem kept_row (c : Dev nD) (t : Fin cfg0.N) (r : Fin 1024) (q : Fin 1024) :
    (outsAt0 m c t.val t.isLt).2 (ix2 r q) = normRow m c t r q := by
  have ht : t.val / 4 * 4 + t.val % 4 = t.val := by omega
  have h : (outsAt0 m c t.val t.isLt).2 = rowsBlk m c (firstOf t) := by
    have := kept m c (t.val / 4) (t.val % 4) (by omega) (by have := t.isLt; omega)
    simp only [ht] at this
    exact this
  rw [h, rows_row]
  have hr : rowOf (firstOf t) r = rowOf t r := Fin.ext (by show t.val / 4 * 4 / 4 * 1024 + r.val = t.val / 4 * 1024 + r.val; omega)
  have hb : batOf (firstOf t) = batOf t := Fin.ext (by show t.val / 4 * 4 / 8 = t.val / 8; omega)
  simp only [normRow, hr, hb]

theorem y_row (c : Dev nD) (t : Fin cfg0.N) (r : Fin 1024) (q : Fin 1408) :
    (outsAt0 m c t.val t.isLt).1 (ix2 r q) = yRef m c (ix2 (rowOf t r) (colOf t q)) := by
  rw [stored]
  refine (pay2_at _ _ _ r q).trans ?_
  refine Eq.trans ?_ (v25_at _ _ _ _ _ _ (rowOf t r) (colOf t q)).symm
  have hb : (⟨(rowOf t r).val / 2048, by omega⟩ : Fin 16) = batOf t :=
    Fin.ext (by show (t.val / 4 * 1024 + r.val) / 2048 = t.val / 8; have := r.isLt; omega)
  simp only [colRow, kept_row, blk4_at, blk5_at, hb]

theorem y_flushed (c : Dev nD) (t : Fin cfg0.N) :
    (dats m 0 c).flushed 6 t = ((cfg0.win 6).blk t).view.read (Elt Ideal) (yRef m c) := by
  obtain ⟨e0, e1⟩ := win6_ix t
  rw [flushed6]
  funext y
  have hy0 : (y 0).val < 1024 := (y 0).isLt
  have hy1 : (y 1).val < 1408 := (y 1).isLt
  have hl : (cfg0.win 6).xinj (grid0.coords t) y = ix2 (⟨(y 0).val, hy0⟩ : Fin 1024) (⟨(y 1).val, hy1⟩ : Fin 1408) := by
    funext a
    match a with
    | ⟨0, _⟩ => rfl
    | ⟨1, _⟩ => rfl
  have hr : ((cfg0.win 6).blk t).view.emb y = ix2 (rowOf t ⟨(y 0).val, hy0⟩) (colOf t ⟨(y 1).val, hy1⟩) := by
    funext a
    match a with
    | ⟨0, _⟩ => exact Fin.ext (by show win0_6.index t (0 : Fin 2) * 1024 + 1 * (y 0).val = t.val / 4 * 1024 + (y 0).val; omega)
    | ⟨1, _⟩ => exact Fin.ext (by show win0_6.index t (1 : Fin 2) * 1408 + 1 * (y 1).val = t.val % 4 * 1408 + (y 1).val; omega)
  show (outsAt0 m c t.val t.isLt).1 ((cfg0.win 6).xinj (grid0.coords t) y) = yRef m c (((cfg0.win 6).blk t).view.emb y)
  rw [hl, hr, y_row]

/-- The array after the run is the reference's. -/
theorem y_array (c : Dev nD) : (dats m 0 c).arrAt 6 cfg0.N = yRef m c :=
  (dats m 0 c).arrAt_eq_of_cover 6 (yRef m c) (fun t _ => y_flushed m c t) (fun i => (covered_iff6 i).2 (by
    have h0 : (i 0).val < 32768 := (i 0).isLt
    have h1 : (i 1).val < 5632 := (i 1).isLt
    omega))

end Cert.InProj

end
-- ==== Proof.InProjFloat.Block.lean ====
/-
  The input projection's float columns at an index: the block the kernel stores, and the reference. The normed rows are the
  same function of the inputs as for the bf16 columns.
-/
module

public import proofs.«01_k».proof.Proof.InProj.Ref
public import proofs.«01_k».proof.Proof.Gen.Kernel4Ideal.Skeleton
public import proofs.«01_k».proof.Proof.Gen.Reference4Ideal.Read
public import Idealize.ShloMosaic.Lib.Pointwise

@[expose] public section

set_option maxRecDepth 16384

noncomputable section

namespace Cert.InProjFloat

open Idealize.ShloMosaic Cert.Kernel4Ideal Cert.Kernel4Ideal.Gen Cert.Layer Cert.InProj

/-- The normed rows at row `r`, column `q`. -/
theorem pay1_at (v10 : Vec Ideal S1024x1024 .f32) (v11 : Vec Ideal S1x1024 .f32) (v24 v30 : Vec Ideal S1x1x1024 .f32)
    (r : Fin 1024) (q : Fin 1024) :
    k0_pay1 (F := Ideal) v10 v11 v24 v30 (ix2 r q)
      = h2Row (fun k => v10 (ix2 r k)) (fun k => v11 (ix2 0 k)) (fun k => v24 (ix3 0 0 k)) (fun k => v30 (ix3 0 0 k)) q :=
  Cert.InProj.pay1_at v10 v11 v24 v30 r q

/-- The stored block at row `r`, column `q`, over the normed rows. -/
theorem pay2_at (v3 : Vec Ideal S1024x1024 .bf16) (v4 : Vec Ideal S1024x1152 .bf16) (v6 : Vec Ideal S1x1152 .f32)
    (r : Fin 1024) (q : Fin 1152) :
    k0_pay2 (F := Ideal) v3 v4 v6 (ix2 r q)
      = colRow (fun k => v3 (ix2 r k)) (fun k q => v4 (ix2 k q)) (fun q => v6 (ix2 0 q)) q := by
  pointwise [k0_pay2]
  rfl

section Reference

open Cert.Reference4Ideal Cert.Reference4Ideal.Read

variable (x0 : (⟨Cert.Reference4Ideal.S32768x1024, .f32⟩ : BufTy).Contents (Elt Ideal)) (x1 : (⟨Cert.Reference4Ideal.S1x1024, .f32⟩ : BufTy).Contents (Elt Ideal)) (x2 x3 : (⟨Cert.Reference4Ideal.S16x1x1024, .f32⟩ : BufTy).Contents (Elt Ideal)) (x4 : (⟨Cert.Reference4Ideal.S1024x1152, .bf16⟩ : BufTy).Contents (Elt Ideal)) (x5 : (⟨Cert.Reference4Ideal.S1x1152, .f32⟩ : BufTy).Contents (Elt Ideal))

/-- The reference's normed rows are those of the bf16 columns' reference. -/
theorem v20_same : val_main_v20 (F := Ideal) x0 x1 x2 x3 = Cert.Reference2Ideal.Read.val_main_v20 (F := Ideal) x0 x1 x2 x3 := rfl

/-- The reference's result at token `r`, column `q`. -/
theorem v24_at (r : Fin 32768) (q : Fin 1152) :
    val_main_v24 (F := Ideal) x0 x1 x2 x3 x4 x5 (ix2 r q)
      = colRow (h2Row (fun k => x0 (ix2 r k)) (fun k => x1 (ix2 0 k)) (fun k => x2 (ix3 ⟨r.val / 2048, by omega⟩ 0 k)) (fun k => x3 (ix3 ⟨r.val / 2048, by omega⟩ 0 k)))
          (fun k q => x4 (ix2 k q)) (fun q => x5 (ix2 0 q)) q := by
  have h : ∀ k : Fin 1024, val_main_v20 (F := Ideal) x0 x1 x2 x3 (ix2 r k)
      = h2Row (fun k => x0 (ix2 r k)) (fun k => x1 (ix2 0 k)) (fun k => x2 (ix3 ⟨r.val / 2048, by omega⟩ 0 k)) (fun k => x3 (ix3 ⟨r.val / 2048, by omega⟩ 0 k)) k :=
    fun k => (congrFun (v20_same x0 x1 x2 x3) (ix2 r k)).trans (normed_at x0 x1 x2 x3 r k)
  simp only [colRow, ← h]
  pointwise [val_main_v24, val_main_v23, val_main_v22, val_main_v21]

end Reference

end Cert.InProjFloat

end
-- ==== Proof.InProjFloat.Kernel.lean ====
/-
  The array the input projection leaves of its float columns: every point norms its rows, stores them against all columns,
  and the blocks cover the array.
-/
module

public import proofs.«01_k».proof.Proof.InProjFloat.Block
public import proofs.«01_k».proof.Proof.Gen.Kernel4Ideal.Value
public import Idealize.ShloMosaic.Lib.Pipeline.Value
public import Idealize.ShloMosaic.Lib.Tactic

@[expose] public section

set_option maxRecDepth 16384

noncomputable section

namespace Cert.InProjFloat

open Idealize.ShloMosaic Idealize.ShloMosaic.TcCoe Idealize.SL.Sem
open Cert.Kernel4Ideal Cert.Kernel4Ideal.Gen Cert.Kernel4Ideal.Value Cert.Layer Cert.InProj

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

theorem points_eq : cfg0.N = 32 := N_0

/-- The row of the whole array that row `r` of point `t`'s block is. -/
abbrev rowOf (t : Fin cfg0.N) (r : Fin 1024) : Fin 32768 :=
  ⟨t.val * 1024 + r.val, by have ht : t.val < 32 := t.isLt; have := r.isLt; omega⟩

/-- The batch point `t` lies in. -/
abbrev batOf (t : Fin cfg0.N) : Fin 16 := ⟨t.val / 2, by have ht : t.val < 32 := t.isLt; omega⟩

/-- The normed rows that point `t`'s input blocks give. -/
abbrev rowsBlk (c : Dev nD) (t : Fin cfg0.N) : Vec Ideal S1024x1024 .bf16 :=
  k0_pay1 (F := Ideal) (iblk m c 0 t) (iblk m c 1 t) (iblk m c 2 t) (iblk m c 3 t)

/-- The block stored at point `t`. -/
theorem stored (c : Dev nD) (t : Fin cfg0.N) :
    outsAt0 m c t = k0_pay2 (F := Ideal) (rowsBlk m c t) (iblk m c 4 t) (iblk m c 5 t) := by
  unfold outsAt0 out0_A_6
  rw [View.read_writes_eq_canon _ _ _ (fun y => by exact cover0_A_6 (y := y) ..)]
  unfold kernelRun0_A
  dsimp only
  sl_unfold_words
  rw [View.canon_unit_zero zero2]
  simp only [View.readCov_unit_zero (S := S1024x1024) _ zero2, View.readAt_eq_ld, (hs0_0 t).read_unread, (hs0_1 t).read_unread, (hs0_2 t).read_unread, (hs0_3 t).read_unread, (hs0_4 t).read_unread, (hs0_5 t).read_unread, View.ld_unit_zero (S := S1024x1024) zero2, View.ld_unit_zero (S := S1024x1152) zero2, View.ld_unit_zero (S := S1x1024) zero2, View.ld_unit_zero (S := S1x1152) zero2, View.ld_unit_zero (S := S1x1x1024) zero3]

theorem win0_ix : ∀ t : Fin cfg0.N, win0_0.index t (0 : Fin 2) = t.val ∧ win0_0.index t (1 : Fin 2) = 0 :=
  (by decide +kernel : ∀ t : Fin grid0.N, _)

theorem blk0_at (c : Dev nD) (t : Fin cfg0.N) (r : Fin 1024) (k : Fin 1024) :
    iblk m c 0 t (ix2 r k) = m ((c : Thread nD τ).loc main_arg0) (ix2 (rowOf t r) k) := by
  obtain ⟨e0, e1⟩ := win0_ix t
  show m ((c : Thread nD τ).loc main_arg0) (((cfg0.win 0).blk t).view.emb (ix2 r k)) = _
  congr 1
  funext a
  match a with
  | ⟨0, _⟩ => exact Fin.ext (by show win0_0.index t (0 : Fin 2) * 1024 + 1 * r.val = t.val * 1024 + r.val; omega)
  | ⟨1, _⟩ => exact Fin.ext (by show win0_0.index t (1 : Fin 2) * 1024 + 1 * k.val = k.val; omega)

theorem win1_ix : ∀ t : Fin cfg0.N, win0_1.index t (0 : Fin 2) = 0 ∧ win0_1.index t (1 : Fin 2) = 0 :=
  (by decide +kernel : ∀ t : Fin grid0.N, _)

theorem blk1_at (c : Dev nD) (t : Fin cfg0.N) (r : Fin 1) (k : Fin 1024) :
    iblk m c 1 t (ix2 r k) = m ((c : Thread nD τ).loc main_arg1) (ix2 r k) := by
  obtain ⟨e0, e1⟩ := win1_ix t
  show m ((c : Thread nD τ).loc main_arg1) (((cfg0.win 1).blk t).view.emb (ix2 r k)) = _
  congr 1
  funext a
  match a with
  | ⟨0, _⟩ => exact Fin.ext (by show win0_1.index t (0 : Fin 2) * 1 + 1 * r.val = r.val; omega)
  | ⟨1, _⟩ => exact Fin.ext (by show win0_1.index t (1 : Fin 2) * 1024 + 1 * k.val = k.val; omega)

theorem win2_ix : ∀ t : Fin cfg0.N, win0_2.index t (0 : Fin 3) = t.val / 2 ∧ win0_2.index t (1 : Fin 3) = 0 ∧ win0_2.index t (2 : Fin 3) = 0 :=
  (by decide +kernel : ∀ t : Fin grid0.N, _)

theorem blk2_at (c : Dev nD) (t : Fin cfg0.N) (k : Fin 1024) :
    iblk m c 2 t (ix3 0 0 k) = m ((c : Thread nD τ).loc main_arg2) (ix3 (batOf t) 0 k) := by
  obtain ⟨e0, e1, e2⟩ := win2_ix t
  show m ((c : Thread nD τ).loc main_arg2) (((cfg0.win 2).blk t).view.emb (ix3 0 0 k)) = _
  congr 1
  funext a
  match a with
  | ⟨0, _⟩ => exact Fin.ext (by show win0_2.index t (0 : Fin 3) * 1 + 1 * 0 = t.val / 2; omega)
  | ⟨1, _⟩ => exact Fin.ext (by show win0_2.index t (1 : Fin 3) * 1 + 1 * 0 = 0; omega)
  | ⟨2, _⟩ => exact Fin.ext (by show win0_2.index t (2 : Fin 3) * 1024 + 1 * k.val = k.val; omega)

theorem win3_ix : ∀ t : Fin cfg0.N, win0_3.index t (0 : Fin 3) = t.val / 2 ∧ win0_3.index t (1 : Fin 3) = 0 ∧ win0_3.index t (2 : Fin 3) = 0 :=
  (by decide +kernel : ∀ t : Fin grid0.N, _)

theorem blk3_at (c : Dev nD) (t : Fin cfg0.N) (k : Fin 1024) :
    iblk m c 3 t (ix3 0 0 k) = m ((c : Thread nD τ).loc main_arg3) (ix3 (batOf t) 0 k) := by
  obtain ⟨e0, e1, e2⟩ := win3_ix t
  show m ((c : Thread nD τ).loc main_arg3) (((cfg0.win 3).blk t).view.emb (ix3 0 0 k)) = _
  congr 1
  funext a
  match a with
  | ⟨0, _⟩ => exact Fin.ext (by show win0_3.index t (0 : Fin 3) * 1 + 1 * 0 = t.val / 2; omega)
  | ⟨1, _⟩ => exact Fin.ext (by show win0_3.index t (1 : Fin 3) * 1 + 1 * 0 = 0; omega)
  | ⟨2, _⟩ => exact Fin.ext (by show win0_3.index t (2 : Fin 3) * 1024 + 1 * k.val = k.val; omega)

theorem win4_ix : ∀ t : Fin cfg0.N, win0_4.index t (0 : Fin 2) = 0 ∧ win0_4.index t (1 : Fin 2) = 0 :=
  (by decide +kernel : ∀ t : Fin grid0.N, _)

theorem blk4_at (c : Dev nD) (t : Fin cfg0.N) (r : Fin 1024) (k : Fin 1152) :
    iblk m c 4 t (ix2 r k) = m ((c : Thread nD τ).loc main_arg4) (ix2 r k) := by
  obtain ⟨e0, e1⟩ := win4_ix t
  show m ((c : Thread nD τ).loc main_arg4) (((cfg0.win 4).blk t).view.emb (ix2 r k)) = _
  congr 1
  funext a
  match a with
  | ⟨0, _⟩ => exact Fin.ext (by show win0_4.index t (0 : Fin 2) * 1024 + 1 * r.val = r.val; omega)
  | ⟨1, _⟩ => exact Fin.ext (by show win0_4.index t (1 : Fin 2) * 1152 + 1 * k.val = k.val; omega)

theorem win5_ix : ∀ t : Fin cfg0.N, win0_5.index t (0 : Fin 2) = 0 ∧ win0_5.index t (1 : Fin 2) = 0 :=
  (by decide +kernel : ∀ t : Fin grid0.N, _)

theorem blk5_at (c : Dev nD) (t : Fin cfg0.N) (r : Fin 1) (k : Fin 1152) :
    iblk m c 5 t (ix2 r k) = m ((c : Thread nD τ).loc main_arg5) (ix2 r k) := by
  obtain ⟨e0, e1⟩ := win5_ix t
  show m ((c : Thread nD τ).loc main_arg5) (((cfg0.win 5).blk t).view.emb (ix2 r k)) = _
  congr 1
  funext a
  match a with
  | ⟨0, _⟩ => exact Fin.ext (by show win0_5.index t (0 : Fin 2) * 1 + 1 * r.val = r.val; omega)
  | ⟨1, _⟩ => exact Fin.ext (by show win0_5.index t (1 : Fin 2) * 1152 + 1 * k.val = k.val; omega)

theorem win6_ix : ∀ t : Fin cfg0.N, win0_6.index t (0 : Fin 2) = t.val ∧ win0_6.index t (1 : Fin 2) = 0 :=
  (by decide +kernel : ∀ t : Fin grid0.N, _)

/-- The projection as the reference computes it, over the kernel's arguments. -/
abbrev yRef (c : Dev nD) : S32768x1152.Idx → EReal :=
  Cert.Reference4Ideal.Read.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The normed row `r` of point `t`'s block. -/
abbrev normRow (c : Dev nD) (t : Fin cfg0.N) (r : Fin 1024) : Fin 1024 → EReal :=
  h2Row (fun k => m ((c : Thread nD τ).loc main_arg0) (ix2 (rowOf t r) k)) (fun k => m ((c : Thread nD τ).loc main_arg1) (ix2 0 k))
    (fun k => m ((c : Thread nD τ).loc main_arg2) (ix3 (batOf t) 0 k)) (fun k => m ((c : Thread nD τ).loc main_arg3) (ix3 (batOf t) 0 k))

theorem rows_row (c : Dev nD) (t : Fin cfg0.N) (r : Fin 1024) (q : Fin 1024) :
    rowsBlk m c t (ix2 r q) = normRow m c t r q := by
  refine (pay1_at _ _ _ _ r q).trans ?_
  simp only [blk0_at, blk1_at, blk2_at, blk3_at]

theorem y_row (c : Dev nD) (t : Fin cfg0.N) (r : Fin 1024) (q : Fin 1152) :
    outsAt0 m c t (ix2 r q) = yRef m c (ix2 (rowOf t r) q) := by
  rw [stored]
  refine (pay2_at _ _ _ r q).trans ?_
  refine Eq.trans ?_ (v24_at _ _ _ _ _ _ (rowOf t r) q).symm
  have hb : (⟨(rowOf t r).val / 2048, by omega⟩ : Fin 16) = batOf t :=
    Fin.ext (by show (t.val * 1024 + r.val) / 2048 = t.val / 2; have := r.isLt; omega)
  simp only [colRow, rows_row, blk4_at, blk5_at, hb]

theorem y_flushed (c : Dev nD) (t : Fin cfg0.N) :
    (dats m 0 c).flushed 6 t = ((cfg0.win 6).blk t).view.read (Elt Ideal) (yRef m c) := by
  obtain ⟨e0, e1⟩ := win6_ix t
  rw [flushed6]
  funext y
  have hy0 : (y 0).val < 1024 := (y 0).isLt
  have hy1 : (y 1).val < 1152 := (y 1).isLt
  have hl : (cfg0.win 6).xinj (grid0.coords t) y = ix2 (⟨(y 0).val, hy0⟩ : Fin 1024) (⟨(y 1).val, hy1⟩ : Fin 1152) := by
    funext a
    match a with
    | ⟨0, _⟩ => rfl
    | ⟨1, _⟩ => rfl
  have hr : ((cfg0.win 6).blk t).view.emb y = ix2 (rowOf t ⟨(y 0).val, hy0⟩) (⟨(y 1).val, hy1⟩ : Fin 1152) := by
    funext a
    match a with
    | ⟨0, _⟩ => exact Fin.ext (by show win0_6.index t (0 : Fin 2) * 1024 + 1 * (y 0).val = t.val * 1024 + (y 0).val; omega)
    | ⟨1, _⟩ => exact Fin.ext (by show win0_6.index t (1 : Fin 2) * 1152 + 1 * (y 1).val = (y 1).val; omega)
  show outsAt0 m c t ((cfg0.win 6).xinj (grid0.coords t) y) = yRef m c (((cfg0.win 6).blk t).view.emb y)
  rw [hl, hr, y_row]

/-- Every point writes its block back. -/
theorem flush6 : ∀ t : Fin cfg0.N, (cfg0.win 6).flush t = true :=
  (by decide +kernel : ∀ t : Fin grid0.N, (win0_6).flush t = true)

/-- The output blocks cover the array. -/
theorem y_cover (i : S32768x1152.Idx) :
    ∃ t : Fin cfg0.N, (cfg0.win 6).flush t = true ∧ i ∈ ((cfg0.win 6).blk t).view.set := by
  have h0 : (i 0).val < 32768 := (i 0).isLt
  have h1 : (i 1).val < 1152 := (i 1).isLt
  have ht : (i 0).val / 1024 < cfg0.N := by
    rw [points_eq]
    omega
  refine ⟨⟨(i 0).val / 1024, ht⟩, flush6 _, ?_⟩
  obtain ⟨e0, e1⟩ := win6_ix ⟨(i 0).val / 1024, ht⟩
  dsimp only at e0
  show i ∈ ((View.whole main_v0).slice ((cfg0.win 6).rect ⟨(i 0).val / 1024, ht⟩)).set
  rw [View.set_slice_whole, Rect.mem_set_unit]
  intro x
  match x with
  | ⟨0, _⟩ =>
    show win0_6.index ⟨(i 0).val / 1024, ht⟩ (0 : Fin 2) * 1024 ≤ (i 0).val ∧ (i 0).val < win0_6.index ⟨(i 0).val / 1024, ht⟩ (0 : Fin 2) * 1024 + 1024
    omega
  | ⟨1, _⟩ =>
    show win0_6.index ⟨(i 0).val / 1024, ht⟩ (1 : Fin 2) * 1152 ≤ (i 1).val ∧ (i 1).val < win0_6.index ⟨(i 0).val / 1024, ht⟩ (1 : Fin 2) * 1152 + 1152
    omega

/-- The array after the run is the reference's. -/
theorem y_array (c : Dev nD) : (dats m 0 c).arrAt 6 cfg0.N = yRef m c :=
  (dats m 0 c).arrAt_eq_of_cover 6 (yRef m c) (fun t _ => y_flushed m c t) (fun i => y_cover i)

end Cert.InProjFloat

end
-- ==== Proof.Experts.Run.lean ====
/-
  The expert kernel's body, run once per case: a block in use goes through its expert, any other is set to zero. Both
  cases are stated over whole staging buffers and over any contents of the two tables.
-/
module

public import proofs.«01_k».proof.Proof.Gen.Kernel3Ideal.Skeleton
public import proofs.«01_k».proof.Proof.Gen.Kernel3Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Experts

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The expert table, whole. -/
abbrev tbM0_0 : Memref sig .tc .smem S544 .i32 := Memref.whole main_arg0
/-- The number of blocks in use, whole. -/
abbrev tbM0_1 : Memref sig .tc .smem S1 .i32 := Memref.whole main_arg1

/-- One staging buffer of output window 5, through which its contents are stated (`View.read_writes_of_cover`). -/
abbrev VO0_5 : View sig .tc .vmem S256x1024 .f32 := (Memref.whole cc0_stg5_0 : Memref sig .tc .vmem S256x1024 .f32).view

set_option backward.proofsInPublic true in
set_option maxHeartbeats 8000000 in
/-- The body at a block in use: what it stores to the output block, found by running it, with the run.  -/
noncomputable def kernelRun0_A (c : Dev nD) (i : grid0.Coords) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole) (T0 : (S544.Idx → Elt F .i32)) (T1 : (S1.Idx → Elt F .i32))
     (x0 : (S256x1024.Idx → Elt F .f32)) (x1 : (S1x1024x2048.Idx → Elt F .bf16)) (x2 : (S1x1x2048.Idx → Elt F .f32)) (x3 : (S1x1024x1024.Idx → Elt F .bf16)) (x4 : (S1x1x1024.Idx → Elt F .f32)) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : ¬(k0_cond2 i (View.readAt (Elt F) (tbM0_1).view (Rect.unit (s := S1) ![0] S1.size inb_S1_S1_0).toLoadRect T1 (Shape.Idx.first (numel1_S1.symm ▸ Nat.one_pos))) = 1#1)) :
    { out0 : List (View.Piece (Elt F) S256x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt F) f out0)) -∗ K ⟨⟩))
          ⊢ wp frame (wpE (defs₀ (F := F)) Variants.none c none) Set.univ (cc0_moe_experts i tbM0_0 (Memref.isWhole_whole _) tbM0_1 (Memref.isWhole_whole _) arg3 harg3 arg4 harg4 arg5 harg5 arg6 harg6 arg7 harg7 arg8 harg8) K } :=
  ⟨_, fun K => by
    unfold owns
    rw [cc0_moe_experts_eq_skeleton]; unfold cc0_moe_experts_skel
    iintro ⟨H0, H1, H2, H3, H4, HT0, HT1, ⟨%d5, %f5, -, HO5⟩, Hk⟩
    have hT0 : tbM0_0.IsWhole := Memref.isWhole_whole _
    have hT1 : tbM0_1.IsWhole := Memref.isWhole_whole _
    sl_exec! (disch := first | (guard_target = k0_cond1 _ _ = _; exact k0_h1) | (guard_target = ¬(k0_cond2 _ _ = _); exact k0_h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    iexists _; iexact HO5⟩

/-- The one store covers the output block. -/
theorem cover0_A_5 (c : Dev nD) (i : grid0.Coords) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole) (T0 : (S544.Idx → Elt F .i32)) (T1 : (S1.Idx → Elt F .i32))
     (x0 : (S256x1024.Idx → Elt F .f32)) (x1 : (S1x1024x2048.Idx → Elt F .bf16)) (x2 : (S1x1x2048.Idx → Elt F .f32)) (x3 : (S1x1024x1024.Idx → Elt F .bf16)) (x4 : (S1x1x1024.Idx → Elt F .f32)) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : ¬(k0_cond2 i (View.readAt (Elt F) (tbM0_1).view (Rect.unit (s := S1) ![0] S1.size inb_S1_S1_0).toLoadRect T1 (Shape.Idx.first (numel1_S1.symm ▸ Nat.one_pos))) = 1#1)) (y : S256x1024.Idx) :
    ∃ pc ∈ (kernelRun0_A c i arg3 harg3 arg4 harg4 arg5 harg5 arg6 harg6 arg7 harg7 arg8 harg8 T0 T1 x0 x1 x2 x3 x4 k0_h1 k0_h2).1, y ∈ pc.1.set :=
  View.cover_of_tiledL (kernelRun0_A c i arg3 harg3 arg4 harg4 arg5 harg5 arg6 harg6 arg7 harg7 arg8 harg8 T0 T1 x0 x1 x2 x3 x4 k0_h1 k0_h2).1 S256x1024.size (by sl_kernel_rfl) y

/-- The output block after a block in use. -/
def out0_A_5 (c : Dev nD) (i : grid0.Coords) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole) (T0 : (S544.Idx → Elt F .i32)) (T1 : (S1.Idx → Elt F .i32))
     (x0 : (S256x1024.Idx → Elt F .f32)) (x1 : (S1x1024x2048.Idx → Elt F .bf16)) (x2 : (S1x1x2048.Idx → Elt F .f32)) (x3 : (S1x1024x1024.Idx → Elt F .bf16)) (x4 : (S1x1x1024.Idx → Elt F .f32)) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : ¬(k0_cond2 i (View.readAt (Elt F) (tbM0_1).view (Rect.unit (s := S1) ![0] S1.size inb_S1_S1_0).toLoadRect T1 (Shape.Idx.first (numel1_S1.symm ▸ Nat.one_pos))) = 1#1)) : (S256x1024.Idx → Elt F .f32) :=
  VO0_5.read (Elt F) (VO0_5.writes (Elt F) VO0_5.junk (kernelRun0_A c i arg3 harg3 arg4 harg4 arg5 harg5 arg6 harg6 arg7 harg7 arg8 harg8 T0 T1 x0 x1 x2 x3 x4 k0_h1 k0_h2).1)

set_option backward.proofsInPublic true in
set_option maxHeartbeats 8000000 in
/-- The body at a block past the last one in use: what it stores, found by running it, with the run. -/
noncomputable def kernelRun0_B (c : Dev nD) (i : grid0.Coords) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole) (T0 : (S544.Idx → Elt F .i32)) (T1 : (S1.Idx → Elt F .i32))
     (x0 : (S256x1024.Idx → Elt F .f32)) (x1 : (S1x1024x2048.Idx → Elt F .bf16)) (x2 : (S1x1x2048.Idx → Elt F .f32)) (x3 : (S1x1024x1024.Idx → Elt F .bf16)) (x4 : (S1x1x1024.Idx → Elt F .f32)) (k0_h1 : ¬(k0_cond1 i (View.readAt (Elt F) (tbM0_1).view (Rect.unit (s := S1) ![0] S1.size inb_S1_S1_0).toLoadRect T1 (Shape.Idx.first (numel1_S1.symm ▸ Nat.one_pos))) = 1#1)) (k0_h2 : k0_cond2 i (View.readAt (Elt F) (tbM0_1).view (Rect.unit (s := S1) ![0] S1.size inb_S1_S1_0).toLoadRect T1 (Shape.Idx.first (numel1_S1.symm ▸ Nat.one_pos))) = 1#1) :
    { out0 : List (View.Piece (Elt F) S256x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt F) f out0)) -∗ K ⟨⟩))
          ⊢ wp frame (wpE (defs₀ (F := F)) Variants.none c none) Set.univ (cc0_moe_experts i tbM0_0 (Memref.isWhole_whole _) tbM0_1 (Memref.isWhole_whole _) arg3 harg3 arg4 harg4 arg5 harg5 arg6 harg6 arg7 harg7 arg8 harg8) K } :=
  ⟨_, fun K => by
    unfold owns
    rw [cc0_moe_experts_eq_skeleton]; unfold cc0_moe_experts_skel
    iintro ⟨H0, H1, H2, H3, H4, HT0, HT1, ⟨%d5, %f5, -, HO5⟩, Hk⟩
    have hT0 : tbM0_0.IsWhole := Memref.isWhole_whole _
    have hT1 : tbM0_1.IsWhole := Memref.isWhole_whole _
    sl_exec! (disch := first | (guard_target = ¬(k0_cond1 _ _ = _); exact k0_h1) | (guard_target = k0_cond2 _ _ = _; exact k0_h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    iexists _; iexact HO5⟩

/-- The one store covers the output block. -/
theorem cover0_B_5 (c : Dev nD) (i : grid0.Coords) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole) (T0 : (S544.Idx → Elt F .i32)) (T1 : (S1.Idx → Elt F .i32))
     (x0 : (S256x1024.Idx → Elt F .f32)) (x1 : (S1x1024x2048.Idx → Elt F .bf16)) (x2 : (S1x1x2048.Idx → Elt F .f32)) (x3 : (S1x1024x1024.Idx → Elt F .bf16)) (x4 : (S1x1x1024.Idx → Elt F .f32)) (k0_h1 : ¬(k0_cond1 i (View.readAt (Elt F) (tbM0_1).view (Rect.unit (s := S1) ![0] S1.size inb_S1_S1_0).toLoadRect T1 (Shape.Idx.first (numel1_S1.symm ▸ Nat.one_pos))) = 1#1)) (k0_h2 : k0_cond2 i (View.readAt (Elt F) (tbM0_1).view (Rect.unit (s := S1) ![0] S1.size inb_S1_S1_0).toLoadRect T1 (Shape.Idx.first (numel1_S1.symm ▸ Nat.one_pos))) = 1#1) (y : S256x1024.Idx) :
    ∃ pc ∈ (kernelRun0_B c i arg3 harg3 arg4 harg4 arg5 harg5 arg6 harg6 arg7 harg7 arg8 harg8 T0 T1 x0 x1 x2 x3 x4 k0_h1 k0_h2).1, y ∈ pc.1.set :=
  View.cover_of_tiledL (kernelRun0_B c i arg3 harg3 arg4 harg4 arg5 harg5 arg6 harg6 arg7 harg7 arg8 harg8 T0 T1 x0 x1 x2 x3 x4 k0_h1 k0_h2).1 S256x1024.size (by sl_kernel_rfl) y

/-- The output block after a block not in use. -/
def out0_B_5 (c : Dev nD) (i : grid0.Coords) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole) (T0 : (S544.Idx → Elt F .i32)) (T1 : (S1.Idx → Elt F .i32))
     (x0 : (S256x1024.Idx → Elt F .f32)) (x1 : (S1x1024x2048.Idx → Elt F .bf16)) (x2 : (S1x1x2048.Idx → Elt F .f32)) (x3 : (S1x1024x1024.Idx → Elt F .bf16)) (x4 : (S1x1x1024.Idx → Elt F .f32)) (k0_h1 : ¬(k0_cond1 i (View.readAt (Elt F) (tbM0_1).view (Rect.unit (s := S1) ![0] S1.size inb_S1_S1_0).toLoadRect T1 (Shape.Idx.first (numel1_S1.symm ▸ Nat.one_pos))) = 1#1)) (k0_h2 : k0_cond2 i (View.readAt (Elt F) (tbM0_1).view (Rect.unit (s := S1) ![0] S1.size inb_S1_S1_0).toLoadRect T1 (Shape.Idx.first (numel1_S1.symm ▸ Nat.one_pos))) = 1#1) : (S256x1024.Idx → Elt F .f32) :=
  VO0_5.read (Elt F) (VO0_5.writes (Elt F) VO0_5.junk (kernelRun0_B c i arg3 harg3 arg4 harg4 arg5 harg5 arg6 harg6 arg7 harg7 arg8 harg8 T0 T1 x0 x1 x2 x3 x4 k0_h1 k0_h2).1)

end Cert.Experts

end
-- ==== Proof.Experts.Frame.lean ====
/-
  The expert call's launch, at any tables whose blocks are inside their arrays: what each window holds at each point, the
  body there, the run, and the frame.
-/
module

public import proofs.«01_k».proof.Proof.Experts.Run
public import proofs.«01_k».proof.Proof.Gen.Kernel3Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Experts

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The launch's algebra. -/
abbrev EP : Emb (UR sig nD τ) 𝕄 := emb₁

variable (a : (pcfg0 (F := F)).Adm)

/-- The pipeline at the tables. -/
abbrev pcs : Fin 1 → Pipeline.Cfg sig Λ₀ := Pipeline.pin (pcfgs (F := F)) fun _ => a

/-- The expert of each block. -/
abbrev tab0 : S544.Idx → Elt F .i32 := a.1 0
/-- The number of blocks in use. -/
abbrev tab1 : S1.Idx → Elt F .i32 := a.1 1

variable (m : (ℓ : Loc nD τ sig) → Buf (Elt F) ℓ) (ρ : Dev nD → PrngReg)

/-- The memory holds the tables. -/
def Held (m : (ℓ : Loc nD τ sig) → Buf (Elt F) ℓ) : Prop :=
  (∀ c : Dev nD, m ((c : Thread nD τ).loc main_arg0) = tab0 a) ∧ (∀ c : Dev nD, m ((c : Thread nD τ).loc main_arg1) = tab1 a)

/-- Point `t`'s coordinates. -/
abbrev crd (t : Fin (cfg0 a).N) : (cfg0 a).grid.Coords := (cfg0 a).grid.coords t

abbrev ms0_0 (t : Fin (cfg0 a).N) : Memref sig .tc .vmem S256x1024 .f32 := spec0_0.stage ((cfg0 a).slots t (0 : Fin 6))
abbrev hs0_0 (t : Fin (cfg0 a).N) : (ms0_0 a t).IsWhole := hstage0_0 (((cfg0 a).slots t (0 : Fin 6)).cast nbuf0_0)
abbrev ms0_1 (t : Fin (cfg0 a).N) : Memref sig .tc .vmem S1x1024x2048 .bf16 := spec0_1.stage ((cfg0 a).slots t (1 : Fin 6))
abbrev hs0_1 (t : Fin (cfg0 a).N) : (ms0_1 a t).IsWhole := hstage0_1 (((cfg0 a).slots t (1 : Fin 6)).cast nbuf0_1)
abbrev ms0_2 (t : Fin (cfg0 a).N) : Memref sig .tc .vmem S1x1x2048 .f32 := spec0_2.stage ((cfg0 a).slots t (2 : Fin 6))
abbrev hs0_2 (t : Fin (cfg0 a).N) : (ms0_2 a t).IsWhole := hstage0_2 (((cfg0 a).slots t (2 : Fin 6)).cast nbuf0_2)
abbrev ms0_3 (t : Fin (cfg0 a).N) : Memref sig .tc .vmem S1x1024x1024 .bf16 := spec0_3.stage ((cfg0 a).slots t (3 : Fin 6))
abbrev hs0_3 (t : Fin (cfg0 a).N) : (ms0_3 a t).IsWhole := hstage0_3 (((cfg0 a).slots t (3 : Fin 6)).cast nbuf0_3)
abbrev ms0_4 (t : Fin (cfg0 a).N) : Memref sig .tc .vmem S1x1x1024 .f32 := spec0_4.stage ((cfg0 a).slots t (4 : Fin 6))
abbrev hs0_4 (t : Fin (cfg0 a).N) : (ms0_4 a t).IsWhole := hstage0_4 (((cfg0 a).slots t (4 : Fin 6)).cast nbuf0_4)
abbrev ms0_5 (t : Fin (cfg0 a).N) : Memref sig .tc .vmem S256x1024 .f32 := spec0_5.stage ((cfg0 a).slots t (5 : Fin 6))
abbrev hs0_5 (t : Fin (cfg0 a).N) : (ms0_5 a t).IsWhole := hstage0_5 (((cfg0 a).slots t (5 : Fin 6)).cast nbuf0_5)

/-- Window `w`'s block at point `t`, read off its array at launch. -/
def iblk (c : Dev nD) (w : Fin (cfg0 a).W) (t : Fin (cfg0 a).N) : (((cfg0 a).win w).xblock (crd a t)).Idx → Elt F ((cfg0 a).win w).elt :=
  (((cfg0 a).win w).blk t).view.read (Elt F) ((s₀ m ρ).mem (((cfg0 a).win w).arr.view.loc (c : Thread nD τ)))

/-! ## Which case a point is, and the output's schedule -/

/-- Block `t` is in use. -/
abbrev Used (t : Fin (cfg0 a).N) : Prop := k0_cond1 (crd a t) (View.readAt (Elt F) (tbM0_1).view (Rect.unit (s := S1) ![0] S1.size inb_S1_S1_0).toLoadRect (tab1 a) (Shape.Idx.first (numel1_S1.symm ▸ Nat.one_pos))) = 1#1

/-- The two conditions of the body exclude each other and one of them holds. -/
theorem conds (i : grid0.Coords) (w : BitVec 32) : k0_cond2 i w = 1#1 ↔ ¬ k0_cond1 i w = 1#1 := by
  unfold k0_cond1 k0_cond2 Scalar.cmpi IntOp.cmpi Scalar.extui
  simp only
  have h : (BitVec.ofNat 32 (i 0).val).slt w = !(w.sle (BitVec.ofNat 32 (i 0).val)) := by
    unfold BitVec.slt BitVec.sle
    rw [← decide_not]
    exact decide_eq_decide.2 Int.not_le.symm
  rw [h]
  cases w.sle (BitVec.ofNat 32 (i 0).val) <;> decide

theorem used_conds (t : Fin (cfg0 a).N) (h : Used a t) : k0_cond1 (crd a t) (View.readAt (Elt F) (tbM0_1).view (Rect.unit (s := S1) ![0] S1.size inb_S1_S1_0).toLoadRect (tab1 a) (Shape.Idx.first (numel1_S1.symm ▸ Nat.one_pos))) = 1#1 ∧ ¬ k0_cond2 (crd a t) (View.readAt (Elt F) (tbM0_1).view (Rect.unit (s := S1) ![0] S1.size inb_S1_S1_0).toLoadRect (tab1 a) (Shape.Idx.first (numel1_S1.symm ▸ Nat.one_pos))) = 1#1 :=
  ⟨h, fun h2 => (conds _ _).1 h2 h⟩

theorem unused_conds (t : Fin (cfg0 a).N) (h : ¬Used a t) : ¬ k0_cond1 (crd a t) (View.readAt (Elt F) (tbM0_1).view (Rect.unit (s := S1) ![0] S1.size inb_S1_S1_0).toLoadRect (tab1 a) (Shape.Idx.first (numel1_S1.symm ▸ Nat.one_pos))) = 1#1 ∧ k0_cond2 (crd a t) (View.readAt (Elt F) (tbM0_1).view (Rect.unit (s := S1) ![0] S1.size inb_S1_S1_0).toLoadRect (tab1 a) (Shape.Idx.first (numel1_S1.symm ▸ Nat.one_pos))) = 1#1 :=
  ⟨h, (conds _ _).2 h⟩

/-- Every point stores the output block. -/
theorem notIdle5 (t : Fin (cfg0 a).N) : (cfg0 a).idle (5 : Fin 6) ((cfg0 a).grid.coords t) = false := by
  show (!(k0_cond1 (crd a t) (a.1.atD 1 ![0]) == 1#1) && !(k0_cond2 (crd a t) (a.1.atD 1 ![0]) == 1#1)) = false
  have h := conds (crd a t) (a.1.atD 1 ![0])
  by_cases h1 : k0_cond1 (crd a t) (a.1.atD 1 ![0]) = 1#1
  · simp only [h1, beq_self_eq_true, Bool.not_true, Bool.false_and]
  · simp only [h.2 h1, beq_self_eq_true, Bool.not_true, Bool.and_false]

/-- Output blocks are taken in order: block `t` at point `t`. -/
theorem ix5 : ∀ t : Fin grid0.N, cc0_transform_5 (grid0.coords t) 0 = t.val ∧ cc0_transform_5 (grid0.coords t) 1 = 0 := by decide +kernel

/-- Every point writes its output block back. -/
theorem flush5 (t : Fin (cfg0 a).N) : ((cfg0 a).win (5 : Fin 6)).flush t = true := by
  unfold Pipeline.Window.flush
  rw [Bool.and_eq_true]
  refine ⟨rfl, ?_⟩
  by_cases h : t.val + 1 = grid0.N
  · rw [Bool.or_eq_true]; exact Or.inl (decide_eq_true h)
  · have hN : t.val < grid0.N := t.isLt
    rw [Bool.or_eq_true]
    refine Or.inr (decide_eq_true ⟨(by show t.val + 1 < grid0.N; omega), fun e => ?_⟩)
    have h1 := (ix5 ⟨t.val + 1, by omega⟩).1
    have h2 := (ix5 t).1
    have e0 := congrFun e (0 : Fin 2)
    have e1 : cc0_transform_5 (grid0.coords ⟨t.val + 1, by omega⟩) 0 = cc0_transform_5 (grid0.coords t) 0 := e0
    rw [h1, h2] at e1
    exact absurd e1 (Nat.succ_ne_self _)

/-- So the output's buffer holds nothing of the blocks before. -/
theorem fresh5 (t : Fin (cfg0 a).N) : (cfg0 a).fresh (5 : Fin 6) t.val = true :=
  Pipeline.Cfg.fresh_tab (cfg0 a) (5 : Fin 6) (fun _ => true) rfl (fun t => by rw [flush5 a t]; rfl) t.val (Nat.le_of_lt t.isLt)

/-- The output block point `t` leaves. -/
def outAt (c : Dev nD) (t : Fin (cfg0 a).N) : (S256x1024.Idx → Elt F .f32) :=
  if q0 : Used a t then
    out0_A_5 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (tab0 a) (tab1 a) (iblk a m ρ c (0 : Fin 6) t) (iblk a m ρ c (1 : Fin 6) t) (iblk a m ρ c (2 : Fin 6) t) (iblk a m ρ c (3 : Fin 6) t) (iblk a m ρ c (4 : Fin 6) t) (used_conds a t q0).1 (used_conds a t q0).2
  else
    out0_B_5 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (tab0 a) (tab1 a) (iblk a m ρ c (0 : Fin 6) t) (iblk a m ρ c (1 : Fin 6) t) (iblk a m ρ c (2 : Fin 6) t) (iblk a m ρ c (3 : Fin 6) t) (iblk a m ρ c (4 : Fin 6) t) (unused_conds a t q0).1 (unused_conds a t q0).2

theorem outAt_A (c : Dev nD) (t : Fin (cfg0 a).N) (q0 : Used a t) :
    outAt a m ρ c t = out0_A_5 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (tab0 a) (tab1 a) (iblk a m ρ c (0 : Fin 6) t) (iblk a m ρ c (1 : Fin 6) t) (iblk a m ρ c (2 : Fin 6) t) (iblk a m ρ c (3 : Fin 6) t) (iblk a m ρ c (4 : Fin 6) t) (used_conds a t q0).1 (used_conds a t q0).2 := dif_pos q0

theorem outAt_B (c : Dev nD) (t : Fin (cfg0 a).N) (q0 : ¬Used a t) :
    outAt a m ρ c t = out0_B_5 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (tab0 a) (tab1 a) (iblk a m ρ c (0 : Fin 6) t) (iblk a m ρ c (1 : Fin 6) t) (iblk a m ρ c (2 : Fin 6) t) (iblk a m ρ c (3 : Fin 6) t) (iblk a m ρ c (4 : Fin 6) t) (unused_conds a t q0).1 (unused_conds a t q0).2 := dif_neg q0

/-- The invariant: the body's halves of the tables. -/
def Phi (m : (ℓ : Loc nD τ sig) → Buf (Elt F) ℓ) (ρ : Dev nD → PrngReg) (c : Dev nD) (t : Fin ((cfg0 a).N + 1)) : sProp 𝕄 :=
  iprop((tbM0_0.view.loc (c : Thread nD τ) ↦{fullShare.right} tab0 a) ∗ (tbM0_1.view.loc (c : Thread nD τ) ↦{fullShare.right} tab1 a))

/-- The proof data of the one pipeline on core `c`. -/
def dats (_ : Fin 1) (c : Dev nD) : Dat τ (Elt F) Unit ℕ (UR sig nD τ) ℕ (cfg0 a) c where
  A w := (s₀ m ρ).mem (((cfg0 a).win w).arr.view.loc (c : Thread nD τ))
  after w t := match w with
    | ⟨0, _⟩ => iblk a m ρ c (0 : Fin 6) t
    | ⟨1, _⟩ => iblk a m ρ c (1 : Fin 6) t
    | ⟨2, _⟩ => iblk a m ρ c (2 : Fin 6) t
    | ⟨3, _⟩ => iblk a m ρ c (3 : Fin 6) t
    | ⟨4, _⟩ => iblk a m ρ c (4 : Fin 6) t
    | ⟨5, _⟩ => outAt a m ρ c t
  Φ t := Phi a m ρ c t
  q _ := fullShare
  owed _ := 0

theorem after0_0 (c : Dev nD) (t : Fin (cfg0 a).N) : (dats a m ρ 0 c).after (0 : Fin 6) t = iblk a m ρ c (0 : Fin 6) t := rfl
theorem after0_1 (c : Dev nD) (t : Fin (cfg0 a).N) : (dats a m ρ 0 c).after (1 : Fin 6) t = iblk a m ρ c (1 : Fin 6) t := rfl
theorem after0_2 (c : Dev nD) (t : Fin (cfg0 a).N) : (dats a m ρ 0 c).after (2 : Fin 6) t = iblk a m ρ c (2 : Fin 6) t := rfl
theorem after0_3 (c : Dev nD) (t : Fin (cfg0 a).N) : (dats a m ρ 0 c).after (3 : Fin 6) t = iblk a m ρ c (3 : Fin 6) t := rfl
theorem after0_4 (c : Dev nD) (t : Fin (cfg0 a).N) : (dats a m ρ 0 c).after (4 : Fin 6) t = iblk a m ρ c (4 : Fin 6) t := rfl
theorem after0_5 (c : Dev nD) (t : Fin (cfg0 a).N) : (dats a m ρ 0 c).after (5 : Fin 6) t = outAt a m ρ c t := rfl

/-! ## What each window's staging buffer holds when the body runs -/

/-- Input window 0 holds its block. -/
theorem before0_0 (c : Dev nD) (t : Fin (cfg0 a).N) (d) : (dats a m ρ 0 c).before (0 : Fin 6) t d = iblk a m ρ c (0 : Fin 6) t :=
  ((dats a m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)

/-- Input window 1 holds its block. -/
theorem before0_1 (c : Dev nD) (t : Fin (cfg0 a).N) (d) : (dats a m ρ 0 c).before (1 : Fin 6) t d = iblk a m ρ c (1 : Fin 6) t :=
  ((dats a m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)

/-- Input window 2 holds its block. -/
theorem before0_2 (c : Dev nD) (t : Fin (cfg0 a).N) (d) : (dats a m ρ 0 c).before (2 : Fin 6) t d = iblk a m ρ c (2 : Fin 6) t :=
  ((dats a m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)

/-- Input window 3 holds its block. -/
theorem before0_3 (c : Dev nD) (t : Fin (cfg0 a).N) (d) : (dats a m ρ 0 c).before (3 : Fin 6) t d = iblk a m ρ c (3 : Fin 6) t :=
  ((dats a m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)

/-- Input window 4 holds its block. -/
theorem before0_4 (c : Dev nD) (t : Fin (cfg0 a).N) (d) : (dats a m ρ 0 c).before (4 : Fin 6) t d = iblk a m ρ c (4 : Fin 6) t :=
  ((dats a m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

/-- The output window's buffer holds what it was last given: the block before it was written back. -/
theorem before0_5 (c : Dev nD) (t : Fin (cfg0 a).N) (d) : (dats a m ρ 0 c).before (5 : Fin 6) t d = d := by
  rw [(dats a m ρ 0 c).before_out_traj (5 : Fin 6) rfl (fun _ _ => rfl)
    (fun t _ hi _ => absurd (hi.symm.trans (notIdle5 a t)) (by decide)) t.val t rfl d, fresh5 a t]
  simp only [↓reduceIte]

/-! ## The body at a point -/

/-- The body at point `t` on its staging buffers. -/
abbrev bodyAt0 (t : Fin (cfg0 a).N) : Prog (TpuEff nD τ sig (Elt F) Λ₀ .tc) PUnit :=
  cc0_moe_experts (crd a t) (Memref.whole main_arg0) (Memref.isWhole_whole _) (Memref.whole main_arg1) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t)

set_option maxHeartbeats 4000000 in
/-- The body at any point, from its windows' buffers to what they hold after it. -/
theorem sound_body (hp : Held a m) (c : Dev nD) (t : Fin (cfg0 a).N) :
    iprop((dats a m ρ 0 c).Φ t.castSucc ∗ (dats a m ρ 0 c).owesAt () t.castSucc
        ∗ (∃ d, owns (c : Thread nD τ) (ms0_0 a t) fullShare ((dats a m ρ 0 c).before (0 : Fin 6) t d))
        ∗ (∃ d, owns (c : Thread nD τ) (ms0_1 a t) fullShare ((dats a m ρ 0 c).before (1 : Fin 6) t d))
        ∗ (∃ d, owns (c : Thread nD τ) (ms0_2 a t) fullShare ((dats a m ρ 0 c).before (2 : Fin 6) t d))
        ∗ (∃ d, owns (c : Thread nD τ) (ms0_3 a t) fullShare ((dats a m ρ 0 c).before (3 : Fin 6) t d))
        ∗ (∃ d, owns (c : Thread nD τ) (ms0_4 a t) fullShare ((dats a m ρ 0 c).before (4 : Fin 6) t d))
        ∗ (∃ d, owns (c : Thread nD τ) (ms0_5 a t) fullShare ((dats a m ρ 0 c).before (5 : Fin 6) t d)))
      ⊢ wp frame (wpE (defs₀ (F := F)) Variants.none c none) Set.univ (bodyAt0 a t) fun _ =>
          iprop((dats a m ρ 0 c).Φ t.succ ∗ (dats a m ρ 0 c).owesAt () t.succ
            ∗ bigSep Finset.univ fun w : Fin (cfg0 a).W =>
                match (cfg0 a).idle w ((cfg0 a).grid.coords t) with
                | true =>
                  match ((cfg0 a).win w).flush t with
                  | false => iprop(∃ d, owns (c : Thread nD τ) (((cfg0 a).win w).stage ((cfg0 a).slots t w)) fullShare ((dats a m ρ 0 c).before w t d))
                  | true => owns (c : Thread nD τ) (((cfg0 a).win w).stage ((cfg0 a).slots t w)) fullShare ((dats a m ρ 0 c).after w t)
                | false => owns (c : Thread nD τ) (((cfg0 a).win w).stage ((cfg0 a).slots t w)) fullShare ((dats a m ρ 0 c).after w t)) := by
  rw [bigSep_W0]
  by_cases q0 : Used a t
  · have i5 := notIdle5 a t
    have f5 := flush5 a t
    obtain ⟨k0_h1, k0_h2⟩ := used_conds a t q0
    rewrite [i5]
    simp only [before0_0, before0_1, before0_2, before0_3, before0_4, before0_5, after0_0, after0_1, after0_2, after0_3, after0_4, after0_5, f5]
    rewrite [show (dats a m ρ 0 c).Φ t.succ = Phi a m ρ c t.succ from rfl, show (dats a m ρ 0 c).Φ t.castSucc = Phi a m ρ c t.castSucc from rfl,
      show (dats a m ρ 0 c).owesAt () t.succ = (dats a m ρ 0 c).owesAt () t.castSucc from rfl]
    rewrite [outAt_A a m ρ c t q0]
    unfold Phi
    iintro ⟨⟨HT0, HT1⟩, Ho, ⟨%d0, H0⟩, ⟨%d1, H1⟩, ⟨%d2, H2⟩, ⟨%d3, H3⟩, ⟨%d4, H4⟩, ⟨%d5, H5⟩⟩
    iapply ((kernelRun0_A c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (tab0 a) (tab1 a) (iblk a m ρ c (0 : Fin 6) t) (iblk a m ρ c (1 : Fin 6) t) (iblk a m ρ c (2 : Fin 6) t) (iblk a m ρ c (3 : Fin 6) t) (iblk a m ρ c (4 : Fin 6) t) k0_h1 k0_h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    iintro ⟨H0, H1, H2, H3, H4, HT0, HT1, ⟨%e5, H5⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro; exact View.read_writes_of_cover _ _ _ _ _ (cover0_A_5 c _ _ _ _ _ _ _ _ _ _ _ _ _ _ _ _ _ _ _ _ _ _)
  · have i5 := notIdle5 a t
    have f5 := flush5 a t
    obtain ⟨k0_h1, k0_h2⟩ := unused_conds a t q0
    rewrite [i5]
    simp only [before0_0, before0_1, before0_2, before0_3, before0_4, before0_5, after0_0, after0_1, after0_2, after0_3, after0_4, after0_5, f5]
    rewrite [show (dats a m ρ 0 c).Φ t.succ = Phi a m ρ c t.succ from rfl, show (dats a m ρ 0 c).Φ t.castSucc = Phi a m ρ c t.castSucc from rfl,
      show (dats a m ρ 0 c).owesAt () t.succ = (dats a m ρ 0 c).owesAt () t.castSucc from rfl]
    rewrite [outAt_B a m ρ c t q0]
    unfold Phi
    iintro ⟨⟨HT0, HT1⟩, Ho, ⟨%d0, H0⟩, ⟨%d1, H1⟩, ⟨%d2, H2⟩, ⟨%d3, H3⟩, ⟨%d4, H4⟩, ⟨%d5, H5⟩⟩
    iapply ((kernelRun0_B c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (tab0 a) (tab1 a) (iblk a m ρ c (0 : Fin 6) t) (iblk a m ρ c (1 : Fin 6) t) (iblk a m ρ c (2 : Fin 6) t) (iblk a m ρ c (3 : Fin 6) t) (iblk a m ρ c (4 : Fin 6) t) k0_h1 k0_h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    iintro ⟨H0, H1, H2, H3, H4, HT0, HT1, ⟨%e5, H5⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro; exact View.read_writes_of_cover _ _ _ _ _ (cover0_B_5 c _ _ _ _ _ _ _ _ _ _ _ _ _ _ _ _ _ _ _ _ _ _)

/-- The body at every point. -/
theorem body_obligation (hp : Held a m) (c : Dev nD) : BodyObligation (dats a m ρ 0 c) (defs₀ (F := F)) Variants.none () Set.univ := fun t => by
  rw [bigSep_W0]
  exact sound_body a m ρ hp c t

/-! ## The launch -/

/-- The launch's ghost state. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfg0 a).W) : (dats a m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, -⟩
  isplitl [HT0]
  · iexact HT0
  iexact HT1

/-- at the last point it gives the scratch buffers back (`hout`), the tables let go. -/
theorem phiN_exit (c : Dev nD) : (dats a m ρ 0 c).Φ (Fin.last (cfg0 a).N) ⊢ iprop(BI.emp ∗ Pipeline.scopedRest spec0 c) := by
  rw [scopedRest0_eq, show (dats a m ρ 0 c).Φ (Fin.last (cfg0 a).N) = Phi a m ρ c (Fin.last _) from rfl]
  unfold Phi
  iintro ⟨-, -⟩
  isplitr; · iempintro
  iempintro

/-- The physical post: every array at the computed contents, every table at what the pipeline ran at. -/
def QC : PUnit × MemSt nD τ sig (Elt F) → Prop := fun r =>
  ∀ c : Dev nD, (∀ w : Fin (cfg0 a).W, r.2.mem (((cfg0 a).win w).arr.view.loc (c : Thread nD τ)) = (dats a m ρ 0 c).arrAt w (cfg0 a).N)
    ∧ ∀ j, r.2.mem ((c : Thread nD τ).loc (pre0.ref j)) = a.1 j

theorem V_pre (hp : Held a m) (c : Dev nD) (j : Fin 2) : m ((c : Thread nD τ).loc (pre0.ref j)) = a.1 j := by
  fin_cases j
  · exact hp.1 c
  · exact hp.2 c

set_option backward.isDefEq.respectTransparency.types false in
set_option maxHeartbeats 4000000 in
/-- From any memory whose tables are `a`'s the run ends, with every window's array at the computed contents. -/
theorem run_main_quiescent (hp : Held a m) : θ_run (defs (F := F)) (onTc (τ := τ) (main (F := F))) (s₀ m ρ) (fun r => QC a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ hp c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := V_pre a m hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Held a m) : θ_run (defs (F := F)) (onTc (τ := τ) (main (F := F))) (s₀ m ρ) (QC a m ρ) :=
  (θ_run defs _ _).mono (fun _ h => h.1) (run_main_quiescent a m ρ hp)

/-- `frame` without the counters: the argument arrays end unchanged. -/
theorem unchanged (hp : Held a m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 0).trans (hp.1 c).symm, ((h c).2 1).trans (hp.2 c).symm, ((h c).1 (0 : Fin 6)).trans ((dats a m ρ 0 c).arrAt_in (0 : Fin 6) rfl _), ((h c).1 (1 : Fin 6)).trans ((dats a m ρ 0 c).arrAt_in (1 : Fin 6) rfl _), ((h c).1 (2 : Fin 6)).trans ((dats a m ρ 0 c).arrAt_in (2 : Fin 6) rfl _), ((h c).1 (3 : Fin 6)).trans ((dats a m ρ 0 c).arrAt_in (3 : Fin 6) rfl _), ((h c).1 (4 : Fin 6)).trans ((dats a m ρ 0 c).arrAt_in (4 : Fin 6) rfl _)⟩) (run_main a m ρ hp)

/-- The frame: the run ends, every argument array unchanged and every semaphore counter at zero. -/
theorem frame (hp : Held a m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged a m ρ hp) ((θ_run defs _ _).mono (fun _ h => h.2) (run_main_quiescent a m ρ hp))

end Cert.Experts

end
-- ==== Proof.Experts.Stored.lean ====
/-
  What one grid point of the expert call leaves in the output's staging buffer: the stored vector over the point's input
  blocks for a block in use, zeros for any other.
-/
module

public import proofs.«01_k».proof.Proof.Experts.Frame
public import proofs.«01_k».proof.Proof.Gen.Kernel3Ideal.Skeleton
public import Idealize.ShloMosaic.Lib.Pipeline.Value
public import Idealize.ShloMosaic.Lib.Tactic

@[expose] public section

set_option maxRecDepth 16384

noncomputable section

namespace Cert.Experts

open Idealize.ShloMosaic Idealize.ShloMosaic.TcCoe Idealize.SL.Sem
open Cert.Kernel3Ideal Cert.Kernel3Ideal.Gen

variable {F : FTy → Type} [FloatOps F]
variable (a : (pcfg0 (F := F)).Adm) (m : (ℓ : Loc nD τ sig) → Buf (Elt F) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

theorem stored_A (c : Dev nD) (t : Fin (cfg0 a).N) (h : Used a t) :
    outAt a m ρ c t = k0_pay1 (k0_pay3 (iblk a m ρ c 0 t) (iblk a m ρ c 1 t) (iblk a m ρ c 2 t) (iblk a m ρ c 3 t)) (k0_pay4 (iblk a m ρ c 4 t)) := by
  rw [outAt_A a m ρ c t h]
  unfold out0_A_5
  rw [View.read_writes_eq_canon _ _ _ (fun y => by exact cover0_A_5 (y := y) ..)]
  unfold kernelRun0_A
  dsimp only
  sl_unfold_words
  rw [View.canon_unit_zero zero2]
  simp only [View.readAt_eq_ld, View.read_rep, View.ld_unit_zero (S := S256x1024) zero2, View.ld_unit_zero (S := S1x1024x2048) zero3, View.ld_unit_zero (S := S1x1x2048) zero3, View.ld_unit_zero (S := S1x1024x1024) zero3, View.ld_unit_zero (S := S1x1x1024) zero3]

theorem stored_B (c : Dev nD) (t : Fin (cfg0 a).N) (h : ¬Used a t) : outAt a m ρ c t = k0_pay2 := by
  rw [outAt_B a m ρ c t h]
  unfold out0_B_5
  rw [View.read_writes_eq_canon _ _ _ (fun y => by exact cover0_B_5 (y := y) ..)]
  unfold kernelRun0_B
  dsimp only
  sl_unfold_words
  rw [View.canon_unit_zero zero2]

end Cert.Experts

end
-- ==== Proof.Experts.Spec.lean ====
/-
  One token through one expert, as plain functions on the extended reals: the gate and up projection, the clipped gated
  activation, and the down projection.
-/
module

public import proofs.«01_k».proof.Proof.Merge.Spec

@[expose] public section

noncomputable section

namespace Cert.Experts

open Idealize.ShloMosaic

/-- The gate and up projection with its bias: gate columns first, then up columns. -/
def gateUp (x : Fin 1024 → EReal) (w : Fin 1024 → Fin 2048 → EReal) (b : Fin 2048 → EReal) (f : Fin 2048) : EReal :=
  (∑ k, x k * w k f) + b f

/-- The activation: the gate is held below 7, the up part between −7 and 7, and the result is
    `(up + 1) · gate · sigmoid (1.702 · gate)`. -/
def act (g : Fin 2048 → EReal) (f : Fin 1024) : EReal :=
  (min (Ideal.ofBits .f32 0x40E00000#32) (max (Ideal.ofBits .f32 0xC0E00000#32) (g ⟨1024 + f.val, by omega⟩)) + 1)
    * min (g ⟨f.val, by omega⟩) (Ideal.ofBits .f32 0x40E00000#32)
    * Cert.Layer.sigm (Ideal.ofBits .f32 0x3FD9DB23#32 * min (g ⟨f.val, by omega⟩) (Ideal.ofBits .f32 0x40E00000#32))

/-- The token's row after its expert. -/
def expertRow (x : Fin 1024 → EReal) (wgu : Fin 1024 → Fin 2048 → EReal) (bgu : Fin 2048 → EReal)
    (wdn : Fin 1024 → Fin 1024 → EReal) (bdn : Fin 1024 → EReal) (q : Fin 1024) : EReal :=
  (∑ f, act (gateUp x wgu bgu) f * wdn f q) + bdn q

theorem expertRow_congr {x x' : Fin 1024 → EReal} {wgu wgu' : Fin 1024 → Fin 2048 → EReal} {bgu bgu' : Fin 2048 → EReal}
    {wdn wdn' : Fin 1024 → Fin 1024 → EReal} {bdn bdn' : Fin 1024 → EReal} (h0 : ∀ k, x k = x' k) (h1 : ∀ k f, wgu k f = wgu' k f)
    (h2 : ∀ f, bgu f = bgu' f) (h3 : ∀ f k, wdn f k = wdn' f k) (h4 : ∀ k, bdn k = bdn' k) (q : Fin 1024) :
    expertRow x wgu bgu wdn bdn q = expertRow x' wgu' bgu' wdn' bdn' q := by
  rw [funext h0, funext fun k => funext (h1 k), funext h2, funext fun k => funext (h3 k), funext h4]

end Cert.Experts

end
-- ==== Proof.Experts.Block.lean ====
/-
  One block of the expert call at an index: the vector the kernel stores for a block in use, read as the row function of
  `Experts/Spec.lean`.
-/
module

public import proofs.«01_k».proof.Proof.Experts.Spec
public import proofs.«01_k».proof.Proof.Gen.Kernel3Ideal.Skeleton
public import Idealize.ShloMosaic.Lib.Pointwise
public import Idealize.ShloMosaic.Lib.ValueLayout

@[expose] public section

set_option maxRecDepth 16384

noncomputable section

namespace Cert.Experts

open Idealize.ShloMosaic Cert.Kernel3Ideal Cert.Kernel3Ideal.Gen

set_option maxHeartbeats 1000000 in
theorem pay3_at (v8 : Vec Ideal S256x1024 .f32) (v10 : Vec Ideal S1x1024x2048 .bf16) (v13 : Vec Ideal S1x1x2048 .f32)
    (v39 : Vec Ideal S1x1024x1024 .bf16) (r : Fin 256) (q : Fin 1024) :
    k0_pay3 (F := Ideal) v8 v10 v13 v39 (ix2 r q)
      = ∑ f, act (gateUp (fun k => v8 (ix2 r k)) (fun k f => v10 (ix3 0 k f)) (fun f => v13 (ix3 0 0 f))) f * v39 (ix3 0 f q) := by
  pointwise [k0_pay3]
  simp only [act, gateUp, Cert.Layer.sigm, Cert.Layer.zero_sub_ereal]

/-- The vector stored for a block in use, at row `r`, column `q`. -/
theorem pay_at (v8 : Vec Ideal S256x1024 .f32) (v10 : Vec Ideal S1x1024x2048 .bf16) (v13 : Vec Ideal S1x1x2048 .f32)
    (v39 : Vec Ideal S1x1024x1024 .bf16) (v42 : Vec Ideal S1x1x1024 .f32) (r : Fin 256) (q : Fin 1024) :
    k0_pay1 (F := Ideal) (k0_pay3 v8 v10 v13 v39) (k0_pay4 v42) (ix2 r q)
      = expertRow (fun k => v8 (ix2 r k)) (fun k f => v10 (ix3 0 k f)) (fun f => v13 (ix3 0 0 f))
          (fun f k => v39 (ix3 0 f k)) (fun k => v42 (ix3 0 0 k)) q := by
  have h := pay3_at v8 v10 v13 v39 r q
  generalize k0_pay3 (F := Ideal) v8 v10 v13 v39 = y at h ⊢
  pointwise [k0_pay1, k0_pay4]
  rw [h]
  rfl

/-- The vector stored for a block past the last one in use is zero. -/
theorem pay_zero (r : Fin 256) (q : Fin 1024) : k0_pay2 (F := Ideal) (ix2 r q) = 0 := by
  pointwise [k0_pay2]

end Cert.Experts

end
-- ==== Proof.Experts.Ref.lean ====
/-
  The reference of the expert call at an index: each block's weights are picked by the block's expert, each row of a block
  in use goes through the row function of `Experts/Spec.lean`, and the other blocks are zero.
-/
module

public import proofs.«01_k».proof.Proof.Experts.Spec
public import proofs.«01_k».proof.Proof.Gen.Reference3Ideal.Read
public import Idealize.ShloMosaic.Lib.Pointwise

@[expose] public section

set_option maxRecDepth 16384

noncomputable section

namespace Cert.Experts

open Idealize.ShloMosaic Cert.Reference3Ideal Cert.Reference3Ideal.Read

/-- The expert a word names, held to the 32 there are. -/
def pick (w : BitVec 32) : Fin 32 := ⟨min w.toInt.toNat 31, by omega⟩

theorem gather8_at {α : Type} (x : S32x1024x2048.Idx → α) (idx : IVec S544x1 32) (b : Fin 544) (k : Fin 1024) (f : Fin 2048) :
    Host.gather gather_S32x1024x2048_S544x1_S544x1024x2048_12_0_n_n_0_1_110242048 x idx (ix3 b k f) = x (ix3 (pick (idx (ix2 b 0))) k f) := by
  unfold Host.gather
  congr 1
  funext a
  match a with
  | ⟨0, _⟩ =>
    apply Fin.ext
    show min (idx _).toInt.toNat 31 + 0 + 0 = min (idx _).toInt.toNat 31
    refine congrArg (fun w => min (BitVec.toInt (idx w)).toNat 31) (funext fun a => ?_)
    match a with
    | ⟨0, _⟩ => rfl
    | ⟨1, _⟩ => rfl
  | ⟨1, _⟩ => exact Fin.ext (by show 0 + 0 + k.val = k.val; omega)
  | ⟨2, _⟩ => exact Fin.ext (by show 0 + 0 + f.val = f.val; omega)

theorem gather16_at {α : Type} (x : S32x1x2048.Idx → α) (idx : IVec S544x1 32) (b : Fin 544) (k : Fin 1) (f : Fin 2048) :
    Host.gather gather_S32x1x2048_S544x1_S544x1x2048_12_0_n_n_0_1_112048 x idx (ix3 b k f) = x (ix3 (pick (idx (ix2 b 0))) k f) := by
  unfold Host.gather
  congr 1
  funext a
  match a with
  | ⟨0, _⟩ =>
    apply Fin.ext
    show min (idx _).toInt.toNat 31 + 0 + 0 = min (idx _).toInt.toNat 31
    refine congrArg (fun w => min (BitVec.toInt (idx w)).toNat 31) (funext fun a => ?_)
    match a with
    | ⟨0, _⟩ => rfl
    | ⟨1, _⟩ => rfl
  | ⟨1, _⟩ => exact Fin.ext (by show 0 + 0 + k.val = k.val; omega)
  | ⟨2, _⟩ => exact Fin.ext (by show 0 + 0 + f.val = f.val; omega)

theorem gather43_at {α : Type} (x : S32x1024x1024.Idx → α) (idx : IVec S544x1 32) (b : Fin 544) (k : Fin 1024) (f : Fin 1024) :
    Host.gather gather_S32x1024x1024_S544x1_S544x1024x1024_12_0_n_n_0_1_110241024 x idx (ix3 b k f) = x (ix3 (pick (idx (ix2 b 0))) k f) := by
  unfold Host.gather
  congr 1
  funext a
  match a with
  | ⟨0, _⟩ =>
    apply Fin.ext
    show min (idx _).toInt.toNat 31 + 0 + 0 = min (idx _).toInt.toNat 31
    refine congrArg (fun w => min (BitVec.toInt (idx w)).toNat 31) (funext fun a => ?_)
    match a with
    | ⟨0, _⟩ => rfl
    | ⟨1, _⟩ => rfl
  | ⟨1, _⟩ => exact Fin.ext (by show 0 + 0 + k.val = k.val; omega)
  | ⟨2, _⟩ => exact Fin.ext (by show 0 + 0 + f.val = f.val; omega)

theorem gather51_at {α : Type} (x : S32x1x1024.Idx → α) (idx : IVec S544x1 32) (b : Fin 544) (k : Fin 1) (f : Fin 1024) :
    Host.gather gather_S32x1x1024_S544x1_S544x1x1024_12_0_n_n_0_1_111024 x idx (ix3 b k f) = x (ix3 (pick (idx (ix2 b 0))) k f) := by
  unfold Host.gather
  congr 1
  funext a
  match a with
  | ⟨0, _⟩ =>
    apply Fin.ext
    show min (idx _).toInt.toNat 31 + 0 + 0 = min (idx _).toInt.toNat 31
    refine congrArg (fun w => min (BitVec.toInt (idx w)).toNat 31) (funext fun a => ?_)
    match a with
    | ⟨0, _⟩ => rfl
    | ⟨1, _⟩ => rfl
  | ⟨1, _⟩ => exact Fin.ext (by show 0 + 0 + k.val = k.val; omega)
  | ⟨2, _⟩ => exact Fin.ext (by show 0 + 0 + f.val = f.val; omega)

/-- A block's expert as the reference's index arithmetic leaves it: no word in range is negative. -/
theorem normalized (w : BitVec 32) (h : w.toNat < 32) : Scalar.select (IntOp.cmpi .slt w 0#32) (IntOp.addi w 32#32) w = w := by
  have h1 : w.slt 0#32 = false := by
    unfold BitVec.slt
    have : w.toInt = w.toNat := BitVec.toInt_eq_toNat_of_lt (by omega)
    rw [this]
    exact decide_eq_false (by simp)
  unfold IntOp.cmpi
  simp only [h1]
  rfl

theorem pick_eq (w : BitVec 32) (h : w.toNat < 32) : pick w = ⟨w.toNat, h⟩ := by
  apply Fin.ext
  have : w.toInt = w.toNat := BitVec.toInt_eq_toNat_of_lt (by omega)
  show min w.toInt.toNat 31 = w.toNat
  rw [this]; omega

variable (x0 : (⟨S544, .i32⟩ : BufTy).Contents (Elt Ideal)) (x1 : (⟨S1, .i32⟩ : BufTy).Contents (Elt Ideal)) (x2 : (⟨S139264x1024, .f32⟩ : BufTy).Contents (Elt Ideal)) (x3 : (⟨S32x1024x2048, .bf16⟩ : BufTy).Contents (Elt Ideal)) (x4 : (⟨S32x1x2048, .f32⟩ : BufTy).Contents (Elt Ideal)) (x5 : (⟨S32x1024x1024, .bf16⟩ : BufTy).Contents (Elt Ideal)) (x6 : (⟨S32x1x1024, .f32⟩ : BufTy).Contents (Elt Ideal))

theorem v7_at (b : Fin 544) (h : (x0 (ix1 b)).toNat < 32) : val_main_v7 (F := Ideal) x0 (ix2 b 0) = x0 (ix1 b) := by
  pointwise [val_main_v7, val_main_v6, val_main_v5, val_main_v4, val_main_v3, val_main_v2, val_main_c, val_main_c_0]
  exact normalized _ h

theorem v15_at (b : Fin 544) (h : (x0 (ix1 b)).toNat < 32) : val_main_v15 (F := Ideal) x0 (ix2 b 0) = x0 (ix1 b) := by
  pointwise [val_main_v15, val_main_v14, val_main_v13, val_main_v12, val_main_v11, val_main_v10, val_main_c_1, val_main_c_2]
  exact normalized _ h

theorem v42_at (b : Fin 544) (h : (x0 (ix1 b)).toNat < 32) : val_main_v42 (F := Ideal) x0 (ix2 b 0) = x0 (ix1 b) := by
  pointwise [val_main_v42, val_main_v41, val_main_v40, val_main_v39, val_main_v38, val_main_v37, val_main_c_9, val_main_c_10]
  exact normalized _ h

theorem v50_at (b : Fin 544) (h : (x0 (ix1 b)).toNat < 32) : val_main_v50 (F := Ideal) x0 (ix2 b 0) = x0 (ix1 b) := by
  pointwise [val_main_v50, val_main_v49, val_main_v48, val_main_v47, val_main_v46, val_main_v45, val_main_c_11, val_main_c_12]
  exact normalized _ h

theorem v8_at (b : Fin 544) (h : (x0 (ix1 b)).toNat < 32) (k : Fin 1024) (f : Fin 2048) :
    val_main_v8 (F := Ideal) x0 x3 (ix3 b k f) = x3 (ix3 ⟨(x0 (ix1 b)).toNat, h⟩ k f) := by
  unfold val_main_v8
  rw [gather8_at, v7_at x0 b h, pick_eq _ h]
  rfl

theorem v16_at (b : Fin 544) (h : (x0 (ix1 b)).toNat < 32) (k : Fin 1) (f : Fin 2048) :
    val_main_v16 (F := Ideal) x0 x4 (ix3 b k f) = x4 (ix3 ⟨(x0 (ix1 b)).toNat, h⟩ k f) := by
  unfold val_main_v16
  rw [gather16_at, v15_at x0 b h, pick_eq _ h]

theorem v43_at (b : Fin 544) (h : (x0 (ix1 b)).toNat < 32) (k : Fin 1024) (f : Fin 1024) :
    val_main_v43 (F := Ideal) x0 x5 (ix3 b k f) = x5 (ix3 ⟨(x0 (ix1 b)).toNat, h⟩ k f) := by
  unfold val_main_v43
  rw [gather43_at, v42_at x0 b h, pick_eq _ h]
  rfl

theorem v51_at (b : Fin 544) (h : (x0 (ix1 b)).toNat < 32) (k : Fin 1) (f : Fin 1024) :
    val_main_v51 (F := Ideal) x0 x6 (ix3 b k f) = x6 (ix3 ⟨(x0 (ix1 b)).toNat, h⟩ k f) := by
  unfold val_main_v51
  rw [gather51_at, v50_at x0 b h, pick_eq _ h]

/-- The row `r` of block `b`, counted over all blocks. -/
def rowAt (b : Fin 544) (r : Fin 256) : Fin 139264 := ⟨b.val * 256 + r.val, by omega⟩

theorem v0_at (b : Fin 544) (r : Fin 256) (k : Fin 1024) : val_main_v0 (F := Ideal) x2 (ix3 b r k) = x2 (ix2 (rowAt b r) k) := by
  rw [val_main_v0_apply]
  congr 1
  funext a
  match a with
  | ⟨0, _⟩ => apply Fin.ext; show ((b.val * 256 + r.val) * 1024 + k.val) / 1024 = b.val * 256 + r.val; omega
  | ⟨1, _⟩ => apply Fin.ext; show ((b.val * 256 + r.val) * 1024 + k.val) % 1024 = k.val; omega

theorem v18_at (b : Fin 544) (h : (x0 (ix1 b)).toNat < 32) (r : Fin 256) (f : Fin 2048) :
    val_main_v18 (F := Ideal) x0 x2 x3 x4 (ix3 b r f)
      = gateUp (fun k => x2 (ix2 (rowAt b r) k)) (fun k f => x3 (ix3 ⟨(x0 (ix1 b)).toNat, h⟩ k f))
          (fun f => x4 (ix3 ⟨(x0 (ix1 b)).toNat, h⟩ 0 f)) f := by
  simp only [← v0_at, ← v8_at x0 x3 b h, ← v16_at x0 x4 b h]
  pointwise [val_main_v18, val_main_v17, val_main_v9]
  rfl

theorem v35_at (b : Fin 544) (r : Fin 256) (f : Fin 1024) :
    val_main_v35 (F := Ideal) x0 x2 x3 x4 (ix3 b r f) = act (fun f => val_main_v18 (F := Ideal) x0 x2 x3 x4 (ix3 b r f)) f := by
  pointwise [val_main_v35, val_main_v34, val_main_v33, val_main_v32, val_main_v31, val_main_v30, val_main_v29, val_main_v28, val_main_v27, val_main_v26, val_main_v25, val_main_v24, val_main_v23, val_main_call0_v4, val_main_call0_v3, val_main_call0_v2, val_main_call0_v1, val_main_call0_v0, val_main_v22, val_main_v21, val_main_v20, val_main_v19, val_main_cst, val_main_cst_3, val_main_cst_4, val_main_cst_5, val_main_cst_6, val_main_cst_7, val_main_cst_8]
  rfl

theorem v53_at (b : Fin 544) (h : (x0 (ix1 b)).toNat < 32) (r : Fin 256) (q : Fin 1024) :
    val_main_v53 (F := Ideal) x0 x2 x3 x4 x5 x6 (ix3 b r q)
      = expertRow (fun k => x2 (ix2 (rowAt b r) k)) (fun k f => x3 (ix3 ⟨(x0 (ix1 b)).toNat, h⟩ k f))
          (fun f => x4 (ix3 ⟨(x0 (ix1 b)).toNat, h⟩ 0 f)) (fun f k => x5 (ix3 ⟨(x0 (ix1 b)).toNat, h⟩ f k))
          (fun k => x6 (ix3 ⟨(x0 (ix1 b)).toNat, h⟩ 0 k)) q := by
  unfold expertRow
  simp only [← v43_at x0 x5 b h, ← v51_at x0 x6 b h]
  have e : gateUp (fun k => x2 (ix2 (rowAt b r) k)) (fun k f => x3 (ix3 ⟨(x0 (ix1 b)).toNat, h⟩ k f))
      (fun f => x4 (ix3 ⟨(x0 (ix1 b)).toNat, h⟩ 0 f)) = fun f => val_main_v18 (F := Ideal) x0 x2 x3 x4 (ix3 b r f) :=
    funext fun f => (v18_at x0 x2 x3 x4 b h r f).symm
  rw [e]
  simp only [← v35_at]
  pointwise [val_main_v53, val_main_v52, val_main_v44]

/-- A row of block `b`: its expert's, if the block is in use, zero otherwise. -/
theorem v59_at (b : Fin 544) (r : Fin 256) (q : Fin 1024) :
    val_main_v59 (F := Ideal) x0 x1 x2 x3 x4 x5 x6 (ix3 b r q)
      = Scalar.select (IntOp.cmpi .slt (BitVec.ofNat 32 b.val) (x1 (ix1 0))) (val_main_v53 (F := Ideal) x0 x2 x3 x4 x5 x6 (ix3 b r q)) (0 : EReal) := by
  have e : ∀ i, val_main_v55 (F := Ideal) x1 i = x1 (ix1 0) := fun i => by
    unfold val_main_v55
    exact congrArg x1 (funext fun a => by match a with | ⟨0, _⟩ => exact Subsingleton.elim (α := Fin 1) _ _)
  pointwise [val_main_v59, val_main_call1_v2, val_main_call1_v1, val_main_call1_v0, val_main_v58, val_main_v57, val_main_v56, val_main_v54, val_main_cst_13]
  rw [e]
  exact congrArg (Scalar.select _ _) Ideal.ofBits_zero_f32

/-- The result at row `r` of block `b`. -/
theorem v60_at (b : Fin 544) (r : Fin 256) (q : Fin 1024) :
    val_main_v60 (F := Ideal) x0 x1 x2 x3 x4 x5 x6 (ix2 (rowAt b r) q) = val_main_v59 (F := Ideal) x0 x1 x2 x3 x4 x5 x6 (ix3 b r q) := by
  rw [val_main_v60_apply]
  congr 1
  funext a
  match a with
  | ⟨0, _⟩ => apply Fin.ext; show ((b.val * 256 + r.val) * 1024 + q.val) / 262144 = b.val; omega
  | ⟨1, _⟩ => apply Fin.ext; show ((b.val * 256 + r.val) * 1024 + q.val) / 1024 % 256 = r.val; omega
  | ⟨2, _⟩ => apply Fin.ext; show ((b.val * 256 + r.val) * 1024 + q.val) % 1024 = q.val; omega

end Cert.Experts

end
-- ==== Proof.Experts.Tables.lean ====
/-
  The two tables: what the precondition says of them, that every block then lies inside its array, and the launch at the
  tables a memory holds.
-/
module

public import proofs.«01_k».proof.Proof.Experts.Frame
public import proofs.«01_k».proof.Defs
public import proofs.«01_k».proof.Proof.Gen.Pre_tables_in_range
public import Idealize.ShloMosaic.Lib.ReduceAll

@[expose] public section

set_option maxRecDepth 16384

noncomputable section

namespace Cert.Experts

open Cert.Kernel3Ideal Cert.Kernel3Ideal.Gen
open Idealize.ShloMosaic Idealize.SL.Sem
open Idealize.ShloMosaic.TcCoe

/-- Every block names one of the 32 experts, and at least one block is in use. -/
structure InRange (be : S544.Idx → BitVec 32) (na : S1.Idx → BitVec 32) : Prop where
  expert : ∀ k, (be k).toNat < 32
  used : ∀ j, 1 ≤ (na j).toInt

/-- A signed comparison that came out true. -/
theorem sge_one {x y : BitVec 32} (h : IntOp.cmpi .sge x y = 1#1) : y.toInt ≤ x.toInt := by
  simp only [IntOp.cmpi, BitVec.sle] at h
  by_contra hc
  rw [decide_eq_false hc] at h
  exact absurd h (by decide)

theorem slt_one {x y : BitVec 32} (h : IntOp.cmpi .slt x y = 1#1) : x.toInt < y.toInt := by
  simp only [IntOp.cmpi, BitVec.slt] at h
  by_contra hc
  rw [decide_eq_false hc] at h
  exact absurd h (by decide)

theorem and_one {x y : BitVec 1} (h : IntOp.andi x y = 1#1) : x = 1#1 ∧ y = 1#1 := by
  revert x y; decide

/-- A word between 0 and 31 as a signed number is below 32 as an unsigned one. -/
theorem toNat_lt_of_toInt {x : BitVec 32} (h0 : 0 ≤ x.toInt) (h1 : x.toInt < 32) : x.toNat < 32 := by
  have := BitVec.toInt_eq_toNat_cond x
  have := x.isLt
  split at * <;> omega

instance : Subsingleton S1.Idx := ⟨fun x y => funext fun a => by
  match a with
  | ⟨0, _⟩ => exact Subsingleton.elim (α := Fin 1) _ _⟩

instance : Subsingleton Cert.Pre_tables_in_range.S_.Idx := ⟨fun _ _ => funext fun a => a.elim0⟩

/-- The precondition's function at an all-ones result says the tables are in range. -/
theorem inRange_of_fn {F : FTy → Type} [FloatOps F] (be : S544.Idx → BitVec 32) (na : S1.Idx → BitVec 32) (a2 a3 a4 a5 a6)
    (h : Cert.Pre_tables_in_range.fn (F := F) be na a2 a3 a4 a5 a6 = fun _ => 1#1) : InRange be na := by
  have h0 := congrFun h (fun a => a.elim0)
  unfold Cert.Pre_tables_in_range.fn at h0
  dsimp only at h0
  obtain ⟨h1, h2⟩ := and_one h0
  refine ⟨fun k => ?_, fun j => ?_⟩
  · have h3 := Host.reduce_andi_all _ _ _ _ _ h1 k
    obtain ⟨h4, h5⟩ := and_one h3
    exact toNat_lt_of_toInt (sge_one h4) (slt_one h5)
  · have h3 := sge_one h2
    have e : (shapeCast Cert.Pre_tables_in_range.S_ na Cert.Pre_tables_in_range.Facts.shapeCasts_S1_S_) (fun a => a.elim0) = na j := by
      exact congrArg na (Subsingleton.elim _ _)
    rw [e] at h3
    exact h3

variable {F : FTy → Type} [FloatOps F]

/-- The number of blocks at hand never leaves the row array: block `min(i, na - 1)` is block `i` or an earlier one. -/
theorem row_block {i : Nat} (hi : i < 544) {w : BitVec 32} (hw : 1 ≤ w.toInt) :
    (Scalar.minsi (BitVec.ofNat 32 i) (Scalar.subi w 1#32)).toNat ≤ i := by
  show (if (BitVec.ofNat 32 i).slt (w - 1#32) then BitVec.ofNat 32 i else w - 1#32).toNat ≤ i
  have e : (BitVec.ofNat 32 i).toNat = i := by rw [BitVec.toNat_ofNat]; omega
  split
  · omega
  · rename_i h
    simp only [BitVec.slt, decide_eq_true_eq, BitVec.toInt_eq_toNat_cond, BitVec.toNat_sub, e] at h
    have hw' := hw
    rw [BitVec.toInt_eq_toNat_cond] at hw'
    have := w.isLt
    rw [BitVec.toNat_sub]
    simp only [BitVec.toNat_ofNat] at *
    split at hw' <;> omega

/-- With the tables in range every block is inside its array. -/
theorem ok_of_inRange (pf : pre0.Contents (Elt F)) (h : InRange (pf 0) (pf 1)) : ok0 pf := by
  unfold ok0
  refine ⟨fun i => ⟨fun a => ?_, .inl rfl⟩, fun i => ⟨fun a => ?_, .inr (Affine.block_words_rows (by decide) rfl)⟩,
    fun i => ⟨fun a => ?_, .inl rfl⟩, fun i => ⟨fun a => ?_, .inr (Affine.block_words_rows (by decide) rfl)⟩, fun i => ⟨fun a => ?_, .inl rfl⟩⟩
  · have hi : (i 0).val < 544 := (i 0).isLt
    match a with
    | ⟨0, _⟩ =>
      have e := row_block hi (h.used ((Rect.unit (s := S1) ![0] S1.size inb_S1_S1_0).emb (Shape.Idx.first (numel1_S1.symm ▸ Nat.one_pos))))
      exact le_trans (Nat.mul_le_mul_right 256 (Nat.succ_le_of_lt (lt_of_le_of_lt e hi))) (Nat.le_of_eq (show 544 * 256 = 139264 from rfl))
    | ⟨1, _⟩ => exact Nat.le_of_eq (Nat.one_mul 1024)
  all_goals
    match a with
    | ⟨0, _⟩ =>
      show ((pf 0 _).toNat + 1) * 1 ≤ 32
      have e := h.expert ((Rect.unit (s := S544) (k0_off1 i) S1.size (k0_off1_inb i)).emb (Shape.Idx.first (numel1_S1.symm ▸ Nat.one_pos)))
      exact (Nat.mul_one _).trans_le e
    | ⟨1, _⟩ => exact Nat.le_of_eq (Nat.one_mul _)
    | ⟨2, _⟩ => exact Nat.le_of_eq (Nat.one_mul _)

/-- The tables a memory holds, on the one device. -/
def tabsOf (m : (ℓ : Loc nD τ sig) → Buf (Elt F) ℓ) : pre0.Contents (Elt F) :=
  fun j => m (((0 : Dev nD) : Thread nD τ).loc (pre0.ref j))

/-- The launch at the tables of a memory. -/
def admOf (m : (ℓ : Loc nD τ sig) → Buf (Elt F) ℓ) (h : InRange (tabsOf m 0) (tabsOf m 1)) : (pcfg0 (F := F)).Adm :=
  ⟨tabsOf m, ok_of_inRange _ h⟩

theorem held_of (m : (ℓ : Loc nD τ sig) → Buf (Elt F) ℓ) (h : InRange (tabsOf m 0) (tabsOf m 1)) : Held (admOf m h) m :=
  ⟨fun c => by rw [Subsingleton.elim c 0]; rfl, fun c => by rw [Subsingleton.elim c 0]; rfl⟩

end Cert.Experts

end
-- ==== Proof.Experts.Kernel.lean ====
/-
  The array the expert call leaves: every block the pipeline writes back is the reference's on that block's rows, and the
  blocks cover the array.
-/
module

public import proofs.«01_k».proof.Proof.Experts.Stored
public import proofs.«01_k».proof.Proof.Experts.Block
public import proofs.«01_k».proof.Proof.Experts.Ref
public import proofs.«01_k».proof.Proof.Experts.Tables

@[expose] public section

set_option maxRecDepth 16384

noncomputable section

namespace Cert.Experts

open Idealize.ShloMosaic Idealize.ShloMosaic.TcCoe Idealize.SL.Sem
open Cert.Kernel3Ideal Cert.Kernel3Ideal.Gen

variable (a : (pcfg0 (F := Ideal)).Adm) (m : (ℓ : Loc nD τ sig) → Buf (Elt Ideal) ℓ) (ρ : Dev nD → PrngReg)

/-- Point `t` as a block number. -/
abbrev blkNo (t : Fin (cfg0 a).N) : Fin 544 := ⟨t.val, t.isLt⟩

theorem crd_val : ∀ t : Fin grid0.N, (grid0.coords t 0).val = t.val := by decide +kernel
theorem off_val : ∀ t : Fin grid0.N, k0_off1 (grid0.coords t) 0 = t.val := by decide +kernel

/-- The condition of a block in use is the signed comparison of its number with the number of blocks in use. -/
theorem cond1_eq (i : grid0.Coords) (w : BitVec 32) : k0_cond1 i w = IntOp.cmpi .slt (BitVec.ofNat 32 (i 0).val) w := by
  unfold k0_cond1 Scalar.cmpi
  dsimp only
  generalize IntOp.cmpi .slt (BitVec.ofNat 32 (i 0).val) w = b
  revert b; decide

theorem used_iff (t : Fin (cfg0 a).N) : Used a t ↔ IntOp.cmpi .slt (BitVec.ofNat 32 t.val) (tab1 a (ix1 0)) = 1#1 := by
  unfold Used
  rw [cond1_eq, show ((crd a t) 0).val = t.val from crd_val t]
  rw [show View.readAt (Elt Ideal) (tbM0_1).view (Rect.unit (s := S1) ![0] S1.size inb_S1_S1_0).toLoadRect (tab1 a) (Shape.Idx.first (numel1_S1.symm ▸ Nat.one_pos)) = tab1 a (ix1 0) from congrArg (tab1 a) (Subsingleton.elim (α := S1.Idx) _ _)]

/-- A block in use is the block of rows the kernel reads for it. -/
theorem row_block_eq {i : Nat} (hi : i < 544) {w : BitVec 32} (h : IntOp.cmpi .slt (BitVec.ofNat 32 i) w = 1#1) :
    (Scalar.minsi (BitVec.ofNat 32 i) (Scalar.subi w 1#32)).toNat = i := by
  have h1 := slt_one h
  have e : (BitVec.ofNat 32 i).toNat = i := by rw [BitVec.toNat_ofNat]; omega
  show (if (BitVec.ofNat 32 i).slt (w - 1#32) then BitVec.ofNat 32 i else w - 1#32).toNat = i
  split
  · exact e
  · rename_i h2
    simp only [BitVec.slt, decide_eq_true_eq, BitVec.toInt_eq_toNat_cond, BitVec.toNat_sub, e] at h1 h2
    have := w.isLt
    rw [BitVec.toNat_sub]
    simp only [BitVec.toNat_ofNat] at *
    split at h1 <;> split at h1 <;> omega

theorem win0_ix (t : Fin (cfg0 a).N) (h : Used a t) : ((cfg0 a).win (0 : Fin 6)).index t (0 : Fin 2) = t.val := by
  have e := row_block_eq (show (crd a t 0).val < 544 from (crd a t 0).isLt)
    (w := a.1.at 1 (Rect.unit (s := S1) ![0] S1.size inb_S1_S1_0) numel1_S1) (by
      rw [show ((crd a t) 0).val = t.val from crd_val t]
      exact (congrArg (IntOp.cmpi .slt (BitVec.ofNat 32 t.val)) (congrArg (tab1 a) (Subsingleton.elim (α := S1.Idx) _ _))).trans ((used_iff a t).1 h))
  exact e.trans (crd_val t)

theorem blk0_at (c : Dev nD) (t : Fin (cfg0 a).N) (h : Used a t) (r : Fin 256) (k : Fin 1024) :
    iblk a m ρ c (0 : Fin 6) t (ix2 r k) = m ((c : Thread nD τ).loc main_arg2) (ix2 (rowAt (blkNo a t) r) k) := by
  have e0 := win0_ix a t h
  show m ((c : Thread nD τ).loc main_arg2) ((((cfg0 a).win (0 : Fin 6)).blk t).view.emb (ix2 r k)) = _
  congr 1
  funext x
  match x with
  | ⟨0, _⟩ => exact Fin.ext (by show ((cfg0 a).win (0 : Fin 6)).index t (0 : Fin 2) * 256 + 1 * r.val = t.val * 256 + r.val; omega)
  | ⟨1, _⟩ => exact Fin.ext (by show 0 * 1024 + 1 * k.val = k.val; omega)

/-- The expert of block `t`, as the windows of the weights read it. -/
theorem expert_at (t : Fin (cfg0 a).N) :
    a.1.at 0 (Rect.unit (s := S544) (k0_off1 (crd a t)) S1.size (k0_off1_inb (crd a t))) numel1_S1 = tab0 a (ix1 (blkNo a t)) := by
  refine congrArg (tab0 a) (funext fun x => ?_)
  match x with
  | ⟨0, _⟩ =>
    have e := off_val t
    exact Fin.ext (by show k0_off1 (grid0.coords t) 0 + 1 * 0 = t.val; omega)

theorem blk1_at (c : Dev nD) (t : Fin (cfg0 a).N) (he : (tab0 a (ix1 (blkNo a t))).toNat < 32) (k : Fin 1024) (f : Fin 2048) :
    iblk a m ρ c (1 : Fin 6) t (ix3 0 k f) = m ((c : Thread nD τ).loc main_arg3) (ix3 ⟨(tab0 a (ix1 (blkNo a t))).toNat, he⟩ k f) := by
  have e0 := congrArg BitVec.toNat (expert_at a t)
  show m ((c : Thread nD τ).loc main_arg3) ((((cfg0 a).win (1 : Fin 6)).blk t).view.emb (ix3 0 k f)) = _
  congr 1
  funext x
  match x with
  | ⟨0, _⟩ => exact Fin.ext (by show BitVec.toNat (a.1.at 0 (Rect.unit (s := S544) (k0_off1 (crd a t)) S1.size (k0_off1_inb (crd a t))) numel1_S1) * 1 + 1 * 0 = BitVec.toNat (tab0 a (ix1 (blkNo a t))); omega)
  | ⟨1, _⟩ => exact Fin.ext (by show 0 * 1024 + 1 * k.val = k.val; omega)
  | ⟨2, _⟩ => exact Fin.ext (by show 0 * 2048 + 1 * f.val = f.val; omega)

theorem blk2_at (c : Dev nD) (t : Fin (cfg0 a).N) (he : (tab0 a (ix1 (blkNo a t))).toNat < 32) (f : Fin 2048) :
    iblk a m ρ c (2 : Fin 6) t (ix3 0 0 f) = m ((c : Thread nD τ).loc main_arg4) (ix3 ⟨(tab0 a (ix1 (blkNo a t))).toNat, he⟩ 0 f) := by
  have e0 := congrArg BitVec.toNat (expert_at a t)
  show m ((c : Thread nD τ).loc main_arg4) ((((cfg0 a).win (2 : Fin 6)).blk t).view.emb (ix3 0 0 f)) = _
  congr 1
  funext x
  match x with
  | ⟨0, _⟩ => exact Fin.ext (by show BitVec.toNat (a.1.at 0 (Rect.unit (s := S544) (k0_off1 (crd a t)) S1.size (k0_off1_inb (crd a t))) numel1_S1) * 1 + 1 * 0 = BitVec.toNat (tab0 a (ix1 (blkNo a t))); omega)
  | ⟨1, _⟩ => exact Fin.ext (by show 0 * 1 + 1 * 0 = 0; omega)
  | ⟨2, _⟩ => exact Fin.ext (by show 0 * 2048 + 1 * f.val = f.val; omega)

theorem blk3_at (c : Dev nD) (t : Fin (cfg0 a).N) (he : (tab0 a (ix1 (blkNo a t))).toNat < 32) (k : Fin 1024) (f : Fin 1024) :
    iblk a m ρ c (3 : Fin 6) t (ix3 0 k f) = m ((c : Thread nD τ).loc main_arg5) (ix3 ⟨(tab0 a (ix1 (blkNo a t))).toNat, he⟩ k f) := by
  have e0 := congrArg BitVec.toNat (expert_at a t)
  show m ((c : Thread nD τ).loc main_arg5) ((((cfg0 a).win (3 : Fin 6)).blk t).view.emb (ix3 0 k f)) = _
  congr 1
  funext x
  match x with
  | ⟨0, _⟩ => exact Fin.ext (by show BitVec.toNat (a.1.at 0 (Rect.unit (s := S544) (k0_off1 (crd a t)) S1.size (k0_off1_inb (crd a t))) numel1_S1) * 1 + 1 * 0 = BitVec.toNat (tab0 a (ix1 (blkNo a t))); omega)
  | ⟨1, _⟩ => exact Fin.ext (by show 0 * 1024 + 1 * k.val = k.val; omega)
  | ⟨2, _⟩ => exact Fin.ext (by show 0 * 1024 + 1 * f.val = f.val; omega)

theorem blk4_at (c : Dev nD) (t : Fin (cfg0 a).N) (he : (tab0 a (ix1 (blkNo a t))).toNat < 32) (f : Fin 1024) :
    iblk a m ρ c (4 : Fin 6) t (ix3 0 0 f) = m ((c : Thread nD τ).loc main_arg6) (ix3 ⟨(tab0 a (ix1 (blkNo a t))).toNat, he⟩ 0 f) := by
  have e0 := congrArg BitVec.toNat (expert_at a t)
  show m ((c : Thread nD τ).loc main_arg6) ((((cfg0 a).win (4 : Fin 6)).blk t).view.emb (ix3 0 0 f)) = _
  congr 1
  funext x
  match x with
  | ⟨0, _⟩ => exact Fin.ext (by show BitVec.toNat (a.1.at 0 (Rect.unit (s := S544) (k0_off1 (crd a t)) S1.size (k0_off1_inb (crd a t))) numel1_S1) * 1 + 1 * 0 = BitVec.toNat (tab0 a (ix1 (blkNo a t))); omega)
  | ⟨1, _⟩ => exact Fin.ext (by show 0 * 1 + 1 * 0 = 0; omega)
  | ⟨2, _⟩ => exact Fin.ext (by show 0 * 1024 + 1 * f.val = f.val; omega)

/-- The result as the reference computes it, over the tables and the kernel's arguments. -/
abbrev yRef (c : Dev nD) : S139264x1024.Idx → EReal :=
  Cert.Reference3Ideal.Read.val_main_v60 (F := Ideal) (tab0 a) (tab1 a) (m ((c : Thread nD τ).loc main_arg2)) (m ((c : Thread nD τ).loc main_arg3)) (m ((c : Thread nD τ).loc main_arg4)) (m ((c : Thread nD τ).loc main_arg5)) (m ((c : Thread nD τ).loc main_arg6))

theorem y_row (hr : InRange (tab0 a) (tab1 a)) (c : Dev nD) (t : Fin (cfg0 a).N) (r : Fin 256) (q : Fin 1024) :
    outAt a m ρ c t (ix2 r q) = yRef a m c (ix2 (rowAt (blkNo a t) r) q) := by
  have he : (tab0 a (ix1 (blkNo a t))).toNat < 32 := hr.expert _
  show _ = Cert.Reference3Ideal.Read.val_main_v60 (F := Ideal) _ _ _ _ _ _ _ (ix2 (rowAt (blkNo a t) r) q)
  rw [v60_at, v59_at, v53_at _ _ _ _ _ _ _ he]
  by_cases h : Used a t
  · rw [show IntOp.cmpi .slt (BitVec.ofNat 32 (blkNo a t).val) (tab1 a (ix1 0)) = 1#1 from (used_iff a t).1 h]
    rw [stored_A a m ρ c t h]
    refine (pay_at _ _ _ _ _ r q).trans ?_
    exact expertRow_congr (fun k => blk0_at a m ρ c t h r k) (fun k f => blk1_at a m ρ c t he k f) (fun f => blk2_at a m ρ c t he f)
      (fun f k => blk3_at a m ρ c t he f k) (fun k => blk4_at a m ρ c t he k) q
  · have h1 : IntOp.cmpi .slt (BitVec.ofNat 32 (blkNo a t).val) (tab1 a (ix1 0)) = 0#1 := by
      have h2 : ¬ IntOp.cmpi .slt (BitVec.ofNat 32 (blkNo a t).val) (tab1 a (ix1 0)) = 1#1 := fun h3 => h ((used_iff a t).2 h3)
      generalize IntOp.cmpi .slt (BitVec.ofNat 32 (blkNo a t).val) (tab1 a (ix1 0)) = b at h2
      revert b; decide
    rw [h1, stored_B a m ρ c t h]
    show k0_pay2 (F := Ideal) (ix2 r q) = _
    rw [pay_zero]
    rfl

theorem y_flushed (hr : InRange (tab0 a) (tab1 a)) (c : Dev nD) (t : Fin (cfg0 a).N) :
    (dats a m ρ 0 c).flushed (5 : Fin 6) t = (((cfg0 a).win (5 : Fin 6)).blk t).view.read (Elt Ideal) (yRef a m c) := by
  obtain ⟨e0, e1⟩ := ix5 t
  funext y
  have hy0 : (y 0).val < 256 := (y 0).isLt
  have hy1 : (y 1).val < 1024 := (y 1).isLt
  have hl : ((cfg0 a).win (5 : Fin 6)).xinj (grid0.coords t) y = ix2 (⟨(y 0).val, hy0⟩ : Fin 256) (⟨(y 1).val, hy1⟩ : Fin 1024) := by
    funext x
    match x with
    | ⟨0, _⟩ => rfl
    | ⟨1, _⟩ => rfl
  have hb : (((cfg0 a).win (5 : Fin 6)).blk t).view.emb y = ix2 (rowAt (blkNo a t) ⟨(y 0).val, hy0⟩) (⟨(y 1).val, hy1⟩ : Fin 1024) := by
    funext x
    match x with
    | ⟨0, _⟩ => exact Fin.ext (by show cc0_transform_5 (grid0.coords t) 0 * 256 + 1 * (y 0).val = t.val * 256 + (y 0).val; omega)
    | ⟨1, _⟩ => exact Fin.ext (by show cc0_transform_5 (grid0.coords t) 1 * 1024 + 1 * (y 1).val = (y 1).val; omega)
  show outAt a m ρ c t (((cfg0 a).win (5 : Fin 6)).xinj (grid0.coords t) y) = yRef a m c ((((cfg0 a).win (5 : Fin 6)).blk t).view.emb y)
  rw [hl, hb, y_row a m ρ hr]

/-- The output blocks cover the array. -/
theorem y_cover (i : S139264x1024.Idx) :
    ∃ t : Fin (cfg0 a).N, ((cfg0 a).win (5 : Fin 6)).flush t = true ∧ i ∈ (((cfg0 a).win (5 : Fin 6)).blk t).view.set := by
  have h0 : (i 0).val < 139264 := (i 0).isLt
  have h1 : (i 1).val < 1024 := (i 1).isLt
  have ht : (i 0).val / 256 < grid0.N := by
    rw [show grid0.N = 544 from rfl]
    omega
  refine ⟨⟨(i 0).val / 256, ht⟩, flush5 a _, ?_⟩
  obtain ⟨e0, e1⟩ := ix5 ⟨(i 0).val / 256, ht⟩
  dsimp only at e0
  show i ∈ ((View.whole main_v0).slice (((cfg0 a).win (5 : Fin 6)).rect ⟨(i 0).val / 256, ht⟩)).set
  rw [View.set_slice_whole, Rect.mem_set_unit]
  intro x
  match x with
  | ⟨0, _⟩ =>
    show cc0_transform_5 (grid0.coords ⟨(i 0).val / 256, ht⟩) 0 * 256 ≤ (i 0).val ∧ (i 0).val < cc0_transform_5 (grid0.coords ⟨(i 0).val / 256, ht⟩) 0 * 256 + 256
    omega
  | ⟨1, _⟩ =>
    show cc0_transform_5 (grid0.coords ⟨(i 0).val / 256, ht⟩) 1 * 1024 ≤ (i 1).val ∧ (i 1).val < cc0_transform_5 (grid0.coords ⟨(i 0).val / 256, ht⟩) 1 * 1024 + 1024
    omega

/-- The array after the run is the reference's. -/
theorem y_array (hr : InRange (tab0 a) (tab1 a)) (c : Dev nD) : (dats a m ρ 0 c).arrAt (5 : Fin 6) (cfg0 a).N = yRef a m c :=
  (dats a m ρ 0 c).arrAt_eq_of_cover (5 : Fin 6) (yRef a m c) (fun t _ => y_flushed a m ρ hr c t) (fun i => y_cover a i)

/-- What the run leaves: the result and the arguments. -/
theorem run_value (hp : Held a m) (hr : InRange (tab0 a) (tab1 a)) :
    θ_run (defs (F := Ideal)) (onTc (τ := τ) (main (F := Ideal))) ⟨m, fun _ => 0, ρ⟩ (fun r => ∀ c : Dev nD,
      r.2.mem ((c.tc : Thread nD τ).loc main_v0) = yRef a m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).1 (5 : Fin 6) |>.trans (y_array a m ρ hr c), h.2 c⟩)
    (θ_run_and (run_main a m ρ hp) (unchanged a m ρ hp))

end Cert.Experts

end
-- ==== Proof.Experts.WordsTables.lean ====
/-
  The launch at the tables a memory of machine words holds: every block lies inside its array when the tables are in range.
-/
module

public import proofs.«01_k».proof.Proof.Experts.WordsFrame
public import proofs.«01_k».proof.Proof.Experts.Tables

@[expose] public section

set_option maxRecDepth 16384

noncomputable section

namespace Cert.ExpertsWords

open Cert.Kernel3 Cert.Kernel3.Gen
open Cert.Experts (InRange row_block)
open Idealize.ShloMosaic Idealize.SL.Sem
open Idealize.ShloMosaic.TcCoe

variable {F : FTy → Type} [FloatOps F]

/-- With the tables in range every block is inside its array. -/
theorem ok_of_inRange (pf : pre0.Contents (Elt F)) (h : InRange (pf 0) (pf 1)) : ok0 pf := by
  unfold ok0
  refine ⟨fun i => ⟨fun a => ?_, .inl rfl⟩, fun i => ⟨fun a => ?_, .inr (Affine.block_words_rows (by decide) rfl)⟩,
    fun i => ⟨fun a => ?_, .inl rfl⟩, fun i => ⟨fun a => ?_, .inr (Affine.block_words_rows (by decide) rfl)⟩, fun i => ⟨fun a => ?_, .inl rfl⟩⟩
  · have hi : (i 0).val < 544 := (i 0).isLt
    match a with
    | ⟨0, _⟩ =>
      have e := row_block hi (h.used ((Rect.unit (s := S1) ![0] S1.size inb_S1_S1_0).emb (Shape.Idx.first (numel1_S1.symm ▸ Nat.one_pos))))
      exact le_trans (Nat.mul_le_mul_right 256 (Nat.succ_le_of_lt (lt_of_le_of_lt e hi))) (Nat.le_of_eq (show 544 * 256 = 139264 from rfl))
    | ⟨1, _⟩ => exact Nat.le_of_eq (Nat.one_mul 1024)
  all_goals
    match a with
    | ⟨0, _⟩ =>
      show ((pf 0 _).toNat + 1) * 1 ≤ 32
      have e := h.expert ((Rect.unit (s := S544) (k0_off1 i) S1.size (k0_off1_inb i)).emb (Shape.Idx.first (numel1_S1.symm ▸ Nat.one_pos)))
      exact (Nat.mul_one _).trans_le e
    | ⟨1, _⟩ => exact Nat.le_of_eq (Nat.one_mul _)
    | ⟨2, _⟩ => exact Nat.le_of_eq (Nat.one_mul _)

/-- The tables a memory holds, on the one device. -/
def tabsOf (m : (ℓ : Loc nD τ sig) → Buf (Elt F) ℓ) : pre0.Contents (Elt F) :=
  fun j => m (((0 : Dev nD) : Thread nD τ).loc (pre0.ref j))

/-- The launch at the tables of a memory. -/
def admOf (m : (ℓ : Loc nD τ sig) → Buf (Elt F) ℓ) (h : InRange (tabsOf m 0) (tabsOf m 1)) : (pcfg0 (F := F)).Adm :=
  ⟨tabsOf m, ok_of_inRange _ h⟩

theorem held_of (m : (ℓ : Loc nD τ sig) → Buf (Elt F) ℓ) (h : InRange (tabsOf m 0) (tabsOf m 1)) : Held (admOf m h) m :=
  ⟨fun c => by rw [Subsingleton.elim c 0]; rfl, fun c => by rw [Subsingleton.elim c 0]; rfl⟩

end Cert.ExpertsWords

end
-- ==== Proof.Combine.Names.lean ====
/-
  The combine kernel's copies of rows, named: where each of the four rows of a token lands in the scratch buffer, where
  it comes from, and the 1024 copies of one grid point numbered token by token.
-/
module

public import proofs.«01_k».proof.Proof.Gen.Kernel5Ideal.Skeleton
public import proofs.«01_k».proof.Proof.Gen.Kernel5Ideal.Loops
public import proofs.«01_k».proof.Proof.Gen.Kernel5Ideal.Launch
public import proofs.«01_k».proof.Proof.Gen.Kernel5Ideal.Points
public import proofs.«01_k».proof.Proof.Gen.Kernel5Ideal.Frame
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Batch
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Combine

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The scratch buffer, whole. -/
abbrev scM : Memref sig .tc .vmem S4x256x1024 .f32 := Memref.whole cc0_scratch0
/-- The rows after the experts, whole. -/
abbrev ybM : Memref sig .tc .hbm S139264x1024 .f32 := Memref.whole main_arg0

theorem trips_eq : k0_t1_loop.trips = 256 := by decide +kernel
theorem trips2_eq : k0_t2_loop.trips = 256 := by decide +kernel

/-- The copies of one grid point: four per token. -/
@[irreducible] def NT : ℕ := 1024
theorem NT_eq : NT = 1024 := by unfold NT; rfl

/-- Copy `t` belongs to token `t / 4`. -/
def tokOf (t : Fin NT) : Fin k0_t1_loop.trips := ⟨t.val / 4, by have := t.isLt; have := NT_eq; have := trips_eq; omega⟩
/-- A family by the row `k` of the four and the token, numbered. -/
def fam {α : Sort _} (X : Fin 4 → Fin k0_t1_loop.trips → α) (t : Fin NT) : α := X ⟨t.val % 4, Nat.mod_lt _ (by decide)⟩ (tokOf t)

theorem num_lt (r : Fin k0_t1_loop.trips) (k : ℕ) (hk : k < 4) : 4 * r.val + k < NT := by
  have := r.isLt; have := NT_eq; have := trips_eq; omega

theorem fam_at {α : Sort _} (X : Fin 4 → Fin k0_t1_loop.trips → α) (r : Fin k0_t1_loop.trips) (k : Fin 4) (j : ℕ) (hj : j = 4 * r.val + k.val) (h : j < NT) :
    fam X ⟨j, h⟩ = X k r := by
  subst hj
  have hk := k.isLt
  have e1 : (⟨(4 * r.val + k.val) % 4, Nat.mod_lt _ (by decide)⟩ : Fin 4) = k := Fin.ext (by show (4 * r.val + k.val) % 4 = k.val; omega)
  have e2 : tokOf ⟨4 * r.val + k.val, h⟩ = r := Fin.ext (by show (4 * r.val + k.val) / 4 = r.val; omega)
  unfold fam
  rw [e2]
  exact congrArg (fun x => X x r) e1

/-- Where the four rows of token `r` land in the scratch buffer. -/
def dst0 (r : Fin k0_t1_loop.trips) : Memref sig .tc .vmem S1x1024 .f32 := (scM.slice (Rect.unit (s := S4x256x1024) (k0_off2 r) S1x1x1024.size (k0_off2_inb r)) (fun _ => rfl)).squeeze S1x1024 squeezes_S1x1x1024_S1x1024
def dst1 (r : Fin k0_t1_loop.trips) : Memref sig .tc .vmem S1x1024 .f32 := (scM.slice (Rect.unit (s := S4x256x1024) (k0_off5 r) S1x1x1024.size (k0_off5_inb r)) (fun _ => rfl)).squeeze S1x1024 squeezes_S1x1x1024_S1x1024
def dst2 (r : Fin k0_t1_loop.trips) : Memref sig .tc .vmem S1x1024 .f32 := (scM.slice (Rect.unit (s := S4x256x1024) (k0_off8 r) S1x1x1024.size (k0_off8_inb r)) (fun _ => rfl)).squeeze S1x1024 squeezes_S1x1x1024_S1x1024
def dst3 (r : Fin k0_t1_loop.trips) : Memref sig .tc .vmem S1x1024 .f32 := (scM.slice (Rect.unit (s := S4x256x1024) (k0_off11 r) S1x1x1024.size (k0_off11_inb r)) (fun _ => rfl)).squeeze S1x1024 squeezes_S1x1x1024_S1x1024

/-- The four words of token `r` in a block of the table. -/
def word0 (arg1 : Memref sig .tc .smem S1x1x1024 .i32) (x0 : S1x1x1024.Idx → Elt F .i32) (r : Fin k0_t1_loop.trips) : Elt F .i32 :=
  arg1.view.readAt (Elt F) (Rect.unit (s := S1x1x1024) (k0_off1 r) S1x1x1.size (k0_off1_inb r)).toLoadRect (arg1.view.rep x0) (Shape.Idx.first (numel1_S1x1x1.symm ▸ Nat.one_pos))
def word1 (arg1 : Memref sig .tc .smem S1x1x1024 .i32) (x0 : S1x1x1024.Idx → Elt F .i32) (r : Fin k0_t1_loop.trips) : Elt F .i32 :=
  arg1.view.readAt (Elt F) (Rect.unit (s := S1x1x1024) (k0_off4 r) S1x1x1.size (k0_off4_inb r)).toLoadRect (arg1.view.rep x0) (Shape.Idx.first (numel1_S1x1x1.symm ▸ Nat.one_pos))
def word2 (arg1 : Memref sig .tc .smem S1x1x1024 .i32) (x0 : S1x1x1024.Idx → Elt F .i32) (r : Fin k0_t1_loop.trips) : Elt F .i32 :=
  arg1.view.readAt (Elt F) (Rect.unit (s := S1x1x1024) (k0_off7 r) S1x1x1.size (k0_off7_inb r)).toLoadRect (arg1.view.rep x0) (Shape.Idx.first (numel1_S1x1x1.symm ▸ Nat.one_pos))
def word3 (arg1 : Memref sig .tc .smem S1x1x1024 .i32) (x0 : S1x1x1024.Idx → Elt F .i32) (r : Fin k0_t1_loop.trips) : Elt F .i32 :=
  arg1.view.readAt (Elt F) (Rect.unit (s := S1x1x1024) (k0_off10 r) S1x1x1.size (k0_off10_inb r)).toLoadRect (arg1.view.rep x0) (Shape.Idx.first (numel1_S1x1x1.symm ▸ Nat.one_pos))

/-- Every word of the block names a row of the experts' array. -/
def InB (x0 : S1x1x1024.Idx → Elt F .i32) : Prop := ∀ y, BitVec.toNat (x0 y) < 139264

theorem inb_row (v : BitVec 32) (h : v.toNat < 139264) : ∀ a, (![v.toNat, 0] : Fin 2 → ℕ) a + S1x1024.size a ≤ S139264x1024.size a := by
  intro a; fin_cases a
  · show v.toNat + 1 ≤ 139264; omega
  · show 0 + 1024 ≤ 1024; omega

theorem read_lt (arg1 : Memref sig .tc .smem S1x1x1024 .i32) (x0 : S1x1x1024.Idx → Elt F .i32) (h : InB x0) (r : LoadRect S1x1x1024) (x : r.shape.Idx) :
    BitVec.toNat (arg1.view.readAt (Elt F) r (arg1.view.rep x0) x) < 139264 := by
  rw [View.readAt_apply, View.read_rep]
  exact h _

section
variable {arg1 : Memref sig .tc .smem S1x1x1024 .i32} {x0 : S1x1x1024.Idx → Elt F .i32}
theorem chk1 (h : InB x0) (r : Fin k0_t1_loop.trips) : k0_chk1 (word0 arg1 x0 r) := inb_row _ (read_lt arg1 x0 h _ _)
theorem chk2 (h : InB x0) (r : Fin k0_t1_loop.trips) : k0_chk2 (word1 arg1 x0 r) := inb_row _ (read_lt arg1 x0 h _ _)
theorem chk3 (h : InB x0) (r : Fin k0_t1_loop.trips) : k0_chk3 (word2 arg1 x0 r) := inb_row _ (read_lt arg1 x0 h _ _)
theorem chk4 (h : InB x0) (r : Fin k0_t1_loop.trips) : k0_chk4 (word3 arg1 x0 r) := inb_row _ (read_lt arg1 x0 h _ _)
end

/-- The rows the four words name. -/
def src0 (arg1 : Memref sig .tc .smem S1x1x1024 .i32) (x0 : S1x1x1024.Idx → Elt F .i32) (h : InB x0) (r : Fin k0_t1_loop.trips) : Memref sig .tc .hbm S1x1024 .f32 := ybM.slice (Rect.unit (s := S139264x1024) (k0_off3 (word0 arg1 x0 r)) S1x1024.size (k0_off3_inb (word0 arg1 x0 r) (chk1 h r))) (fun _ => rfl)
def src1 (arg1 : Memref sig .tc .smem S1x1x1024 .i32) (x0 : S1x1x1024.Idx → Elt F .i32) (h : InB x0) (r : Fin k0_t1_loop.trips) : Memref sig .tc .hbm S1x1024 .f32 := ybM.slice (Rect.unit (s := S139264x1024) (k0_off6 (word1 arg1 x0 r)) S1x1024.size (k0_off6_inb (word1 arg1 x0 r) (chk2 h r))) (fun _ => rfl)
def src2 (arg1 : Memref sig .tc .smem S1x1x1024 .i32) (x0 : S1x1x1024.Idx → Elt F .i32) (h : InB x0) (r : Fin k0_t1_loop.trips) : Memref sig .tc .hbm S1x1024 .f32 := ybM.slice (Rect.unit (s := S139264x1024) (k0_off9 (word2 arg1 x0 r)) S1x1024.size (k0_off9_inb (word2 arg1 x0 r) (chk3 h r))) (fun _ => rfl)
def src3 (arg1 : Memref sig .tc .smem S1x1x1024 .i32) (x0 : S1x1x1024.Idx → Elt F .i32) (h : InB x0) (r : Fin k0_t1_loop.trips) : Memref sig .tc .hbm S1x1024 .f32 := ybM.slice (Rect.unit (s := S139264x1024) (k0_off12 (word3 arg1 x0 r)) S1x1024.size (k0_off12_inb (word3 arg1 x0 r) (chk4 h r))) (fun _ => rfl)

/-- A copy of one row adds this many units to the semaphore. -/
@[irreducible] def NN : ℕ := 128
theorem NN_eq : NN = 128 := by unfold NN; rfl
theorem amount0 (r : Fin k0_t1_loop.trips) : (dst0 r).view.amount (SemLoc.dma cc0_scratch1.sem : SemLoc sig) = NN := by rw [NN_eq]; rfl
theorem amount1 (r : Fin k0_t1_loop.trips) : (dst1 r).view.amount (SemLoc.dma cc0_scratch1.sem : SemLoc sig) = NN := by rw [NN_eq]; rfl
theorem amount2 (r : Fin k0_t1_loop.trips) : (dst2 r).view.amount (SemLoc.dma cc0_scratch1.sem : SemLoc sig) = NN := by rw [NN_eq]; rfl
theorem amount3 (r : Fin k0_t1_loop.trips) : (dst3 r).view.amount (SemLoc.dma cc0_scratch1.sem : SemLoc sig) = NN := by rw [NN_eq]; rfl

local notation "𝕄" => MT nD τ sig Unit (Elt F) ℕ (Pipeline.UD sig nD τ) ℕ

section Pieces

variable (c : Dev nD) (arg1 : Memref sig .tc .smem S1x1x1024 .i32) (x0 : S1x1x1024.Idx → Elt F .i32) (h : InB x0)
  (Y : S139264x1024.Idx → Elt F .f32) (f0 : S4x256x1024.Idx → Elt F .f32)

/-- The scratch buffer with row 0 of token `r` copied in. -/
def landed0 (r : Fin k0_t1_loop.trips) : S4x256x1024.Idx → Elt F .f32 := (dst0 r).view.write (Elt F) f0 (ReadAs.same.apply ((src0 arg1 x0 h r).view.read (Elt F) Y)) Finset.univ
/-- Row 0 of token `r` in the scratch buffer; the row it is copied from, under a read token of its own. -/
def row0 (f : S4x256x1024.Idx → Elt F .f32) (r : Fin k0_t1_loop.trips) : sProp 𝕄 := (dst0 r).view.loc (c : Thread nD τ) ↦[(dst0 r).view.set]{fullShare} f
def from0 (r : Fin k0_t1_loop.trips) : sProp 𝕄 := (src0 arg1 x0 h r).view.loc (c : Thread nD τ) ↦[(src0 arg1 x0 h r).view.set]{Transfers.shareTokN fullShare (4 * r.val + 0)} Y
/-- The scratch buffer with row 1 of token `r` copied in. -/
def landed1 (r : Fin k0_t1_loop.trips) : S4x256x1024.Idx → Elt F .f32 := (dst1 r).view.write (Elt F) f0 (ReadAs.same.apply ((src1 arg1 x0 h r).view.read (Elt F) Y)) Finset.univ
/-- Row 1 of token `r` in the scratch buffer; the row it is copied from, under a read token of its own. -/
def row1 (f : S4x256x1024.Idx → Elt F .f32) (r : Fin k0_t1_loop.trips) : sProp 𝕄 := (dst1 r).view.loc (c : Thread nD τ) ↦[(dst1 r).view.set]{fullShare} f
def from1 (r : Fin k0_t1_loop.trips) : sProp 𝕄 := (src1 arg1 x0 h r).view.loc (c : Thread nD τ) ↦[(src1 arg1 x0 h r).view.set]{Transfers.shareTokN fullShare (4 * r.val + 1)} Y
/-- The scratch buffer with row 2 of token `r` copied in. -/
def landed2 (r : Fin k0_t1_loop.trips) : S4x256x1024.Idx → Elt F .f32 := (dst2 r).view.write (Elt F) f0 (ReadAs.same.apply ((src2 arg1 x0 h r).view.read (Elt F) Y)) Finset.univ
/-- Row 2 of token `r` in the scratch buffer; the row it is copied from, under a read token of its own. -/
def row2 (f : S4x256x1024.Idx → Elt F .f32) (r : Fin k0_t1_loop.trips) : sProp 𝕄 := (dst2 r).view.loc (c : Thread nD τ) ↦[(dst2 r).view.set]{fullShare} f
def from2 (r : Fin k0_t1_loop.trips) : sProp 𝕄 := (src2 arg1 x0 h r).view.loc (c : Thread nD τ) ↦[(src2 arg1 x0 h r).view.set]{Transfers.shareTokN fullShare (4 * r.val + 2)} Y
/-- The scratch buffer with row 3 of token `r` copied in. -/
def landed3 (r : Fin k0_t1_loop.trips) : S4x256x1024.Idx → Elt F .f32 := (dst3 r).view.write (Elt F) f0 (ReadAs.same.apply ((src3 arg1 x0 h r).view.read (Elt F) Y)) Finset.univ
/-- Row 3 of token `r` in the scratch buffer; the row it is copied from, under a read token of its own. -/
def row3 (f : S4x256x1024.Idx → Elt F .f32) (r : Fin k0_t1_loop.trips) : sProp 𝕄 := (dst3 r).view.loc (c : Thread nD τ) ↦[(dst3 r).view.set]{fullShare} f
def from3 (r : Fin k0_t1_loop.trips) : sProp 𝕄 := (src3 arg1 x0 h r).view.loc (c : Thread nD τ) ↦[(src3 arg1 x0 h r).view.set]{Transfers.shareTokN fullShare (4 * r.val + 3)} Y

def row (k : Fin 4) (f : S4x256x1024.Idx → Elt F .f32) (r : Fin k0_t1_loop.trips) : sProp 𝕄 :=
  match k with
  | 0 => row0 c f r
  | 1 => row1 c f r
  | 2 => row2 c f r
  | 3 => row3 c f r
def from_ (k : Fin 4) (r : Fin k0_t1_loop.trips) : sProp 𝕄 :=
  match k with
  | 0 => from0 c arg1 x0 h Y r
  | 1 => from1 c arg1 x0 h Y r
  | 2 => from2 c arg1 x0 h Y r
  | 3 => from3 c arg1 x0 h Y r
def landed (k : Fin 4) (r : Fin k0_t1_loop.trips) : S4x256x1024.Idx → Elt F .f32 :=
  match k with
  | 0 => landed0 arg1 x0 h Y f0 r
  | 1 => landed1 arg1 x0 h Y f0 r
  | 2 => landed2 arg1 x0 h Y f0 r
  | 3 => landed3 arg1 x0 h Y f0 r

/-- What copy `t` delivers: its row landed, and the read token back. -/
def deliv (t : Fin NT) : sProp 𝕄 :=
  iprop(fam (fun k r => row c k (landed arg1 x0 h Y f0 k r) r) t ∗ fam (from_ c arg1 x0 h Y) t)

theorem pt_storable (ℓ : Loc nD τ sig) (I) (q : PosShare TreeShare) (f : Buf (Elt F) ℓ) : BI.Storable (upEmb : UEmb _ 𝕄) (ℓ ↦[I]{q} f : sProp 𝕄) := inferInstance

theorem row0_storable (f : S4x256x1024.Idx → Elt F .f32) (r : Fin k0_t1_loop.trips) : BI.Storable (upEmb : UEmb _ 𝕄) (row0 c f r) := pt_storable _ _ _ _
theorem from0_storable (r : Fin k0_t1_loop.trips) : BI.Storable (upEmb : UEmb _ 𝕄) (from0 c arg1 x0 h Y r) := pt_storable _ _ _ _
theorem row1_storable (f : S4x256x1024.Idx → Elt F .f32) (r : Fin k0_t1_loop.trips) : BI.Storable (upEmb : UEmb _ 𝕄) (row1 c f r) := pt_storable _ _ _ _
theorem from1_storable (r : Fin k0_t1_loop.trips) : BI.Storable (upEmb : UEmb _ 𝕄) (from1 c arg1 x0 h Y r) := pt_storable _ _ _ _
theorem row2_storable (f : S4x256x1024.Idx → Elt F .f32) (r : Fin k0_t1_loop.trips) : BI.Storable (upEmb : UEmb _ 𝕄) (row2 c f r) := pt_storable _ _ _ _
theorem from2_storable (r : Fin k0_t1_loop.trips) : BI.Storable (upEmb : UEmb _ 𝕄) (from2 c arg1 x0 h Y r) := pt_storable _ _ _ _
theorem row3_storable (f : S4x256x1024.Idx → Elt F .f32) (r : Fin k0_t1_loop.trips) : BI.Storable (upEmb : UEmb _ 𝕄) (row3 c f r) := pt_storable _ _ _ _
theorem from3_storable (r : Fin k0_t1_loop.trips) : BI.Storable (upEmb : UEmb _ 𝕄) (from3 c arg1 x0 h Y r) := pt_storable _ _ _ _

instance row_storable (k : Fin 4) (f : S4x256x1024.Idx → Elt F .f32) (r : Fin k0_t1_loop.trips) : BI.Storable (upEmb : UEmb _ 𝕄) (row c k f r) :=
  match k with
  | 0 => row0_storable c f r
  | 1 => row1_storable c f r
  | 2 => row2_storable c f r
  | 3 => row3_storable c f r
instance from_storable (k : Fin 4) (r : Fin k0_t1_loop.trips) : BI.Storable (upEmb : UEmb _ 𝕄) (from_ c arg1 x0 h Y k r) :=
  match k with
  | 0 => from0_storable c arg1 x0 h Y r
  | 1 => from1_storable c arg1 x0 h Y r
  | 2 => from2_storable c arg1 x0 h Y r
  | 3 => from3_storable c arg1 x0 h Y r
instance deliv_storable (t : Fin NT) : BI.Storable (upEmb : UEmb _ 𝕄) (deliv c arg1 x0 h Y f0 t) := by
  unfold deliv fam; dsimp only; infer_instance

/-- The batch of copies: `j` issued, `u` units waited for. -/
abbrev batch (j u : ℕ) : sProp 𝕄 :=
  Transfers.Batch (countersEmb (U := Pipeline.UD sig nD τ)) (c : Thread nD τ) (.dma cc0_scratch1.sem) () NN (deliv c arg1 x0 h Y f0) j u

end Pieces

end Cert.Combine

end
-- ==== Proof.Combine.Issue.lean ====
/-
  The loop that starts the copies: four per token.
-/
module

public import proofs.«01_k».proof.Proof.Combine.Names

@[expose] public section

set_option maxRecDepth 16384

noncomputable section

namespace Cert.Combine

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (i : grid0.Coords) (arg1 : Memref sig .tc .smem S1x1x1024 .i32) (harg1 : arg1.IsWhole)
  (arg3 : Memref sig .tc .vmem S256x128 .f32) (harg3 : arg3.IsWhole) (arg4 : Memref sig .tc .vmem S256x1024 .f32) (harg4 : arg4.IsWhole)
  (arg5 : Memref sig .tc .vmem S1x1x1024 .f32) (harg5 : arg5.IsWhole) (arg6 : Memref sig .tc .vmem S1x1024 .f32) (harg6 : arg6.IsWhole)
  (arg7 : Memref sig .tc .vmem S256x1024 .f32) (harg7 : arg7.IsWhole)
  (x0 : S1x1x1024.Idx → Elt F .i32) (h : InB x0)
  (Y : S139264x1024.Idx → Elt F .f32) (f0 : S4x256x1024.Idx → Elt F .f32)

/-- Before token `k`: four copies started for each earlier token, the later tokens' rows still in hand. -/
def issueAt (k : ℕ) (_ : Unit) : sProp 𝕄 :=
  iprop(batch c arg1 x0 h Y f0 (4 * k) 0
    ∗ bigSep (Ring.rangeSet NT (4 * k) NT) (fam fun k r => row c k f0 r)
    ∗ bigSep (Ring.rangeSet NT (4 * k) NT) (fam (from_ c arg1 x0 h Y))
    ∗ (arg1.view.loc (c : Thread nD τ) ↦[arg1.view.set]{fullShare} arg1.view.rep x0))

theorem deliv_at (r : Fin k0_t1_loop.trips) (k : Fin 4) (j : ℕ) (hj : j = 4 * r.val + k.val) (hl : j < NT) :
    deliv c arg1 x0 h Y f0 ⟨j, hl⟩ = iprop(row c k (landed arg1 x0 h Y f0 k r) r ∗ from_ c arg1 x0 h Y k r) := by
  unfold deliv
  rw [fam_at _ r k j hj hl, fam_at _ r k j hj hl]

theorem deliv_row0 (r : Fin k0_t1_loop.trips) (hl : 4 * r.val < NT) :
    iprop(((dst0 r).view.loc (c : Thread nD τ) ↦[(dst0 r).view.set]{fullShare} ((dst0 r).view.write (Elt F) f0 (ReadAs.same.apply ((src0 arg1 x0 h r).view.read (Elt F) Y)) Finset.univ))
        ∗ ((src0 arg1 x0 h r).view.loc (c : Thread nD τ) ↦[(src0 arg1 x0 h r).view.set]{Transfers.shareTokN fullShare (4 * r.val + 0)} Y))
      ⊢ (deliv c arg1 x0 h Y f0 ⟨4 * r.val, hl⟩ : sProp 𝕄) :=
  Entails.of_eq (deliv_at c arg1 x0 h Y f0 r 0 _ (by first | rfl | (show _ = 4 * r.val + 0; omega)) hl).symm

theorem deliv_row1 (r : Fin k0_t1_loop.trips) (hl : 4 * r.val + 1 < NT) :
    iprop(((dst1 r).view.loc (c : Thread nD τ) ↦[(dst1 r).view.set]{fullShare} ((dst1 r).view.write (Elt F) f0 (ReadAs.same.apply ((src1 arg1 x0 h r).view.read (Elt F) Y)) Finset.univ))
        ∗ ((src1 arg1 x0 h r).view.loc (c : Thread nD τ) ↦[(src1 arg1 x0 h r).view.set]{Transfers.shareTokN fullShare (4 * r.val + 1)} Y))
      ⊢ (deliv c arg1 x0 h Y f0 ⟨4 * r.val + 1, hl⟩ : sProp 𝕄) :=
  Entails.of_eq (deliv_at c arg1 x0 h Y f0 r 1 _ (by first | rfl | (show _ = 4 * r.val + 1; omega)) hl).symm

theorem deliv_row2 (r : Fin k0_t1_loop.trips) (hl : 4 * r.val + 1 + 1 < NT) :
    iprop(((dst2 r).view.loc (c : Thread nD τ) ↦[(dst2 r).view.set]{fullShare} ((dst2 r).view.write (Elt F) f0 (ReadAs.same.apply ((src2 arg1 x0 h r).view.read (Elt F) Y)) Finset.univ))
        ∗ ((src2 arg1 x0 h r).view.loc (c : Thread nD τ) ↦[(src2 arg1 x0 h r).view.set]{Transfers.shareTokN fullShare (4 * r.val + 2)} Y))
      ⊢ (deliv c arg1 x0 h Y f0 ⟨4 * r.val + 1 + 1, hl⟩ : sProp 𝕄) :=
  Entails.of_eq (deliv_at c arg1 x0 h Y f0 r 2 _ (by first | rfl | (show _ = 4 * r.val + 2; omega)) hl).symm

theorem deliv_row3 (r : Fin k0_t1_loop.trips) (hl : 4 * r.val + 1 + 1 + 1 < NT) :
    iprop(((dst3 r).view.loc (c : Thread nD τ) ↦[(dst3 r).view.set]{fullShare} ((dst3 r).view.write (Elt F) f0 (ReadAs.same.apply ((src3 arg1 x0 h r).view.read (Elt F) Y)) Finset.univ))
        ∗ ((src3 arg1 x0 h r).view.loc (c : Thread nD τ) ↦[(src3 arg1 x0 h r).view.set]{Transfers.shareTokN fullShare (4 * r.val + 3)} Y))
      ⊢ (deliv c arg1 x0 h Y f0 ⟨4 * r.val + 1 + 1 + 1, hl⟩ : sProp 𝕄) :=
  Entails.of_eq (deliv_at c arg1 x0 h Y f0 r 3 _ (by first | rfl | (show _ = 4 * r.val + 3; omega)) hl).symm

set_option maxHeartbeats 4000000 in
theorem issue_step [∀ e, Nonempty (Elt F e)] (k : Fin k0_t1_loop.trips) (acc : Unit) :
    issueAt c arg1 x0 h Y f0 k acc
      ⊢ wp frame (wpE (defs₀ (F := F)) Variants.none (c : Thread nD τ) none) Set.univ
        (k0_t1_body (F := F) i arg1 harg1 ybM (Memref.isWhole_whole _) arg3 harg3 arg4 harg4 arg5 harg5 arg6 harg6 arg7 harg7 scM (Memref.isWhole_whole _) cc0_scratch1 k acc)
        (issueAt c arg1 x0 h Y f0 (k.val + 1)) := by
  have hk := k.isLt; have ht := trips_eq; have hn := NT_eq
  unfold issueAt
  rw [Ring.bigSep_rangeSet_head (Φ := fam fun k r => row c k f0 r) (lo := 4 * k.val) (by omega) (by omega),
    Ring.bigSep_rangeSet_head (Φ := fam fun k r => row c k f0 r) (lo := 4 * k.val + 1) (by omega) (by omega),
    Ring.bigSep_rangeSet_head (Φ := fam fun k r => row c k f0 r) (lo := 4 * k.val + 1 + 1) (by omega) (by omega),
    Ring.bigSep_rangeSet_head (Φ := fam fun k r => row c k f0 r) (lo := 4 * k.val + 1 + 1 + 1) (by omega) (by omega),
    Ring.bigSep_rangeSet_head (Φ := fam (from_ c arg1 x0 h Y)) (lo := 4 * k.val) (by omega) (by omega),
    Ring.bigSep_rangeSet_head (Φ := fam (from_ c arg1 x0 h Y)) (lo := 4 * k.val + 1) (by omega) (by omega),
    Ring.bigSep_rangeSet_head (Φ := fam (from_ c arg1 x0 h Y)) (lo := 4 * k.val + 1 + 1) (by omega) (by omega),
    Ring.bigSep_rangeSet_head (Φ := fam (from_ c arg1 x0 h Y)) (lo := 4 * k.val + 1 + 1 + 1) (by omega) (by omega),
    show 4 * (k.val + 1) = 4 * k.val + 1 + 1 + 1 + 1 by omega]
  rw [fam_at (fun k r => row c k f0 r) k 0 (4 * k.val) (by first | rfl | (show _ = 4 * k.val + 0; omega)),
    fam_at (fun k r => row c k f0 r) k 1 (4 * k.val + 1) (by first | rfl | (show _ = 4 * k.val + 1; omega)),
    fam_at (fun k r => row c k f0 r) k 2 (4 * k.val + 1 + 1) (by first | rfl | (show _ = 4 * k.val + 2; omega)),
    fam_at (fun k r => row c k f0 r) k 3 (4 * k.val + 1 + 1 + 1) (by first | rfl | (show _ = 4 * k.val + 3; omega)),
    fam_at (from_ c arg1 x0 h Y) k 0 (4 * k.val) (by first | rfl | (show _ = 4 * k.val + 0; omega)),
    fam_at (from_ c arg1 x0 h Y) k 1 (4 * k.val + 1) (by first | rfl | (show _ = 4 * k.val + 1; omega)),
    fam_at (from_ c arg1 x0 h Y) k 2 (4 * k.val + 1 + 1) (by first | rfl | (show _ = 4 * k.val + 2; omega)),
    fam_at (from_ c arg1 x0 h Y) k 3 (4 * k.val + 1 + 1 + 1) (by first | rfl | (show _ = 4 * k.val + 3; omega))]
  have k0_h1 := chk1 (arg1 := arg1) h k
  have k0_h2 := chk2 (arg1 := arg1) h k
  have k0_h3 := chk3 (arg1 := arg1) h k
  have k0_h4 := chk4 (arg1 := arg1) h k
  unfold word0 at k0_h1; unfold word1 at k0_h2; unfold word2 at k0_h3; unfold word3 at k0_h4
  dsimp only [row, from_]
  unfold row0 row1 row2 row3 from0 from1 from2 from3
  iintro ⟨HB, ⟨HR0, HR1, HR2, HR3, HRs⟩, ⟨HF0, HF1, HF2, HF3, HFs⟩, HA⟩
  unfold k0_t1_body
  rw [k0_part1_eq_skeleton]; unfold k0_part1_skel
  sl_exec! (disch := first | exact k0_h1 | exact k0_h2 | exact k0_h3 | exact k0_h4)
  iapply (Transfers.wp_dmaBatch (countersEmb (U := Pipeline.UD sig nD τ)) Variants.none (c : Thread nD τ) none () NN (amount0 k) subset_rfl
    (show 4 * k.val < NT by omega) (Nat.zero_le _) (deliv_row0 c arg1 x0 h Y f0 k (by omega))) $$ [HF0 HR0 HB]
  · isplitl [HF0]; · iexact HF0
    isplitl [HR0]; · iexact HR0
    iexact HB
  iintro HB
  sl_exec! (disch := first | exact k0_h1 | exact k0_h2 | exact k0_h3 | exact k0_h4)
  iapply (Transfers.wp_dmaBatch (countersEmb (U := Pipeline.UD sig nD τ)) Variants.none (c : Thread nD τ) none () NN (amount1 k) subset_rfl
    (show 4 * k.val + 1 < NT by omega) (Nat.zero_le _) (deliv_row1 c arg1 x0 h Y f0 k (by omega))) $$ [HF1 HR1 HB]
  · isplitl [HF1]; · iexact HF1
    isplitl [HR1]; · iexact HR1
    iexact HB
  iintro HB
  sl_exec! (disch := first | exact k0_h1 | exact k0_h2 | exact k0_h3 | exact k0_h4)
  iapply (Transfers.wp_dmaBatch (countersEmb (U := Pipeline.UD sig nD τ)) Variants.none (c : Thread nD τ) none () NN (amount2 k) subset_rfl
    (show 4 * k.val + 1 + 1 < NT by omega) (Nat.zero_le _) (deliv_row2 c arg1 x0 h Y f0 k (by omega))) $$ [HF2 HR2 HB]
  · isplitl [HF2]; · iexact HF2
    isplitl [HR2]; · iexact HR2
    iexact HB
  iintro HB
  sl_exec! (disch := first | exact k0_h1 | exact k0_h2 | exact k0_h3 | exact k0_h4)
  iapply (Transfers.wp_dmaBatch (countersEmb (U := Pipeline.UD sig nD τ)) Variants.none (c : Thread nD τ) none () NN (amount3 k) subset_rfl
    (show 4 * k.val + 1 + 1 + 1 < NT by omega) (Nat.zero_le _) (deliv_row3 c arg1 x0 h Y f0 k (by omega))) $$ [HF3 HR3 HB]
  · isplitl [HF3]; · iexact HF3
    isplitl [HR3]; · iexact HR3
    iexact HB
  iintro HB
  sl_step
  isplitl [HB]; · iexact HB
  isplitl [HRs]; · iexact HRs
  isplitl [HFs]; · iexact HFs
  iexact HA

end Cert.Combine

end
-- ==== Proof.Combine.Drain.lean ====
/-
  The loop that waits for the copies: four per token.
-/
module

public import proofs.«01_k».proof.Proof.Combine.Issue

@[expose] public section

set_option maxRecDepth 16384

noncomputable section

namespace Cert.Combine

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (i : grid0.Coords) (arg1 : Memref sig .tc .smem S1x1x1024 .i32) (harg1 : arg1.IsWhole)
  (arg3 : Memref sig .tc .vmem S256x128 .f32) (harg3 : arg3.IsWhole) (arg4 : Memref sig .tc .vmem S256x1024 .f32) (harg4 : arg4.IsWhole)
  (arg5 : Memref sig .tc .vmem S1x1x1024 .f32) (harg5 : arg5.IsWhole) (arg6 : Memref sig .tc .vmem S1x1024 .f32) (harg6 : arg6.IsWhole)
  (arg7 : Memref sig .tc .vmem S256x1024 .f32) (harg7 : arg7.IsWhole)
  (x0 : S1x1x1024.Idx → Elt F .i32) (h : InB x0)
  (Y : S139264x1024.Idx → Elt F .f32) (f0 : S4x256x1024.Idx → Elt F .f32)

/-- Before token `k`: four copies waited for each earlier token; after the last one every copy has been delivered. -/
def drainInv (k : ℕ) (_ : Unit) : sProp 𝕄 :=
  iprop((∃ W, owes (c : Thread nD τ) 0 W)
    ∗ (if k < k0_t2_loop.trips then batch c arg1 x0 h Y f0 NT (4 * k * NN)
       else iprop(semVal ((c : Thread nD τ), SemLoc.dma cc0_scratch1.sem) 0 ∗ bigSep Finset.univ (deliv c arg1 x0 h Y f0))))

set_option maxHeartbeats 4000000 in
theorem drain_step [∀ e, Nonempty (Elt F e)] (k : Fin k0_t2_loop.trips) (acc : Unit) :
    drainInv c arg1 x0 h Y f0 k acc
      ⊢ wp frame (wpE (defs₀ (F := F)) Variants.none (c : Thread nD τ) none) Set.univ
        (k0_t2_body (F := F) i arg1 harg1 ybM (Memref.isWhole_whole _) arg3 harg3 arg4 harg4 arg5 harg5 arg6 harg6 arg7 harg7 scM (Memref.isWhole_whole _) cc0_scratch1 k acc)
        (drainInv c arg1 x0 h Y f0 (k.val + 1)) := by
  have hk := k.isLt; have ht := trips2_eq; have hn := NT_eq; have hN := NN_eq
  unfold drainInv
  simp only [if_pos hk]
  rcases Nat.lt_or_ge (k.val + 1) k0_t2_loop.trips with h1 | h1
  · simp only [if_pos h1]
    iintro ⟨⟨%W, HO⟩, HB⟩
    unfold k0_t2_body
    iapply (Transfers.wp_waitBatch (countersEmb (U := Pipeline.UD sig nD τ)) Variants.none (c : Thread nD τ) none () (N := NN) (by rw [hN]; rfl) (D := deliv c arg1 x0 h Y f0) (u := 4 * k.val * NN)
      (by rw [hn, hN]; omega)) $$ [HB HO]
    · isplitl [HB] <;> iassumption
    iintro ⟨HB, HO⟩
    iapply (Transfers.wp_waitBatch (countersEmb (U := Pipeline.UD sig nD τ)) Variants.none (c : Thread nD τ) none () (N := NN) (by rw [hN]; rfl) (D := deliv c arg1 x0 h Y f0) (u := 4 * k.val * NN + NN)
      (by rw [hn, hN]; omega)) $$ [HB HO]
    · isplitl [HB] <;> iassumption
    iintro ⟨HB, HO⟩
    iapply (Transfers.wp_waitBatch (countersEmb (U := Pipeline.UD sig nD τ)) Variants.none (c : Thread nD τ) none () (N := NN) (by rw [hN]; rfl) (D := deliv c arg1 x0 h Y f0) (u := 4 * k.val * NN + NN + NN)
      (by rw [hn, hN]; omega)) $$ [HB HO]
    · isplitl [HB] <;> iassumption
    iintro ⟨HB, HO⟩
    iapply (Transfers.wp_waitBatch (countersEmb (U := Pipeline.UD sig nD τ)) Variants.none (c : Thread nD τ) none () (N := NN) (by rw [hN]; rfl) (D := deliv c arg1 x0 h Y f0) (u := 4 * k.val * NN + NN + NN + NN)
      (by rw [hn, hN]; omega)) $$ [HB HO]
    · isplitl [HB] <;> iassumption
    iintro ⟨HB, HO⟩
    dsimp only [Prog.bind]; sl_step
    isplitl [HO]; · iexists _; iexact HO
    rw [show 4 * (k.val + 1) * NN = 4 * k.val * NN + NN + NN + NN + NN by rw [hN]; omega]
    iexact HB
  · simp only [if_neg (Nat.not_lt.mpr h1)]
    iintro ⟨⟨%W, HO⟩, HB⟩
    unfold k0_t2_body
    iapply (Transfers.wp_waitBatch (countersEmb (U := Pipeline.UD sig nD τ)) Variants.none (c : Thread nD τ) none () (N := NN) (by rw [hN]; rfl) (D := deliv c arg1 x0 h Y f0) (u := 4 * k.val * NN)
      (by rw [hn, hN]; omega)) $$ [HB HO]
    · isplitl [HB] <;> iassumption
    iintro ⟨HB, HO⟩
    iapply (Transfers.wp_waitBatch (countersEmb (U := Pipeline.UD sig nD τ)) Variants.none (c : Thread nD τ) none () (N := NN) (by rw [hN]; rfl) (D := deliv c arg1 x0 h Y f0) (u := 4 * k.val * NN + NN)
      (by rw [hn, hN]; omega)) $$ [HB HO]
    · isplitl [HB] <;> iassumption
    iintro ⟨HB, HO⟩
    iapply (Transfers.wp_waitBatch (countersEmb (U := Pipeline.UD sig nD τ)) Variants.none (c : Thread nD τ) none () (N := NN) (by rw [hN]; rfl) (D := deliv c arg1 x0 h Y f0) (u := 4 * k.val * NN + NN + NN)
      (by rw [hn, hN]; omega)) $$ [HB HO]
    · isplitl [HB] <;> iassumption
    iintro ⟨HB, HO⟩
    iapply (Transfers.wp_waitBatchLast (countersEmb (U := Pipeline.UD sig nD τ)) Variants.none (c : Thread nD τ) none () (N := NN) (by rw [hN]; rfl) (by rw [hN]; omega) (D := deliv c arg1 x0 h Y f0) (u := 4 * k.val * NN + NN + NN + NN)
      (by rw [hn, hN]; omega)) $$ [HB HO]
    · isplitl [HB] <;> iassumption
    iintro ⟨Hall, Hc, HO⟩
    dsimp only [Prog.bind]; sl_step
    isplitl [HO]; · iexists _; iexact HO
    isplitl [Hc] <;> iassumption

end Cert.Combine

end
-- ==== Proof.Combine.Pieces.lean ====
/-
  Which elements of the scratch buffer a copy lands on and what it writes there: row `k` of token `r` receives the experts'
  row that word `4 * r + k` of the table block names.
-/
module

public import proofs.«01_k».proof.Proof.Combine.Names

@[expose] public section

set_option maxRecDepth 16384

noncomputable section

namespace Cert.Combine

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The elements of row `k` of token `r` in the scratch buffer. -/
@[irreducible] def rowset (k r : ℕ) : Finset S4x256x1024.Idx := Finset.univ.filter fun y => (y 0).val = k ∧ (y 1).val = r

theorem mem_rowset (k r : ℕ) (y : S4x256x1024.Idx) : y ∈ rowset k r ↔ (y 0).val = k ∧ (y 1).val = r := by
  unfold rowset; rw [Finset.mem_filter]; exact ⟨fun h => h.2, fun h => ⟨Finset.mem_univ _, h⟩⟩

/-- Element `j` of row `v` of the experts' array. -/
def ybIx (v : ℕ) (h : v < 139264) (j : Fin 1024) : S139264x1024.Idx := fun a => match a with
  | 0 => ⟨v, h⟩
  | 1 => j
/-- Word `n` of a table block. -/
def tabIx (n : ℕ) (h : n < 1024) : S1x1x1024.Idx := fun a => match a with
  | 0 => ⟨0, by decide⟩
  | 1 => ⟨0, by decide⟩
  | 2 => ⟨n, h⟩

theorem off1_eq : ∀ r : Fin k0_t1_loop.trips, k0_off1 r = ![0, 0, 4 * r.val + 0] := by decide +kernel
theorem off4_eq : ∀ r : Fin k0_t1_loop.trips, k0_off4 r = ![0, 0, 4 * r.val + 1] := by decide +kernel
theorem off7_eq : ∀ r : Fin k0_t1_loop.trips, k0_off7 r = ![0, 0, 4 * r.val + 2] := by decide +kernel
theorem off10_eq : ∀ r : Fin k0_t1_loop.trips, k0_off10 r = ![0, 0, 4 * r.val + 3] := by decide +kernel
theorem off2_eq : ∀ r : Fin k0_t1_loop.trips, k0_off2 r = ![0, r.val, 0] := by decide +kernel
theorem off5_eq : ∀ r : Fin k0_t1_loop.trips, k0_off5 r = ![1, r.val, 0] := by decide +kernel
theorem off8_eq : ∀ r : Fin k0_t1_loop.trips, k0_off8 r = ![2, r.val, 0] := by decide +kernel
theorem off11_eq : ∀ r : Fin k0_t1_loop.trips, k0_off11 r = ![3, r.val, 0] := by decide +kernel

theorem word_gen (arg1 : Memref sig .tc .smem S1x1x1024 .i32) (x0 : S1x1x1024.Idx → Elt F .i32) (o : Fin 3 → ℕ)
    (hin : ∀ a, o a + S1x1x1.size a ≤ S1x1x1024.size a) (n : ℕ) (hn : n < 1024) (ho : o = ![0, 0, n]) (p : S1x1x1.Idx) :
    arg1.view.readAt (Elt F) (Rect.unit (s := S1x1x1024) o S1x1x1.size hin).toLoadRect (arg1.view.rep x0) p = x0 (tabIx n hn) := by
  subst ho
  rw [View.readAt_apply, View.read_rep]
  refine congrArg x0 (funext fun a => ?_)
  have p0 : (p 0).val < 1 := (p 0).isLt
  have p1 : (p 1).val < 1 := (p 1).isLt
  have p2 : (p 2).val < 1 := (p 2).isLt
  match a with
  | 0 => exact Fin.ext (by show 0 + 1 * (p 0).val = 0; omega)
  | 1 => exact Fin.ext (by show 0 + 1 * (p 1).val = 0; omega)
  | 2 => exact Fin.ext (by show n + 1 * (p 2).val = n; omega)

theorem set_gen (o : Fin 3 → ℕ) (hin : ∀ a, o a + S1x1x1024.size a ≤ S4x256x1024.size a) (k r : ℕ) (ho : o = ![k, r, 0]) :
    ((scM.slice (Rect.unit (s := S4x256x1024) o S1x1x1024.size hin) (fun _ => rfl)).squeeze S1x1024 squeezes_S1x1x1024_S1x1024).view.set = rowset k r := by
  subst ho
  refine ((View.set_reshape _ _).trans (View.set_slice_whole _ _)).trans ?_
  ext y
  rw [Rect.mem_set_unit, mem_rowset]
  have h2 : (y 2).val < 1024 := (y 2).isLt
  constructor
  · intro H
    have a0 : k ≤ (y 0).val ∧ (y 0).val < k + 1 := H 0
    have a1 : r ≤ (y 1).val ∧ (y 1).val < r + 1 := H 1
    omega
  · intro H a
    match a with
    | 0 => show k ≤ (y 0).val ∧ (y 0).val < k + 1; omega
    | 1 => show r ≤ (y 1).val ∧ (y 1).val < r + 1; omega
    | 2 => show 0 ≤ (y 2).val ∧ (y 2).val < 0 + 1024; omega

theorem land_gen (o : Fin 3 → ℕ) (hin : ∀ a, o a + S1x1x1024.size a ≤ S4x256x1024.size a) (o' : Fin 2 → ℕ)
    (hin' : ∀ a, o' a + S1x1024.size a ≤ S139264x1024.size a) (k r v : ℕ) (hv : v < 139264) (ho : o = ![k, r, 0]) (ho' : o' = ![v, 0])
    (Y : S139264x1024.Idx → Elt F .f32) (f0 : S4x256x1024.Idx → Elt F .f32) (y : S4x256x1024.Idx) (hy : y ∈ rowset k r) :
    ((scM.slice (Rect.unit (s := S4x256x1024) o S1x1x1024.size hin) (fun _ => rfl)).squeeze S1x1024 squeezes_S1x1x1024_S1x1024).view.write (Elt F) f0
      (ReadAs.same.apply ((ybM.slice (Rect.unit (s := S139264x1024) o' S1x1024.size hin') (fun _ => rfl)).view.read (Elt F) Y)) Finset.univ y
      = Y (ybIx v hv (y 2)) := by
  rw [← set_gen o hin k r ho] at hy
  obtain ⟨x, -, hx⟩ := Finset.mem_map.mp hy
  rw [← hx, View.write_emb_of_mem _ _ (Finset.mem_univ x)]
  show Y ((Rect.unit (s := S139264x1024) o' S1x1024.size hin').emb x) = Y (ybIx v hv ((Rect.unit (s := S4x256x1024) o S1x1x1024.size hin).emb (Shape.reshapeEquiv _ x) 2))
  subst ho; subst ho'
  refine congrArg Y (funext fun a => ?_)
  have x0 : (x 0).val < 1 := (x 0).isLt
  rw [Shape.reshapeEquiv_cons_one]
  match a with
  | 0 => exact Fin.ext (by show v + 1 * (x 0).val = v; omega)
  | 1 => exact Fin.ext (by show 0 + 1 * (x 1).val = 0 + 1 * (x 1).val; rfl)

theorem word_lt {x0 : S1x1x1024.Idx → Elt F .i32} (h : InB x0) (i : S1x1x1024.Idx) : BitVec.toNat (x0 i) < 139264 := h i

theorem ix_lt (y : S4x256x1024.Idx) : 4 * (y 1).val + (y 0).val < 1024 := by
  have h0 : (y 0).val < 4 := (y 0).isLt
  have h1 : (y 1).val < 256 := (y 1).isLt
  omega

/-- The scratch buffer once every copy has landed. -/
def gath (x0 : S1x1x1024.Idx → Elt F .i32) (h : InB x0) (Y : S139264x1024.Idx → Elt F .f32) (y : S4x256x1024.Idx) : Elt F .f32 :=
  Y (ybIx (BitVec.toNat (x0 (tabIx (4 * (y 1).val + (y 0).val) (ix_lt y)))) (h _) (y 2))

theorem ybIx_congr {v v' : ℕ} (e : v = v') (h h') (j : Fin 1024) : ybIx v h j = ybIx v' h' j := by subst e; rfl
theorem tabIx_congr {n n' : ℕ} (e : n = n') (h h') : tabIx n h = tabIx n' h' := by subst e; rfl

variable (c : Dev nD) (arg1 : Memref sig .tc .smem S1x1x1024 .i32) (x0 : S1x1x1024.Idx → Elt F .i32) (h : InB x0)
  (Y : S139264x1024.Idx → Elt F .f32) (f0 : S4x256x1024.Idx → Elt F .f32)

theorem set0 (r : Fin k0_t1_loop.trips) : (dst0 r).view.set = rowset 0 r.val := set_gen _ _ _ _ (off2_eq r)
theorem landed0_eq (r : Fin k0_t1_loop.trips) (y : S4x256x1024.Idx) (hy : y ∈ rowset 0 r.val) : landed0 arg1 x0 h Y f0 r y = gath x0 h Y y := by
  have hr : r.val < 256 := lt_of_lt_of_eq r.isLt trips_eq
  refine (land_gen _ _ _ _ 0 r.val _ (read_lt arg1 x0 h _ _) (off2_eq r) rfl Y f0 y hy).trans ?_
  have hm := (mem_rowset _ _ _).mp hy
  refine congrArg Y (ybIx_congr ?_ _ _ _)
  rw [word_gen arg1 x0 _ _ (4 * r.val + 0) (by omega) (off1_eq r)]
  exact congrArg (fun i => BitVec.toNat (x0 i)) (tabIx_congr (by rw [hm.1, hm.2]) _ _)
theorem set1 (r : Fin k0_t1_loop.trips) : (dst1 r).view.set = rowset 1 r.val := set_gen _ _ _ _ (off5_eq r)
theorem landed1_eq (r : Fin k0_t1_loop.trips) (y : S4x256x1024.Idx) (hy : y ∈ rowset 1 r.val) : landed1 arg1 x0 h Y f0 r y = gath x0 h Y y := by
  have hr : r.val < 256 := lt_of_lt_of_eq r.isLt trips_eq
  refine (land_gen _ _ _ _ 1 r.val _ (read_lt arg1 x0 h _ _) (off5_eq r) rfl Y f0 y hy).trans ?_
  have hm := (mem_rowset _ _ _).mp hy
  refine congrArg Y (ybIx_congr ?_ _ _ _)
  rw [word_gen arg1 x0 _ _ (4 * r.val + 1) (by omega) (off4_eq r)]
  exact congrArg (fun i => BitVec.toNat (x0 i)) (tabIx_congr (by rw [hm.1, hm.2]) _ _)
theorem set2 (r : Fin k0_t1_loop.trips) : (dst2 r).view.set = rowset 2 r.val := set_gen _ _ _ _ (off8_eq r)
theorem landed2_eq (r : Fin k0_t1_loop.trips) (y : S4x256x1024.Idx) (hy : y ∈ rowset 2 r.val) : landed2 arg1 x0 h Y f0 r y = gath x0 h Y y := by
  have hr : r.val < 256 := lt_of_lt_of_eq r.isLt trips_eq
  refine (land_gen _ _ _ _ 2 r.val _ (read_lt arg1 x0 h _ _) (off8_eq r) rfl Y f0 y hy).trans ?_
  have hm := (mem_rowset _ _ _).mp hy
  refine congrArg Y (ybIx_congr ?_ _ _ _)
  rw [word_gen arg1 x0 _ _ (4 * r.val + 2) (by omega) (off7_eq r)]
  exact congrArg (fun i => BitVec.toNat (x0 i)) (tabIx_congr (by rw [hm.1, hm.2]) _ _)
theorem set3 (r : Fin k0_t1_loop.trips) : (dst3 r).view.set = rowset 3 r.val := set_gen _ _ _ _ (off11_eq r)
theorem landed3_eq (r : Fin k0_t1_loop.trips) (y : S4x256x1024.Idx) (hy : y ∈ rowset 3 r.val) : landed3 arg1 x0 h Y f0 r y = gath x0 h Y y := by
  have hr : r.val < 256 := lt_of_lt_of_eq r.isLt trips_eq
  refine (land_gen _ _ _ _ 3 r.val _ (read_lt arg1 x0 h _ _) (off11_eq r) rfl Y f0 y hy).trans ?_
  have hm := (mem_rowset _ _ _).mp hy
  refine congrArg Y (ybIx_congr ?_ _ _ _)
  rw [word_gen arg1 x0 _ _ (4 * r.val + 3) (by omega) (off10_eq r)]
  exact congrArg (fun i => BitVec.toNat (x0 i)) (tabIx_congr (by rw [hm.1, hm.2]) _ _)

/-- The elements copy `t` lands on. -/
def place (t : Fin NT) : Finset S4x256x1024.Idx := rowset (t.val % 4) (t.val / 4)

theorem place_disjoint (t t' : Fin NT) (hne : t ≠ t') : Disjoint (place t) (place t') := by
  rw [Finset.disjoint_left]; intro y hy hy'
  have a := (mem_rowset _ _ _).mp hy
  have b := (mem_rowset _ _ _).mp hy'
  exact hne (Fin.ext (by omega))
theorem place_cover : Finset.univ.biUnion place = Finset.univ := by
  ext y
  simp only [Finset.mem_biUnion, Finset.mem_univ, true_and, iff_true]
  have h0 : (y 0).val < 4 := (y 0).isLt
  have h1 : (y 1).val < 256 := (y 1).isLt
  exact ⟨⟨4 * (y 1).val + (y 0).val, by rw [NT_eq]; omega⟩, (mem_rowset _ _ _).mpr
    ⟨by show (y 0).val = (4 * (y 1).val + (y 0).val) % 4; omega, by show (y 1).val = (4 * (y 1).val + (y 0).val) / 4; omega⟩⟩

theorem fam_cases (t : Fin NT) : ∃ (k : Fin 4) (r : Fin k0_t1_loop.trips), t.val = 4 * r.val + k.val ∧ place t = rowset k.val r.val
    ∧ ∀ X : Fin 4 → Fin k0_t1_loop.trips → sProp 𝕄, fam X t = X k r :=
  ⟨⟨t.val % 4, Nat.mod_lt _ (by decide)⟩, tokOf t, by show t.val = 4 * (t.val / 4) + t.val % 4; omega, rfl, fun _ => rfl⟩

theorem row_at (k : Fin 4) (r : Fin k0_t1_loop.trips) (g g' : S4x256x1024.Idx → Elt F .f32) (H : ∀ y ∈ rowset k.val r.val, g y = g' y) :
    (row c k g r : sProp 𝕄) = (scM.view.loc (c : Thread nD τ) ↦[rowset k.val r.val]{fullShare} g') := by
  match k, H with
  | 0, H => show row0 c g r = _; unfold row0; rw [set0]; exact pointsTo_congr H
  | 1, H => show row1 c g r = _; unfold row1; rw [set1]; exact pointsTo_congr H
  | 2, H => show row2 c g r = _; unfold row2; rw [set2]; exact pointsTo_congr H
  | 3, H => show row3 c g r = _; unfold row3; rw [set3]; exact pointsTo_congr H

theorem row_place (t : Fin NT) (g : Fin 4 → Fin k0_t1_loop.trips → S4x256x1024.Idx → Elt F .f32) (g' : S4x256x1024.Idx → Elt F .f32)
    (hg : ∀ k r y, y ∈ rowset k.val r.val → g k r y = g' y) :
    (fam (fun k r => row c k (g k r) r) t : sProp 𝕄) = (scM.view.loc (c : Thread nD τ) ↦[place t]{fullShare} g') := by
  obtain ⟨k, r, -, hp, hX⟩ := fam_cases (F := F) t
  rw [hX, hp]
  exact row_at c k r _ _ (hg k r)

theorem landed_eq (k : Fin 4) (r : Fin k0_t1_loop.trips) (y : S4x256x1024.Idx) (hy : y ∈ rowset k.val r.val) :
    landed arg1 x0 h Y f0 k r y = gath x0 h Y y := by
  match k with
  | 0 => exact landed0_eq arg1 x0 h Y f0 r y hy
  | 1 => exact landed1_eq arg1 x0 h Y f0 r y hy
  | 2 => exact landed2_eq arg1 x0 h Y f0 r y hy
  | 3 => exact landed3_eq arg1 x0 h Y f0 r y hy

/-- The scratch buffer at anything is its 1024 rows. -/
theorem scratch_rows : (scM.view.loc (c : Thread nD τ) ↦{fullShare} f0 : sProp 𝕄) = bigSep Finset.univ (fam fun k r => row c k f0 r) :=
  (Ring.pointsTo_blocks (ℓ := scM.view.loc (c : Thread nD τ)) place place_disjoint place_cover f0).trans
    (BI.bigSep_congr fun t _ => (row_place c t (fun _ _ => f0) f0 (fun _ _ _ _ => rfl)).symm)

/-- The 1024 rows landed are the scratch buffer with every copy in. -/
theorem rows_landed : (bigSep Finset.univ (fam fun k r => row c k (landed arg1 x0 h Y f0 k r) r) : sProp 𝕄) = (scM.view.loc (c : Thread nD τ) ↦{fullShare} gath x0 h Y) :=
  (BI.bigSep_congr fun t _ => row_place c t (landed arg1 x0 h Y f0) (gath x0 h Y) (landed_eq arg1 x0 h Y f0)).trans
    (Ring.pointsTo_blocks (ℓ := scM.view.loc (c : Thread nD τ)) place place_disjoint place_cover (gath x0 h Y)).symm

theorem from_at (k : Fin 4) (r : Fin k0_t1_loop.trips) : ∃ R : sProp 𝕄,
    (ybM.view.loc (c : Thread nD τ) ↦{Transfers.shareTokN fullShare (4 * r.val + k.val)} Y : sProp 𝕄) ⊣⊢ iprop(from_ c arg1 x0 h Y k r ∗ R) := by
  match k with
  | 0 => exact ⟨_, pointsTo_split_subset (ℓ := ybM.view.loc (c : Thread nD τ)) (I := (src0 arg1 x0 h r).view.set) (Finset.subset_univ _)⟩
  | 1 => exact ⟨_, pointsTo_split_subset (ℓ := ybM.view.loc (c : Thread nD τ)) (I := (src1 arg1 x0 h r).view.set) (Finset.subset_univ _)⟩
  | 2 => exact ⟨_, pointsTo_split_subset (ℓ := ybM.view.loc (c : Thread nD τ)) (I := (src2 arg1 x0 h r).view.set) (Finset.subset_univ _)⟩
  | 3 => exact ⟨_, pointsTo_split_subset (ℓ := ybM.view.loc (c : Thread nD τ)) (I := (src3 arg1 x0 h r).view.set) (Finset.subset_univ _)⟩

/-- The read token of copy `t`, of the whole array, and what of it is not the row copied. -/
theorem from_split (t : Fin NT) : ∃ R : sProp 𝕄,
    (ybM.view.loc (c : Thread nD τ) ↦{Transfers.shareTokN fullShare t.val} Y : sProp 𝕄) ⊣⊢ iprop(fam (from_ c arg1 x0 h Y) t ∗ R) := by
  obtain ⟨k, r, ht, -, hX⟩ := fam_cases (F := F) t
  rw [hX, ht]
  exact from_at c arg1 x0 h Y k r

/-- The experts' array is the read tokens of the rows copied beside a rest. -/
theorem yb_split : ∃ R : sProp 𝕄, (ybM.view.loc (c : Thread nD τ) ↦{fullShare} Y : sProp 𝕄) ⊣⊢ iprop(bigSep Finset.univ (fam (from_ c arg1 x0 h Y)) ∗ R) := by
  choose R hR using from_split c arg1 x0 h Y
  have e : (bigSep (Finset.range NT) (fun i => (ybM.view.loc (c : Thread nD τ) ↦{Transfers.shareTokN fullShare i} Y : sProp 𝕄)))
      = bigSep Finset.univ (fun t : Fin NT => (ybM.view.loc (c : Thread nD τ) ↦{Transfers.shareTokN fullShare t.val} Y : sProp 𝕄)) :=
    (Ring.bigSep_fin_eq_range NT _ _ fun _ _ => rfl).symm
  have s := Transfers.pointsTo_toks_range (ℓ := ybM.view.loc (c : Thread nD τ)) (S := Finset.univ) (f := Y) (Ix := Unit) (Name := ℕ) (U := Pipeline.UD sig nD τ) (Lvl := ℕ) fullShare NT
  rw [e] at s
  have e2 := BI.bigSep_sep (Finset.univ : Finset (Fin NT)) (fam (from_ c arg1 x0 h Y)) R
  have hm1 : bigSep Finset.univ (fun t : Fin NT => (ybM.view.loc (c : Thread nD τ) ↦{Transfers.shareTokN fullShare t.val} Y : sProp 𝕄))
      ⊢ iprop(bigSep Finset.univ (fam (from_ c arg1 x0 h Y)) ∗ bigSep Finset.univ R) :=
    (BI.bigSep_mono fun t _ => (hR t).1).trans (Entails.of_eq e2)
  have hm2 : iprop(bigSep Finset.univ (fam (from_ c arg1 x0 h Y)) ∗ bigSep Finset.univ R)
      ⊢ bigSep Finset.univ (fun t : Fin NT => (ybM.view.loc (c : Thread nD τ) ↦{Transfers.shareTokN fullShare t.val} Y : sProp 𝕄)) :=
    (Entails.of_eq e2.symm).trans (BI.bigSep_mono fun t _ => (hR t).2)
  refine ⟨iprop((ybM.view.loc (c : Thread nD τ) ↦{Transfers.shareDrop fullShare NT} Y) ∗ bigSep Finset.univ R), ?_, ?_⟩
  · refine s.1.trans ?_
    iintro ⟨Hd, Ht⟩
    ihave Ht' := hm1 $$ Ht
    icases Ht' with ⟨HF, HR⟩
    isplitl [HF]; · iexact HF
    isplitl [Hd] <;> iassumption
  · refine BIBase.Entails.trans ?_ s.2
    iintro ⟨HF, Hd, HR⟩
    isplitl [Hd]; · iexact Hd
    iapply hm2
    isplitl [HF] <;> iassumption

end Cert.Combine

end
-- ==== Proof.Combine.Run.lean ====
/-
  The body at a grid point: the copies are issued, waited for, and the sum of the gathered rows, scaled, normalized and added to
  the residual, is stored.
-/
module

public import proofs.«01_k».proof.Proof.Combine.Drain
public import proofs.«01_k».proof.Proof.Combine.Pieces

@[expose] public section

set_option maxRecDepth 16384

noncomputable section

namespace Cert.Combine

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (i : grid0.Coords) (arg1 : Memref sig .tc .smem S1x1x1024 .i32) (harg1 : arg1.IsWhole)
  (arg3 : Memref sig .tc .vmem S256x128 .f32) (harg3 : arg3.IsWhole) (arg4 : Memref sig .tc .vmem S256x1024 .f32) (harg4 : arg4.IsWhole)
  (arg5 : Memref sig .tc .vmem S1x1x1024 .f32) (harg5 : arg5.IsWhole) (arg6 : Memref sig .tc .vmem S1x1024 .f32) (harg6 : arg6.IsWhole)
  (arg7 : Memref sig .tc .vmem S256x1024 .f32) (harg7 : arg7.IsWhole)
  (x0 : S1x1x1024.Idx → Elt F .i32) (h : InB x0)
  (Y : S139264x1024.Idx → Elt F .f32)

/-- What the issue loop starts from: no copy issued. -/
theorem issue_start (f0 : S4x256x1024.Idx → Elt F .f32) :
    iprop(batch c arg1 x0 h Y f0 0 0 ∗ (bigSep Finset.univ (fam fun k r => row c k f0 r)) ∗ (bigSep Finset.univ (fam (from_ c arg1 x0 h Y)))
      ∗ (arg1.view.loc (c : Thread nD τ) ↦[arg1.view.set]{fullShare} arg1.view.rep x0)) ⊢ issueAt c arg1 x0 h Y f0 0 () := by
  unfold issueAt
  rw [Nat.mul_zero, Ring.rangeSet_univ]

/-- What it leaves: every copy issued. -/
theorem issue_end (f0 : S4x256x1024.Idx → Elt F .f32) (acc : Unit) :
    issueAt c arg1 x0 h Y f0 k0_t1_loop.trips acc ⊢ iprop(batch c arg1 x0 h Y f0 NT 0
      ∗ (arg1.view.loc (c : Thread nD τ) ↦[arg1.view.set]{fullShare} arg1.view.rep x0)) := by
  unfold issueAt
  rw [show 4 * k0_t1_loop.trips = NT by rw [trips_eq, NT_eq]]
  iintro ⟨HB, -, -, H1⟩
  isplitl [HB] <;> iassumption

theorem drain_start (f0 : S4x256x1024.Idx → Elt F .f32) (W : Waits sig Unit) :
    iprop(owes (c : Thread nD τ) 0 W ∗ batch c arg1 x0 h Y f0 NT 0) ⊢ drainInv c arg1 x0 h Y f0 0 () := by
  unfold drainInv
  rw [if_pos (by rw [trips2_eq]; decide), Nat.mul_zero, Nat.zero_mul]
  iintro ⟨HO, HB⟩
  isplitl [HO]
  · iexists _; iexact HO
  iexact HB

/-- When every copy has landed: the scratch buffer holds the gathered rows, and the read tokens are back. -/
theorem drain_end (f0 : S4x256x1024.Idx → Elt F .f32) (acc : Unit) :
    drainInv c arg1 x0 h Y f0 k0_t2_loop.trips acc ⊢ iprop((∃ W, owes (c : Thread nD τ) 0 W)
      ∗ semVal ((c : Thread nD τ), SemLoc.dma cc0_scratch1.sem) 0
      ∗ (scM.view.loc (c : Thread nD τ) ↦{fullShare} gath x0 h Y) ∗ bigSep Finset.univ (fam (from_ c arg1 x0 h Y))) := by
  unfold drainInv
  rw [if_neg (Nat.lt_irrefl _), ← rows_landed c arg1 x0 h Y f0,
    show (bigSep Finset.univ (deliv c arg1 x0 h Y f0) : sProp 𝕄) = _ from
      BI.bigSep_sep Finset.univ (fam (fun k r => row c k (landed arg1 x0 h Y f0 k r) r)) (fam (from_ c arg1 x0 h Y))]
  exact .rfl

set_option backward.proofsInPublic true in
set_option maxHeartbeats 8000000 in
/-- The body at a grid point: what it stores to the output block, found by running it, with the run. -/
noncomputable def kernelRun0 [∀ e, Nonempty (Elt F e)] (x1 : S256x128.Idx → Elt F .f32) (x2 : S256x1024.Idx → Elt F .f32) (x3 : S1x1x1024.Idx → Elt F .f32)
    (x4 : S1x1024.Idx → Elt F .f32) :
    { out0 : List (View.Piece (Elt F) S256x1024 .f32) //
      ∀ (W : Waits sig Unit) (K : PUnit → sProp 𝕄),
        iprop((arg1.view.loc (c : Thread nD τ) ↦[arg1.view.set]{fullShare} arg1.view.rep x0)
          ∗ (arg3.view.loc (c : Thread nD τ) ↦[arg3.view.set]{fullShare} arg3.view.rep x1)
          ∗ (arg4.view.loc (c : Thread nD τ) ↦[arg4.view.set]{fullShare} arg4.view.rep x2)
          ∗ (arg5.view.loc (c : Thread nD τ) ↦[arg5.view.set]{fullShare} arg5.view.rep x3)
          ∗ (arg6.view.loc (c : Thread nD τ) ↦[arg6.view.set]{fullShare} arg6.view.rep x4)
          ∗ (∃ d, owns (c : Thread nD τ) arg7 fullShare d)
          ∗ (∃ f, scM.view.loc (c : Thread nD τ) ↦{fullShare} f)
          ∗ (ybM.view.loc (c : Thread nD τ) ↦{fullShare} Y)
          ∗ semVal ((c : Thread nD τ), SemLoc.dma cc0_scratch1.sem) 0
          ∗ owes (c : Thread nD τ) 0 W
          ∗ (iprop((arg1.view.loc (c : Thread nD τ) ↦[arg1.view.set]{fullShare} arg1.view.rep x0)
              ∗ (arg3.view.loc (c : Thread nD τ) ↦[arg3.view.set]{fullShare} arg3.view.rep x1)
              ∗ (arg4.view.loc (c : Thread nD τ) ↦[arg4.view.set]{fullShare} arg4.view.rep x2)
              ∗ (arg5.view.loc (c : Thread nD τ) ↦[arg5.view.set]{fullShare} arg5.view.rep x3)
              ∗ (arg6.view.loc (c : Thread nD τ) ↦[arg6.view.set]{fullShare} arg6.view.rep x4)
              ∗ (∃ f, arg7.view.loc (c : Thread nD τ) ↦[arg7.view.set]{fullShare} arg7.view.writes (Elt F) f out0)
              ∗ (∃ f, scM.view.loc (c : Thread nD τ) ↦{fullShare} f)
              ∗ (ybM.view.loc (c : Thread nD τ) ↦{fullShare} Y)
              ∗ semVal ((c : Thread nD τ), SemLoc.dma cc0_scratch1.sem) 0
              ∗ (∃ W', owes (c : Thread nD τ) 0 W')) -∗ K ⟨⟩))
          ⊢ wp frame (wpE (defs₀ (F := F)) Variants.none (c : Thread nD τ) none) Set.univ
            (cc0_moe_combine i arg1 harg1 ybM (Memref.isWhole_whole _) arg3 harg3 arg4 harg4 arg5 harg5 arg6 harg6 arg7 harg7 scM (Memref.isWhole_whole _) cc0_scratch1) K } :=
  ⟨_, fun W K => by
    obtain ⟨R, hR⟩ := yb_split c arg1 x0 h Y
    unfold owns
    rw [cc0_moe_combine_eq_skeleton]; unfold cc0_moe_combine_skel
    rw [k0_part2_eq_skeleton]; unfold k0_part2_skel
    iintro ⟨H1, H3, H4, H5, H6, ⟨%d7, %f7, -, H7⟩, ⟨%f0, HS⟩, HY, Hc, HO, Hk⟩
    have hs : (scM.view.loc (c : Thread nD τ) ↦{fullShare} f0 : sProp 𝕄) ⊢ _ := Entails.of_eq (scratch_rows c f0)
    ihave HS' := hs $$ HS
    have hy := hR.1
    ihave HY' := hy $$ HY
    icases HY' with ⟨HYt, HR⟩
    imod (Transfers.batch_alloc' (Lvl := ℕ) (countersEmb (U := Pipeline.UD sig nD τ)) (c : Thread nD τ) () NN (deliv c arg1 x0 h Y f0) (sm := .dma cc0_scratch1.sem) (E := Set.univ)) $$ Hc with HB
    have hscw : scM.IsWhole := Memref.isWhole_whole _
    simp only [bind_assoc]
    sl_for (issueAt c arg1 x0 h Y f0) $$ [HB HS' HYt H1]
    · intro k acc; exact issue_step c i arg1 harg1 arg3 harg3 arg4 harg4 arg5 harg5 arg6 harg6 arg7 harg7 x0 h Y f0 k acc
    · iapply (issue_start c arg1 x0 h Y f0)
      isplitl [HB]; · iexact HB
      isplitl [HS']; · iexact HS'
      isplitl [HYt] <;> iassumption
    iintro %acc HL
    ihave HL' := (issue_end c arg1 x0 h Y f0 acc) $$ HL
    icases HL' with ⟨HB, H1⟩
    sl_for (drainInv c arg1 x0 h Y f0) $$ [HB HO]
    · intro k acc; exact drain_step c i arg1 harg1 arg3 harg3 arg4 harg4 arg5 harg5 arg6 harg6 arg7 harg7 x0 h Y f0 k acc
    · iapply (drain_start c arg1 x0 h Y f0 W)
      isplitl [HO] <;> iassumption
    iintro %acc2 HL
    ihave HL' := (drain_end c arg1 x0 h Y f0 acc2) $$ HL
    icases HL' with ⟨⟨%W', HO⟩, Hc, HS, HYt⟩
    sl_exec
    sl_step
    iapply Hk
    isplitl [H1]; · iexact H1
    isplitl [H3]; · iexact H3
    isplitl [H4]; · iexact H4
    isplitl [H5]; · iexact H5
    isplitl [H6]; · iexact H6
    isplitl [H7]; · iexists _; iexact H7
    isplitl [HS]; · iexists _; iexact HS
    isplitl [HYt HR]
    · have hy' := hR.2
      iapply hy'
      isplitl [HYt] <;> iassumption
    isplitl [Hc]; · iexact Hc
    iexists _; iexact HO⟩

end Cert.Combine

end
-- ==== Proof.Combine.Frame.lean ====
/-
  The combine call's run over all its blocks: the program ends, its arguments are unchanged, every semaphore counter is zero
  again, and the output array holds what the points stored.
-/
module

public import proofs.«01_k».proof.Proof.Combine.Run
public import Idealize.ShloMosaic.Lib.Pipeline.TableIdle

@[expose] public section

set_option maxRecDepth 16384

noncomputable section

namespace Cert.Combine

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## The program up to the launch -/

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The table as the launch finds it: the argument's words, in blocks. -/
theorem V_main_v0 (c : Dev nD) : V m c main_v0 = shapeCast S128x1x1024 (m ((c : Thread nD τ).loc main_arg1)) facts.shapeCasts_S131072_S128x1x1024 := rfl

/-- Every word of the table names a row. -/
def Rows (m : (ℓ : Loc nD τ sig) → Buf (Elt F) ℓ) : Prop :=
  ∀ (c : Dev nD) (k : S131072.Idx), BitVec.toNat (m ((c : Thread nD τ).loc main_arg1) k) < 139264

theorem inB_blk (hr : Rows m) (c : Dev nD) (t : Fin cfg0.N) : InB (F := F) (iblk m c 0 t) := by
  intro y
  show BitVec.toNat ((V m c main_v0) (((cfg0.win 0).blk t).view.emb y)) < 139264
  rw [V_main_v0]
  exact hr c _

/-! ## The body's operands -/

abbrev ms0_0 (t : Fin cfg0.N) : Memref sig .tc .smem S1x1x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .f32 := win0_5.stage (cfg0.slots t 5)
abbrev hs0_5 (t : Fin cfg0.N) : (ms0_5 t).IsWhole := hstage0_5 ((cfg0.slots t 5).cast nbuf0_5)

/-- One staging buffer of the output window, through which its contents are stated. -/
abbrev VO0_5 : View sig .tc .vmem S256x1024 .f32 := (Memref.whole cc0_stg5_0 : Memref sig .tc .vmem S256x1024 .f32).view

/-- The run of the body at point `t`. -/
abbrev runAt (hr : Rows m) (c : Dev nD) (t : Fin cfg0.N) :=
  kernelRun0 (F := F) c (cfg0.grid.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (inB_blk m hr c t) (V m c main_arg0) (iblk m c 1 t) (iblk m c 2 t) (iblk m c 3 t) (iblk m c 4 t)

/-- The output block point `t` leaves. -/
def outAt (hr : Rows m) (c : Dev nD) (t : Fin cfg0.N) : S256x1024.Idx → Elt F .f32 :=
  VO0_5.read (Elt F) (VO0_5.writes (Elt F) VO0_5.junk (runAt m hr c t).1)

/-- The one store covers the output block. -/
theorem cover0_5 (hr : Rows m) (c : Dev nD) (t : Fin cfg0.N) (y : S256x1024.Idx) : ∃ pc ∈ (runAt m hr c t).1, y ∈ pc.1.set :=
  View.cover_of_tiledL (runAt m hr c t).1 S256x1024.size (by sl_kernel_rfl) y

/-! ## What is held between the points -/

abbrev osem0 : Fin 1 → SemLoc sig := fun _ => .dma cc0_scratch1.sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch1.sem) 0 := by
  rw [Pipeline.ownSems0_eq_of_list c osem0 [0] (by decide) (by decide)]; rfl

def H0 : Finset (Ref sig .tc) := {main_arg0}
theorem H0_sub : H0 ⊆ Pipeline.restRefs sig spec0 := by decide
theorem hbmPts0_eq (c : Dev nD) :
    (bigSep H0 (fun b => ((c : Thread nD τ).loc b) ↦{fullShare} V m c b) : sProp 𝕄)
      = (ybM.view.loc (c : Thread nD τ) ↦{fullShare} V m c main_arg0) := by
  rw [BI.bigSep_eq_bigSepL_of_eq [main_arg0] (by decide) (by decide)]; rfl

theorem PhiD0_eq (c : Dev nD) :
    (Pipeline.ΦD osem0 spec0 H0 (V m) c : sProp 𝕄)
      = iprop((∃ f : Buf (Elt F) ((c : Thread nD τ).loc cc0_scratch0), ((c : Thread nD τ).loc cc0_scratch0) ↦{fullShare} f)
          ∗ (∃ r, prngReg c r)
          ∗ semVal ((c : Thread nD τ), SemLoc.dma cc0_scratch1.sem) 0
          ∗ (ybM.view.loc (c : Thread nD τ) ↦{fullShare} V m c main_arg0)) := by
  rw [Pipeline.ΦD_eq, scopedRest0_eq, ownSems00_eq, hbmPts0_eq]

/-- The proof data of the one pipeline on core `c`. -/
def dats (hr : Rows m) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m hr c t
  Φ _ := Pipeline.ΦD osem0 spec0 H0 (V m) c
  q _ := fullShare
  owed _ := 0

variable (hr : Rows m)

theorem A_eq (c : Dev nD) (w : Fin cfg0.W) : (dats m hr 0 c).A w = V m c (Pipeline.arrRef spec0 w) := by
  dsimp only [dats]
theorem after0_0 (c : Dev nD) (t : Fin cfg0.N) : (dats m hr 0 c).after 0 t = iblk m c 0 t := by dsimp only [dats]
theorem after0_1 (c : Dev nD) (t : Fin cfg0.N) : (dats m hr 0 c).after 1 t = iblk m c 1 t := by dsimp only [dats]
theorem after0_2 (c : Dev nD) (t : Fin cfg0.N) : (dats m hr 0 c).after 2 t = iblk m c 2 t := by dsimp only [dats]
theorem after0_3 (c : Dev nD) (t : Fin cfg0.N) : (dats m hr 0 c).after 3 t = iblk m c 3 t := by dsimp only [dats]
theorem after0_4 (c : Dev nD) (t : Fin cfg0.N) : (dats m hr 0 c).after 4 t = iblk m c 4 t := by dsimp only [dats]
theorem after0_5 (c : Dev nD) (t : Fin cfg0.N) : (dats m hr 0 c).after 5 t = outAt m hr c t := by dsimp only [dats]

/-! ## What each input window's staging buffer holds when the body runs: its block -/

theorem before0_0 (c : Dev nD) (t : Fin cfg0.N) (d) : (dats m hr 0 c).before 0 t d = iblk m c 0 t :=
  ((dats m hr 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m hr 0 c).before 1 t d = iblk m c 1 t :=
  ((dats m hr 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m hr 0 c).before 2 t d = iblk m c 2 t :=
  ((dats m hr 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m hr 0 c).before 3 t d = iblk m c 3 t :=
  ((dats m hr 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m hr 0 c).before 4 t d = iblk m c 4 t :=
  ((dats m hr 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! ## The body at a point -/

def bodyPre (c : Dev nD) (t : Fin cfg0.N) : sProp 𝕄 :=
  iprop((dats m hr 0 c).Φ t.castSucc ∗ (dats m hr 0 c).owesAt () t.castSucc
    ∗ (∃ d, owns (c : Thread nD τ) (ms0_0 t) fullShare ((dats m hr 0 c).before 0 t d))
    ∗ (∃ d, owns (c : Thread nD τ) (ms0_1 t) fullShare ((dats m hr 0 c).before 1 t d))
    ∗ (∃ d, owns (c : Thread nD τ) (ms0_2 t) fullShare ((dats m hr 0 c).before 2 t d))
    ∗ (∃ d, owns (c : Thread nD τ) (ms0_3 t) fullShare ((dats m hr 0 c).before 3 t d))
    ∗ (∃ d, owns (c : Thread nD τ) (ms0_4 t) fullShare ((dats m hr 0 c).before 4 t d))
    ∗ (∃ d, owns (c : Thread nD τ) (ms0_5 t) fullShare ((dats m hr 0 c).before 5 t d)))
def bodyPost (c : Dev nD) (t : Fin cfg0.N) : sProp 𝕄 :=
  iprop((dats m hr 0 c).Φ t.succ ∗ (dats m hr 0 c).owesAt () t.succ
    ∗ owns (c : Thread nD τ) (ms0_0 t) fullShare ((dats m hr 0 c).after 0 t)
    ∗ owns (c : Thread nD τ) (ms0_1 t) fullShare ((dats m hr 0 c).after 1 t)
    ∗ owns (c : Thread nD τ) (ms0_2 t) fullShare ((dats m hr 0 c).after 2 t)
    ∗ owns (c : Thread nD τ) (ms0_3 t) fullShare ((dats m hr 0 c).after 3 t)
    ∗ owns (c : Thread nD τ) (ms0_4 t) fullShare ((dats m hr 0 c).after 4 t)
    ∗ owns (c : Thread nD τ) (ms0_5 t) fullShare ((dats m hr 0 c).after 5 t))

set_option maxHeartbeats 4000000 in
theorem sound_body (c : Dev nD) (t : Fin cfg0.N) :
    bodyPre m hr c t ⊢ wp frame (wpE (defs₀ (F := F)) Variants.none (c : Thread nD τ) none) Set.univ (bodyAt0 t) (fun _ => bodyPost m hr c t) := by
  unfold bodyPre bodyPost bodyAt0
  simp only [before0_0, before0_1, before0_2, before0_3, before0_4, after0_0, after0_1, after0_2, after0_3, after0_4, after0_5]
  rw [show (dats m hr 0 c).Φ t.succ = (dats m hr 0 c).Φ t.castSucc from rfl]
  rw [show (dats m hr 0 c).Φ t.castSucc = Pipeline.ΦD osem0 spec0 H0 (V m) c from rfl, PhiD0_eq]
  unfold Dat.owesAt Pipeline.owesWithin
  rw [show (dats m hr 0 c).owed t.castSucc = 0 from rfl, show (dats m hr 0 c).owed t.succ = 0 from rfl]
  unfold outAt
  iintro ⟨⟨HS, Hg, Hc, HY⟩, ⟨%W, -, HW⟩, ⟨%d0, H0⟩, ⟨%d1, H1⟩, ⟨%d2, H2⟩, ⟨%d3, H3⟩, ⟨%d4, H4⟩, ⟨%d5, H5⟩⟩
  iapply ((runAt m hr c t).2 W _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iexists _; iexact H5
  isplitl [HS]; · iexact HS
  isplitl [HY]; · iexact HY
  isplitl [Hc]; · iexact Hc
  isplitl [HW]; · iexact HW
  iintro ⟨H0, H1, H2, H3, H4, ⟨%e5, H5⟩, HS, HY, Hc, ⟨%W', HW'⟩⟩
  isplitl [HS Hg Hc HY]
  · isplitl [HS]; · iexact HS
    isplitl [Hg]; · iexact Hg
    isplitl [Hc]; · iexact Hc
    iexact HY
  isplitl [HW']
  · iexists W'; isplitr; · ipureintro; exact fun _ _ => Or.inl trivial
    iexact HW'
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  unfold owns; iexists _; isplitr
  swap; · iexact H5
  ipureintro; exact View.read_writes_of_cover _ _ _ _ _ (cover0_5 m hr c t)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m hr 0 c) (defs₀ (F := F)) Variants.none () Set.univ := fun t => by
  rw [bigSep_W0, bigSep_W0, defs₀_row]
  exact triple_restated (sound_body m hr c t) rfl .rfl fun _ => .rfl

/-! ## The run and the frame -/

set_option backward.isDefEq.respectTransparency.types false in
theorem run_main : θ_run defs (onTc (τ := τ) (main (F := F))) (s₀ m ρ) (fun r => Pipeline.FramePost cfgs (dats m hr) 0 (V m) r ∧ r.2.sem = fun _ => 0) :=
  Pipeline.θ_run_frame_dma (Q' := _) cfgs (dats m hr) (0 : Fin 1) launch0 osem0 defs₀ Variants.none ownSemFacts0 H0 H0_sub m ρ main
    (hbody := fun c => (body_obligation m hr c).loose) (hshare := fun c => (dats m hr 0 c).share_full fun _ => rfl)
    (howed := fun _ _ => rfl) (V := V m) (hmain := hmainD m Variants.none) (hA := A_eq m hr)
    (hin := fun _ => .rfl) (hout := fun _ => .rfl)

include hr in
/-- The program ends, its arguments unchanged and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 1).trans (((dats m hr 0 c).arrAt_in 1 rfl _).trans ((A_eq m hr c 1).trans (V_main_arg2 m c))),
      ((h.1 c).1 2).trans (((dats m hr 0 c).arrAt_in 2 rfl _).trans ((A_eq m hr c 2).trans (V_main_arg3 m c))),
      ((h.1 c).1 3).trans (((dats m hr 0 c).arrAt_in 3 rfl _).trans ((A_eq m hr c 3).trans (V_main_arg4 m c))),
      ((h.1 c).1 4).trans (((dats m hr 0 c).arrAt_in 4 rfl _).trans ((A_eq m hr c 4).trans (V_main_arg5 m c)))⟩, h.2⟩) (run_main m ρ hr)

/-- The same with the output array's contents: what the points stored. -/
theorem result : θ_run defs (onTc (τ := τ) (main (F := F))) ⟨m, fun _ => 0, ρ⟩ (fun r => ∀ c : Dev nD,
      r.2.mem ((c.tc : Thread nD τ).loc main_v1) = (dats m hr 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 5, ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 1).trans (((dats m hr 0 c).arrAt_in 1 rfl _).trans ((A_eq m hr c 1).trans (V_main_arg2 m c))),
      ((h.1 c).1 2).trans (((dats m hr 0 c).arrAt_in 2 rfl _).trans ((A_eq m hr c 2).trans (V_main_arg3 m c))),
      ((h.1 c).1 3).trans (((dats m hr 0 c).arrAt_in 3 rfl _).trans ((A_eq m hr c 3).trans (V_main_arg4 m c))),
      ((h.1 c).1 4).trans (((dats m hr 0 c).arrAt_in 4 rfl _).trans ((A_eq m hr c 4).trans (V_main_arg5 m c)))⟩) (run_main m ρ hr)

end Cert.Combine

end
-- ==== Proof.Combine.Stored.lean ====
/-
  What one grid point of the combine call leaves in the output's staging buffer: the stored vector over the point's blocks,
  and the gathered rows read plane by plane.
-/
module

public import proofs.«01_k».proof.Proof.Combine.Frame
public import Idealize.ShloMosaic.Lib.Pipeline.Value

@[expose] public section

set_option maxRecDepth 16384

noncomputable section

namespace Cert.Combine

open Idealize.ShloMosaic Idealize.ShloMosaic.TcCoe Idealize.SL.Sem
open Cert.Kernel5Ideal Cert.Kernel5Ideal.Gen

variable {F : FTy → Type} [FloatOps F] [∀ e, Nonempty (Elt F e)]
variable (m : (ℓ : Loc nD τ sig) → Buf (Elt F) ℓ) (hr : Rows m)

theorem zero2 : (![0, 0] : Fin 2 → Nat) = fun _ => 0 := funext fun a => by fin_cases a <;> rfl
theorem zero3 : (![0, 0, 0] : Fin 3 → Nat) = fun _ => 0 := funext fun a => by fin_cases a <;> rfl

/-- The gathered rows of point `t`: the `j`-th row of every token. -/
def plane (c : Dev nD) (t : Fin cfg0.N) (j : Fin 4) (y : S1x256x1024.Idx) : Elt F .f32 :=
  gath (iblk m c 0 t) (inB_blk m hr c t) (V m c main_arg0) (fun a => match a with | ⟨0, _⟩ => j | ⟨1, _⟩ => y 1 | ⟨2, _⟩ => y 2)

/-- A load of plane `j` of the scratch buffer reads it at `j`. -/
theorem plane_read (g : S4x256x1024.Idx → Elt F .f32) (j : Fin 4) (o : Fin 3 → Nat) (ho : o = ![j.val, 0, 0]) (hin) :
    (View.whole cc0_scratch0).readAt (Elt F) (Rect.unit (s := S4x256x1024) o S1x256x1024.size hin).toLoadRect g
      = fun y => g (fun a => match a with | ⟨0, _⟩ => j | ⟨1, _⟩ => y 1 | ⟨2, _⟩ => y 2) := by
  subst ho
  funext y
  show g _ = g _
  refine congrArg g (funext fun a => ?_)
  have h0 : (y 0).val < 1 := (y 0).isLt
  match a with
  | ⟨0, _⟩ => exact Fin.ext (by show j.val + 1 * (y 0).val = j.val; omega)
  | ⟨1, _⟩ => exact Fin.ext (by show 0 + 1 * (y 1).val = (y 1).val; omega)
  | ⟨2, _⟩ => exact Fin.ext (by show 0 + 1 * (y 2).val = (y 2).val; omega)

theorem stored (c : Dev nD) (t : Fin cfg0.N) :
    outAt m hr c t = k0_pay1 (k0_pay2 (iblk m c 1 t) (plane m hr c t 0) (plane m hr c t 1) (plane m hr c t 2) (plane m hr c t 3))
      (iblk m c 2 t) (k0_pay3 (iblk m c 3 t)) (iblk m c 4 t) := by
  unfold outAt
  rw [View.read_writes_eq_canon _ _ _ (fun y => by exact cover0_5 m hr c t y)]
  unfold runAt kernelRun0
  dsimp only
  sl_unfold_words
  rw [View.canon_unit_zero zero2]
  simp only [View.readAt_eq_ld (v := (ms0_1 t).view), View.readAt_eq_ld (v := (ms0_2 t).view), View.readAt_eq_ld (v := (ms0_3 t).view), View.readAt_eq_ld (v := (ms0_4 t).view), View.read_rep, View.ld_unit_zero (S := S256x1024) zero2, View.ld_unit_zero (S := S256x128) zero2, View.ld_unit_zero (S := S1x1x1024) zero3, View.ld_unit_zero (S := S1x1024) zero2]
  refine congrArg (fun f => k0_pay1 f _ _ _) ?_
  exact congr (congr (congr (congrArg (k0_pay2 _) (plane_read _ 0 _ rfl _)) (plane_read _ 1 _ rfl _)) (plane_read _ 2 _ rfl _)) (plane_read _ 3 _ rfl _)

end Cert.Combine

end
-- ==== Proof.Combine.Ref.lean ====
/-
  The combine call's reference at an index: a token's four rows, picked by the table, weighted and added, then the RMS norm
  of the sum under its gate on top of the residual row.
-/
module

public import proofs.«01_k».proof.Proof.Merge.Spec
public import proofs.«01_k».proof.Proof.Gen.Reference5Ideal.Read
public import Idealize.ShloMosaic.Lib.Pointwise

@[expose] public section

set_option maxRecDepth 16384

noncomputable section

namespace Cert.Combine

open Idealize.ShloMosaic Cert.Reference5Ideal Cert.Reference5Ideal.Read

/-- The row a word names, held to the 139264 there are. -/
def pickRow (w : BitVec 32) : Fin 139264 := ⟨min w.toInt.toNat 139263, by omega⟩

theorem gather6_at {α : Type} (x : S139264x1024.Idx → α) (idx : IVec S131072x1 32) (b : Fin 131072) (k : Fin 1024) :
    Host.gather gather_S139264x1024_S131072x1_S131072x1024_1_0_n_n_0_1_11024 x idx (ix2 b k) = x (ix2 (pickRow (idx (ix2 b 0))) k) := by
  unfold Host.gather
  congr 1
  funext a
  match a with
  | ⟨0, _⟩ =>
    apply Fin.ext
    show min (idx _).toInt.toNat 139263 + 0 + 0 = min (idx _).toInt.toNat 139263
    refine congrArg (fun w => min (BitVec.toInt (idx w)).toNat 139263) (funext fun a => ?_)
    match a with
    | ⟨0, _⟩ => rfl
    | ⟨1, _⟩ => rfl
  | ⟨1, _⟩ => exact Fin.ext (by show 0 + 0 + k.val = k.val; omega)

/-- A row's number as the reference's index arithmetic leaves it: no word in range is negative. -/
theorem normalizedRow (w : BitVec 32) (h : w.toNat < 139264) : Scalar.select (IntOp.cmpi .slt w 0#32) (IntOp.addi w 139264#32) w = w := by
  have h1 : w.slt 0#32 = false := by
    unfold BitVec.slt
    have : w.toInt = w.toNat := BitVec.toInt_eq_toNat_of_lt (by omega)
    rw [this]
    exact decide_eq_false (by simp)
  unfold IntOp.cmpi
  simp only [h1]
  rfl

theorem pickRow_eq (w : BitVec 32) (h : w.toNat < 139264) : pickRow w = ⟨w.toNat, h⟩ := by
  apply Fin.ext
  have : w.toInt = w.toNat := BitVec.toInt_eq_toNat_of_lt (by omega)
  show min w.toInt.toNat 139263 = w.toNat
  rw [this]; omega

variable (x0 : (⟨S139264x1024, .f32⟩ : BufTy).Contents (Elt Ideal)) (x1 : (⟨S131072, .i32⟩ : BufTy).Contents (Elt Ideal)) (x2 : (⟨S32768x128, .f32⟩ : BufTy).Contents (Elt Ideal)) (x3 : (⟨S32768x1024, .f32⟩ : BufTy).Contents (Elt Ideal)) (x4 : (⟨S16x1x1024, .f32⟩ : BufTy).Contents (Elt Ideal)) (x5 : (⟨S1x1024, .f32⟩ : BufTy).Contents (Elt Ideal))

theorem v5_at (b : Fin 131072) (h : (x1 (ix1 b)).toNat < 139264) : val_main_v5 (F := Ideal) x1 (ix2 b 0) = x1 (ix1 b) := by
  pointwise [val_main_v5, val_main_v4, val_main_v3, val_main_v2, val_main_v1, val_main_v0, val_main_c, val_main_c_0]
  exact normalizedRow _ h

theorem v6_at (b : Fin 131072) (h : (x1 (ix1 b)).toNat < 139264) (k : Fin 1024) :
    val_main_v6 (F := Ideal) x0 x1 (ix2 b k) = x0 (ix2 ⟨(x1 (ix1 b)).toNat, h⟩ k) := by
  unfold val_main_v6
  rw [gather6_at, v5_at x1 b h, pickRow_eq _ h]

/-- The `j`-th of the four table entries of token `r`. -/
def slot (r : Fin 32768) (j : Fin 4) : Fin 131072 := ⟨r.val * 4 + j.val, by omega⟩

theorem v7_at (r : Fin 32768) (j : Fin 4) (k : Fin 1024) : val_main_v7 (F := Ideal) x0 x1 (ix3 r j k) = val_main_v6 (F := Ideal) x0 x1 (ix2 (slot r j) k) := by
  rw [val_main_v7_apply]
  congr 1
  funext a
  match a with
  | ⟨0, _⟩ => apply Fin.ext; show ((r.val * 4 + j.val) * 1024 + k.val) / 1024 = r.val * 4 + j.val; omega
  | ⟨1, _⟩ => apply Fin.ext; show ((r.val * 4 + j.val) * 1024 + k.val) % 1024 = k.val; omega

/-- A token's weighted sum of its four rows. -/
def mix (rows : Fin 4 → Fin 1024 → EReal) (w : Fin 4 → EReal) (q : Fin 1024) : EReal := ∑ j, rows j q * w j

theorem v12_at (h : ∀ k, (x1 k).toNat < 139264) (r : Fin 32768) (q : Fin 1024) :
    val_main_v12 (F := Ideal) x0 x1 x2 (ix2 r q)
      = mix (fun j k => x0 (ix2 ⟨(x1 (ix1 (slot r j))).toNat, h _⟩ k)) (fun j => x2 (ix2 r ⟨j.val, by omega⟩)) q := by
  unfold mix
  simp only [← v6_at x0 x1 _ (h _), ← v7_at]
  pointwise [val_main_v12, val_main_v11, val_main_v10, val_main_v9, val_main_v8, val_main_cst]

/-- The token `t` of batch `b`, counted over all batches. -/
def tok5 (b : Fin 16) (t : Fin 2048) : Fin 32768 := ⟨b.val * 2048 + t.val, by omega⟩

theorem v13_at (b : Fin 16) (t : Fin 2048) (q : Fin 1024) :
    val_main_v13 (F := Ideal) x0 x1 x2 (ix3 b t q) = val_main_v12 (F := Ideal) x0 x1 x2 (ix2 (tok5 b t) q) := by
  rw [val_main_v13_apply]
  congr 1
  funext a
  match a with
  | ⟨0, _⟩ => apply Fin.ext; show ((b.val * 2048 + t.val) * 1024 + q.val) / 1024 = b.val * 2048 + t.val; omega
  | ⟨1, _⟩ => apply Fin.ext; show ((b.val * 2048 + t.val) * 1024 + q.val) % 1024 = q.val; omega

theorem v14_at (b : Fin 16) (t : Fin 2048) (q : Fin 1024) :
    val_main_v14 (F := Ideal) x3 (ix3 b t q) = x3 (ix2 (tok5 b t) q) := by
  rw [val_main_v14_apply]
  congr 1
  funext a
  match a with
  | ⟨0, _⟩ => apply Fin.ext; show ((b.val * 2048 + t.val) * 1024 + q.val) / 1024 = b.val * 2048 + t.val; omega
  | ⟨1, _⟩ => apply Fin.ext; show ((b.val * 2048 + t.val) * 1024 + q.val) % 1024 = q.val; omega

/-- The reciprocal root of a row's mean square. -/
theorem root_at (b : Fin 16) (t : Fin 2048) (y : (⟨S16x2048x1024, .f32⟩ : BufTy).Contents (Elt Ideal))  :
    Host.rsqrt (addf (Host.divf (broadcastInDim S16x2048x1 ![0, 1] Gen.bcast_S16x2048_S16x2048x1_0_1
                      (Host.reduceAdd (mulf y y) (constant S_ FTy.f32 0#32) Gen.reducesTo_S16x2048x1024_S16x2048_d2
                        Gen.h_S_))
                    (broadcastInDim S16x2048x1 ![] Gen.bcast_S_S16x2048x1 (constant (F := Ideal) S_ FTy.f32 0x44800000#32)))
                  (broadcastInDim S16x2048x1 ![] Gen.bcast_S_S16x2048x1 (constant S_ FTy.f32 0x358637BD#32))) (ix3 b t 0) = Ideal.rsqrt (Ideal.div (∑ j, y (ix3 b t j) * y (ix3 b t j)) (Ideal.ofBits .f32 0x44800000#32) + Ideal.ofBits .f32 0x358637BD#32) := by
  pointwise []

theorem v28_at (b : Fin 16) (t : Fin 2048) (q : Fin 1024) (x4 : (⟨S16x1x1024, .f32⟩ : BufTy).Contents (Elt Ideal)) :
  val_main_v28 (F := Ideal) x4 (ix3 b t q) = x4 (ix3 b 0 q) := by
  pointwise [val_main_v28]

theorem v26_at (b : Fin 16) (t : Fin 2048) (q : Fin 1024) (x5 : (⟨S1x1024, .f32⟩ : BufTy).Contents (Elt Ideal)) :
  val_main_v26 (F := Ideal) x5 (ix3 b t q) = x5 (ix2 0 q) := by
  pointwise [val_main_v26, val_main_v25]

theorem v22_at (b : Fin 16) (t : Fin 2048) :
    val_main_v22 (F := Ideal) x0 x1 x2 (ix3 b t 0)
      = Ideal.rsqrt (Ideal.div (∑ j, val_main_v13 (F := Ideal) x0 x1 x2 (ix3 b t j) * val_main_v13 (F := Ideal) x0 x1 x2 (ix3 b t j)) (Ideal.ofBits .f32 0x44800000#32) + Ideal.ofBits .f32 0x358637BD#32) := by
  unfold val_main_v22 val_main_v21 val_main_v20 val_main_v19 val_main_v18 val_main_v17 val_main_v16 val_main_v15 val_main_cst_1 val_main_cst_2 val_main_cst_3
  generalize val_main_v13 (F := Ideal) x0 x1 x2 = y
  exact root_at b t y

/-- The sum's norm under the gate, on the residual, at batch `b`, token `t`. -/
theorem v30_at (b : Fin 16) (t : Fin 2048) (q : Fin 1024) :
    val_main_v30 (F := Ideal) x0 x1 x2 x3 x4 x5 (ix3 b t q)
      = Cert.Layer.x1Row (fun k => x3 (ix2 (tok5 b t) k)) (fun k => x4 (ix3 b 0 k))
          (fun k => val_main_v12 (F := Ideal) x0 x1 x2 (ix2 (tok5 b t) k)) (fun k => x5 (ix2 0 k)) q := by
  have e : idx_main_v23 (ix3 b t q) = ix3 b t 0 := by
    funext a
    match a with
    | ⟨0, _⟩ => rfl
    | ⟨1, _⟩ => rfl
    | ⟨2, _⟩ => rfl
  rw [val_main_v30_apply, val_main_v29_apply, val_main_v27_apply, val_main_v24_apply, val_main_v23_apply, e, v22_at, v28_at, v26_at, v14_at x3 b t q]
  unfold Cert.Layer.x1Row Cert.Layer.rms
  simp only [v13_at]
  generalize val_main_v12 (F := Ideal) x0 x1 x2 = y
  rfl

theorem tok5_divmod (r : Fin 32768) : tok5 ⟨r.val / 2048, by omega⟩ ⟨r.val % 2048, by omega⟩ = r := by
  apply Fin.ext
  show r.val / 2048 * 2048 + r.val % 2048 = r.val
  omega

/-- The result at token `r`. -/
theorem v31_at (h : ∀ k, (x1 k).toNat < 139264) (r : Fin 32768) (q : Fin 1024) :
    val_main_v31 (F := Ideal) x0 x1 x2 x3 x4 x5 (ix2 r q)
      = Cert.Layer.x1Row (fun k => x3 (ix2 r k)) (fun k => x4 (ix3 ⟨r.val / 2048, by omega⟩ 0 k))
          (mix (fun j k => x0 (ix2 ⟨(x1 (ix1 (slot r j))).toNat, h _⟩ k)) (fun j => x2 (ix2 r ⟨j.val, by omega⟩)))
          (fun k => x5 (ix2 0 k)) q := by
  have e : val_main_v31 (F := Ideal) x0 x1 x2 x3 x4 x5 (ix2 r q)
      = val_main_v30 (F := Ideal) x0 x1 x2 x3 x4 x5 (ix3 ⟨r.val / 2048, by omega⟩ ⟨r.val % 2048, by omega⟩ q) := by
    rw [val_main_v31_apply]
    congr 1
    funext a
    match a with
    | ⟨0, _⟩ => apply Fin.ext; show (r.val * 1024 + q.val) / 2097152 = r.val / 2048; omega
    | ⟨1, _⟩ => apply Fin.ext; show (r.val * 1024 + q.val) / 1024 % 2048 = r.val % 2048; omega
    | ⟨2, _⟩ => apply Fin.ext; show (r.val * 1024 + q.val) % 1024 = q.val; omega
  rw [e, v30_at, tok5_divmod]
  exact congrArg (fun y => Cert.Layer.x1Row _ _ y _ q) (funext fun k => v12_at x0 x1 x2 h r k)

end Cert.Combine

end
-- ==== Proof.Combine.Block.lean ====
/-
  What the combine kernel stores of one block of tokens, at an index.
-/
module

public import proofs.«01_k».proof.Proof.Combine.Ref
public import proofs.«01_k».proof.Proof.Gen.Kernel5Ideal.Skeleton
public import Idealize.ShloMosaic.Lib.Pointwise

@[expose] public section

set_option maxRecDepth 16384

noncomputable section

namespace Cert.Combine

open Idealize.ShloMosaic Cert.Kernel5Ideal Cert.Kernel5Ideal.Gen

/-- The sum of the four planes, each under its column of the weights. -/
theorem sum_at (w : Vec Ideal S256x128 .f32) (p0 p1 p2 p3 : Vec Ideal S1x256x1024 .f32) (r : Fin 256) (q : Fin 1024) :
    k0_pay2 (F := Ideal) w p0 p1 p2 p3 (ix2 r q)
      = p0 (ix3 0 r q) * w (ix2 r 0) + p1 (ix3 0 r q) * w (ix2 r 1) + p2 (ix3 0 r q) * w (ix2 r 2) + p3 (ix3 0 r q) * w (ix2 r 3) := by
  pointwise [k0_pay2]

theorem gate_at (g : Vec Ideal S1x1x1024 .f32) (q : Fin 1024) : k0_pay3 (F := Ideal) g (ix2 0 q) = g (ix3 0 0 q) := by
  pointwise [k0_pay3]

set_option maxHeartbeats 1000000 in
/-- The stored row, over the row of sums. -/
theorem store_at (y x : Vec Ideal S256x1024 .f32) (g w : Vec Ideal S1x1024 .f32) (r : Fin 256) (q : Fin 1024) :
    k0_pay1 (F := Ideal) y x g w (ix2 r q)
      = Cert.Layer.x1Row (fun k => x (ix2 r k)) (fun k => g (ix2 0 k)) (fun k => y (ix2 r k)) (fun k => w (ix2 0 k)) q := by
  pointwise [k0_pay1]
  rfl

end Cert.Combine

end
-- ==== Proof.Combine.Range.lean ====
/-
  The precondition of the combine call: an all-ones result says that every word of the table names a row.
-/
module

public import proofs.«01_k».proof.Defs
public import proofs.«01_k».proof.Proof.Gen.Pre_dest_in_range
public import Idealize.ShloMosaic.Lib.ReduceAll

@[expose] public section

set_option maxRecDepth 16384

noncomputable section

namespace Cert.Combine

open Idealize.ShloMosaic

theorem sge_one {x y : BitVec 32} (h : IntOp.cmpi .sge x y = 1#1) : y.toInt ≤ x.toInt := by
  simp only [IntOp.cmpi, BitVec.sle] at h
  by_contra hc
  rw [decide_eq_false hc] at h
  exact absurd h (by decide)

theorem slt_one {x y : BitVec 32} (h : IntOp.cmpi .slt x y = 1#1) : x.toInt < y.toInt := by
  simp only [IntOp.cmpi, BitVec.slt] at h
  by_contra hc
  rw [decide_eq_false hc] at h
  exact absurd h (by decide)

theorem and_one {x y : BitVec 1} (h : IntOp.andi x y = 1#1) : x = 1#1 ∧ y = 1#1 := by
  revert x y; decide

/-- A word between 0 and 139263 as a signed number is below 139264 as an unsigned one. -/
theorem row_of_toInt {x : BitVec 32} (h0 : 0 ≤ x.toInt) (h1 : x.toInt < 139264) : x.toNat < 139264 := by
  have := BitVec.toInt_eq_toNat_cond x
  have := x.isLt
  split at * <;> omega

instance : Subsingleton Cert.Pre_dest_in_range.S_.Idx := ⟨fun _ _ => funext fun a => a.elim0⟩

/-- The precondition's function at an all-ones result says the table is in range. -/
theorem rows_of_fn {F : FTy → Type} [FloatOps F] (a0 : FVec F Cert.Pre_dest_in_range.S139264x1024 .f32) (a1 : IVec Cert.Pre_dest_in_range.S131072 32) (a2 a3 a4 a5)
    (h : Cert.Pre_dest_in_range.fn (F := F) a0 a1 a2 a3 a4 a5 = fun _ => 1#1) (k : Cert.Pre_dest_in_range.S131072.Idx) : (a1 k).toNat < 139264 := by
  have h0 := congrFun h (fun a => a.elim0)
  unfold Cert.Pre_dest_in_range.fn at h0
  dsimp only at h0
  obtain ⟨h1, h2⟩ := and_one (Host.reduce_andi_all _ _ _ _ _ h0 k)
  exact row_of_toInt (sge_one h1) (slt_one h2)

end Cert.Combine

end
-- ==== Proof.Combine.Kernel.lean ====
/-
  The array the combine call leaves: every block the pipeline writes back is the reference's on that block's tokens, and the
  blocks cover the array.
-/
module

public import proofs.«01_k».proof.Proof.Combine.Stored
public import proofs.«01_k».proof.Proof.Combine.Block
public import proofs.«01_k».proof.Proof.Combine.Ref
public import proofs.«01_k».proof.Proof.Combine.Range

@[expose] public section

set_option maxRecDepth 16384

noncomputable section

namespace Cert.Combine

open Idealize.ShloMosaic Idealize.ShloMosaic.TcCoe Idealize.SL.Sem
open Cert.Kernel5Ideal Cert.Kernel5Ideal.Gen

variable (m : (ℓ : Loc nD τ sig) → Buf (Elt Ideal) ℓ) (hr : Rows m) (ρ : Dev nD → PrngReg)

/-- The token that row `r` of block `t` is. -/
abbrev tokenAt (t : Fin cfg0.N) (r : Fin 256) : Fin 32768 :=
  ⟨t.val * 256 + r.val, by have ht : t.val < 128 := t.isLt; have := r.isLt; omega⟩

/-- The batch block `t` lies in. -/
abbrev batOf (t : Fin cfg0.N) : Fin 16 := ⟨t.val / 8, by have ht : t.val < 128 := t.isLt; omega⟩

theorem win0_ix : ∀ t : Fin cfg0.N, win0_0.index t (0 : Fin 3) = t.val ∧ win0_0.index t (1 : Fin 3) = 0 ∧ win0_0.index t (2 : Fin 3) = 0 :=
  (by decide +kernel : ∀ t : Fin grid0.N, _)
theorem win1_ix : ∀ t : Fin cfg0.N, win0_1.index t (0 : Fin 2) = t.val ∧ win0_1.index t (1 : Fin 2) = 0 :=
  (by decide +kernel : ∀ t : Fin grid0.N, _)
theorem win2_ix : ∀ t : Fin cfg0.N, win0_2.index t (0 : Fin 2) = t.val ∧ win0_2.index t (1 : Fin 2) = 0 :=
  (by decide +kernel : ∀ t : Fin grid0.N, _)
theorem win3_ix : ∀ t : Fin cfg0.N, win0_3.index t (0 : Fin 3) = t.val / 8 ∧ win0_3.index t (1 : Fin 3) = 0 ∧ win0_3.index t (2 : Fin 3) = 0 :=
  (by decide +kernel : ∀ t : Fin grid0.N, _)
theorem win4_ix : ∀ t : Fin cfg0.N, win0_4.index t (0 : Fin 2) = 0 ∧ win0_4.index t (1 : Fin 2) = 0 :=
  (by decide +kernel : ∀ t : Fin grid0.N, _)
theorem win5_ix : ∀ t : Fin cfg0.N, win0_5.index t (0 : Fin 2) = t.val ∧ win0_5.index t (1 : Fin 2) = 0 :=
  (by decide +kernel : ∀ t : Fin grid0.N, _)

/-- Word `n` of block `t` of the table. -/
theorem blk0_at (c : Dev nD) (t : Fin cfg0.N) (n : ℕ) (h : n < 1024) :
    iblk m c 0 t (tabIx n h) = m ((c : Thread nD τ).loc main_arg1) (ix1 ⟨t.val * 1024 + n, by have ht : t.val < 128 := t.isLt; omega⟩) := by
  obtain ⟨e0, e1, e2⟩ := win0_ix t
  show (V m c main_v0) (((cfg0.win 0).blk t).view.emb (tabIx n h)) = _
  rw [V_main_v0]
  refine shapeCast_apply _ _ _ _ ?_
  show (S131072.rowMajor (ix1 (⟨t.val * 1024 + n, by have ht : t.val < 128 := t.isLt; omega⟩ : Fin 131072))).val = (S128x1x1024.rowMajor (((cfg0.win 0).blk t).view.emb (tabIx n h))).val
  rw [Shape.rowMajor_val_three, Shape.rowMajor_val_one]
  show t.val * 1024 + n = ((win0_0.index t (0 : Fin 3) * 1 + 1 * 0) * 1 + (win0_0.index t (1 : Fin 3) * 1 + 1 * 0)) * 1024 + (win0_0.index t (2 : Fin 3) * 1024 + 1 * n)
  omega

theorem blk1_at (c : Dev nD) (t : Fin cfg0.N) (r : Fin 256) (k : Fin 128) :
    iblk m c 1 t (ix2 r k) = m ((c : Thread nD τ).loc main_arg2) (ix2 (tokenAt t r) k) := by
  obtain ⟨e0, e1⟩ := win1_ix t
  show (V m c main_arg2) (((cfg0.win 1).blk t).view.emb (ix2 r k)) = _
  rw [V_main_arg2]
  congr 1
  funext a
  match a with
  | ⟨0, _⟩ => exact Fin.ext (by show win0_1.index t (0 : Fin 2) * 256 + 1 * r.val = t.val * 256 + r.val; omega)
  | ⟨1, _⟩ => exact Fin.ext (by show win0_1.index t (1 : Fin 2) * 128 + 1 * k.val = k.val; omega)

theorem blk2_at (c : Dev nD) (t : Fin cfg0.N) (r : Fin 256) (k : Fin 1024) :
    iblk m c 2 t (ix2 r k) = m ((c : Thread nD τ).loc main_arg3) (ix2 (tokenAt t r) k) := by
  obtain ⟨e0, e1⟩ := win2_ix t
  show (V m c main_arg3) (((cfg0.win 2).blk t).view.emb (ix2 r k)) = _
  rw [V_main_arg3]
  congr 1
  funext a
  match a with
  | ⟨0, _⟩ => exact Fin.ext (by show win0_2.index t (0 : Fin 2) * 256 + 1 * r.val = t.val * 256 + r.val; omega)
  | ⟨1, _⟩ => exact Fin.ext (by show win0_2.index t (1 : Fin 2) * 1024 + 1 * k.val = k.val; omega)

theorem blk3_at (c : Dev nD) (t : Fin cfg0.N) (k : Fin 1024) :
    iblk m c 3 t (ix3 0 0 k) = m ((c : Thread nD τ).loc main_arg4) (ix3 (batOf t) 0 k) := by
  obtain ⟨e0, e1, e2⟩ := win3_ix t
  show (V m c main_arg4) (((cfg0.win 3).blk t).view.emb (ix3 0 0 k)) = _
  rw [V_main_arg4]
  congr 1
  funext a
  match a with
  | ⟨0, _⟩ => exact Fin.ext (by show win0_3.index t (0 : Fin 3) * 1 + 1 * 0 = t.val / 8; omega)
  | ⟨1, _⟩ => exact Fin.ext (by show win0_3.index t (1 : Fin 3) * 1 + 1 * 0 = 0; omega)
  | ⟨2, _⟩ => exact Fin.ext (by show win0_3.index t (2 : Fin 3) * 1024 + 1 * k.val = k.val; omega)

theorem blk4_at (c : Dev nD) (t : Fin cfg0.N) (k : Fin 1024) :
    iblk m c 4 t (ix2 0 k) = m ((c : Thread nD τ).loc main_arg5) (ix2 0 k) := by
  obtain ⟨e0, e1⟩ := win4_ix t
  show (V m c main_arg5) (((cfg0.win 4).blk t).view.emb (ix2 0 k)) = _
  rw [V_main_arg5]
  congr 1
  funext a
  match a with
  | ⟨0, _⟩ => exact Fin.ext (by show win0_4.index t (0 : Fin 2) * 1 + 1 * 0 = 0; omega)
  | ⟨1, _⟩ => exact Fin.ext (by show win0_4.index t (1 : Fin 2) * 1024 + 1 * k.val = k.val; omega)

/-- The `j`-th gathered row of a token is the row its `j`-th table entry names. -/
theorem plane_at (c : Dev nD) (t : Fin cfg0.N) (j : Fin 4) (r : Fin 256) (q : Fin 1024) :
    plane m hr c t j (ix3 0 r q)
      = m ((c : Thread nD τ).loc main_arg0) (ix2 ⟨BitVec.toNat (m ((c : Thread nD τ).loc main_arg1) (ix1 (slot (tokenAt t r) j))), hr c _⟩ q) := by
  show (V m c main_arg0) (ybIx (BitVec.toNat (iblk m c 0 t (tabIx (4 * r.val + j.val) _))) _ q) = _
  rw [V_main_arg0]
  congr 1
  funext a
  match a with
  | ⟨0, _⟩ =>
    apply Fin.ext
    show BitVec.toNat (iblk m c 0 t (tabIx (4 * r.val + j.val) _)) = BitVec.toNat (m ((c : Thread nD τ).loc main_arg1) (ix1 (slot (tokenAt t r) j)))
    refine (congrArg BitVec.toNat (blk0_at m c t (4 * r.val + j.val) (by have := r.isLt; have := j.isLt; omega))).trans ?_
    refine congrArg (fun s => BitVec.toNat (m ((c : Thread nD τ).loc main_arg1) (ix1 s))) (Fin.ext ?_)
    show t.val * 1024 + (4 * r.val + j.val) = (t.val * 256 + r.val) * 4 + j.val
    omega
  | ⟨1, _⟩ => rfl

/-- The result as the reference computes it, over the kernel's arguments. -/
abbrev outRef (c : Dev nD) : S32768x1024.Idx → EReal :=
  Cert.Reference5Ideal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem out_row (c : Dev nD) (t : Fin cfg0.N) (r : Fin 256) (q : Fin 1024) :
    outAt m hr c t (ix2 r q) = outRef m c (ix2 (tokenAt t r) q) := by
  have eb : (⟨(tokenAt t r).val / 2048, by have := (tokenAt t r).isLt; omega⟩ : Fin 16) = batOf t :=
    Fin.ext (by show (t.val * 256 + r.val) / 2048 = t.val / 8; omega)
  have e := v31_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (hr c) (tokenAt t r) q
  rw [eb] at e
  refine Eq.trans ?_ e.symm
  rw [stored, store_at]
  simp only [blk2_at, gate_at, blk3_at, blk4_at]
  refine congrArg (fun y => Cert.Layer.x1Row _ _ y _ q) (funext fun k => ?_)
  rw [sum_at, plane_at, plane_at, plane_at, plane_at, blk1_at, blk1_at, blk1_at, blk1_at]
  unfold mix
  rw [Fin.sum_univ_four]
  rfl

theorem flushed_eq (c : Dev nD) (t : Fin cfg0.N) :
    (dats m hr 0 c).flushed 5 t = fun y => outAt m hr c t ((cfg0.win 5).xinj (grid0.coords t) y) := by
  rw [← after0_5]

theorem out_flushed (c : Dev nD) (t : Fin cfg0.N) :
    (dats m hr 0 c).flushed 5 t = ((cfg0.win 5).blk t).view.read (Elt Ideal) (outRef m c) := by
  obtain ⟨e0, e1⟩ := win5_ix t
  rw [flushed_eq]
  funext y
  have hy0 : (y 0).val < 256 := (y 0).isLt
  have hy1 : (y 1).val < 1024 := (y 1).isLt
  have hl : (cfg0.win 5).xinj (grid0.coords t) y = ix2 (⟨(y 0).val, hy0⟩ : Fin 256) (⟨(y 1).val, hy1⟩ : Fin 1024) := by
    funext a
    match a with
    | ⟨0, _⟩ => rfl
    | ⟨1, _⟩ => rfl
  have hb : ((cfg0.win 5).blk t).view.emb y = ix2 (tokenAt t ⟨(y 0).val, hy0⟩) (⟨(y 1).val, hy1⟩ : Fin 1024) := by
    funext a
    match a with
    | ⟨0, _⟩ => exact Fin.ext (by show win0_5.index t (0 : Fin 2) * 256 + 1 * (y 0).val = t.val * 256 + (y 0).val; omega)
    | ⟨1, _⟩ => exact Fin.ext (by show win0_5.index t (1 : Fin 2) * 1024 + 1 * (y 1).val = (y 1).val; omega)
  show outAt m hr c t ((cfg0.win 5).xinj (grid0.coords t) y) = outRef m c (((cfg0.win 5).blk t).view.emb y)
  rw [hl, hb, out_row]

/-- The output blocks cover the array. -/
theorem out_cover (i : S32768x1024.Idx) :
    ∃ t : Fin cfg0.N, (cfg0.win 5).flush t = true ∧ i ∈ ((cfg0.win 5).blk t).view.set := by
  have h0 : (i 0).val < 32768 := (i 0).isLt
  have h1 : (i 1).val < 1024 := (i 1).isLt
  have ht : (i 0).val / 256 < grid0.N := by
    rw [show grid0.N = 128 from rfl]
    omega
  refine ⟨⟨(i 0).val / 256, ht⟩, flush0_5 _, ?_⟩
  obtain ⟨e0, e1⟩ := win5_ix ⟨(i 0).val / 256, ht⟩
  dsimp only at e0
  show i ∈ ((View.whole main_v1).slice ((cfg0.win 5).rect ⟨(i 0).val / 256, ht⟩)).set
  rw [View.set_slice_whole, Rect.mem_set_unit]
  intro x
  match x with
  | ⟨0, _⟩ =>
    show win0_5.index ⟨(i 0).val / 256, ht⟩ (0 : Fin 2) * 256 ≤ (i 0).val ∧ (i 0).val < win0_5.index ⟨(i 0).val / 256, ht⟩ (0 : Fin 2) * 256 + 256
    omega
  | ⟨1, _⟩ =>
    show win0_5.index ⟨(i 0).val / 256, ht⟩ (1 : Fin 2) * 1024 ≤ (i 1).val ∧ (i 1).val < win0_5.index ⟨(i 0).val / 256, ht⟩ (1 : Fin 2) * 1024 + 1024
    omega

/-- The array after the run is the reference's. -/
theorem out_array (c : Dev nD) : (dats m hr 0 c).arrAt 5 cfg0.N = outRef m c :=
  (dats m hr 0 c).arrAt_eq_of_cover 5 (outRef m c) (fun t _ => out_flushed m hr c t) (fun i => out_cover i)

end Cert.Combine

end
-- ==== Proof.Conv.Spec.lean ====
/-
  The short convolution of one channel of one batch, as plain functions on the extended reals: the token grid with zeros
  around it, and the nine weighted taps.
-/
module

public import proofs.«01_k».proof.Proof.Merge.Spec

@[expose] public section

noncomputable section

namespace Cert.Conv

open Idealize.ShloMosaic Cert.Layer

/-- The channel's 2048 tokens as a grid of 32 rows of 64, counted from one, with zeros around it. -/
def grid (x : Fin 2048 → EReal) (i j : ℕ) : EReal :=
  if h : 1 ≤ i ∧ i ≤ 32 ∧ 1 ≤ j ∧ j ≤ 64 then x ⟨(i - 1) * 64 + (j - 1), by omega⟩ else 0

/-- Three taps of one grid row, from column `j`. -/
def taps (w0 w1 w2 : EReal) (x : Fin 2048 → EReal) (i j : ℕ) : EReal :=
  w0 * grid x i j + w1 * grid x i (j + 1) + w2 * grid x i (j + 2)

/-- The nine taps around token `r`. -/
def conv (w : Fin 16 → EReal) (x : Fin 2048 → EReal) (r : ℕ) : EReal :=
  taps (w 0) (w 1) (w 2) x (r / 64) (r % 64) + taps (w 3) (w 4) (w 5) x (r / 64 + 1) (r % 64)
    + taps (w 6) (w 7) (w 8) x (r / 64 + 2) (r % 64)

/-- The convolved channel under its silu. -/
def act (w : Fin 16 → EReal) (x : Fin 2048 → EReal) (r : ℕ) : EReal := conv w x r * sigm (conv w x r)

/-- The token itself is the grid's entry at its row and column. -/
theorem grid_self (x : Fin 2048 → EReal) (r : Fin 2048) : grid x (r.val / 64 + 1) (r.val % 64 + 1) = x r := by
  have hr := r.isLt
  rw [grid, dif_pos (by omega)]
  exact congrArg x (Fin.ext (by show (r.val / 64 + 1 - 1) * 64 + (r.val % 64 + 1 - 1) = r.val; omega))

/-- Left of a token that is not first in its row is the token before. -/
theorem grid_left (x : Fin 2048 → EReal) (r : Fin 2048) (h : r.val % 64 ≠ 0) (h' : (r.val + 2048 - 1) % 2048 < 2048) :
    grid x (r.val / 64 + 1) (r.val % 64) = x ⟨(r.val + 2048 - 1) % 2048, h'⟩ := by
  have hr := r.isLt
  rw [grid, dif_pos (by omega)]
  exact congrArg x (Fin.ext (by show (r.val / 64 + 1 - 1) * 64 + (r.val % 64 - 1) = (r.val + 2048 - 1) % 2048; omega))

/-- Right of a token that is not last in its row is the token after. -/
theorem grid_right (x : Fin 2048 → EReal) (r : Fin 2048) (h : r.val % 64 ≠ 63) (h' : (r.val + 2048 - 2047) % 2048 < 2048) :
    grid x (r.val / 64 + 1) (r.val % 64 + 2) = x ⟨(r.val + 2048 - 2047) % 2048, h'⟩ := by
  have hr := r.isLt
  rw [grid, dif_pos (by omega)]
  exact congrArg x (Fin.ext (by show (r.val / 64 + 1 - 1) * 64 + (r.val % 64 + 2 - 1) = (r.val + 2048 - 2047) % 2048; omega))

/-- Outside the grid's columns is zero. -/
theorem grid_zero (x : Fin 2048 → EReal) (i j : ℕ) (h : i = 0 ∨ 33 ≤ i ∨ j = 0 ∨ 65 ≤ j) : grid x i j = 0 :=
  dif_neg (by omega)

/-- Taps of a row outside the grid are zero. -/
theorem taps_zero (w0 w1 w2 : EReal) (x : Fin 2048 → EReal) (i j : ℕ) (h : i = 0 ∨ 33 ≤ i) : taps w0 w1 w2 x i j = 0 := by
  simp only [taps, grid_zero x i _ (h.elim Or.inl fun h => Or.inr (Or.inl h)), mul_zero, add_zero]

end Cert.Conv

end
-- ==== Proof.Conv.Block.lean ====
/-
  One block of the short convolution at an index: the vector the kernel stores, read as the functions of `Conv/Spec.lean`.
-/
module

public import proofs.«01_k».proof.Proof.Conv.Spec
public import proofs.«01_k».proof.Proof.Gen.Kernel6Ideal.Skeleton
public import Idealize.ShloMosaic.Lib.Pointwise

@[expose] public section

set_option maxRecDepth 16384

noncomputable section

namespace Cert.Conv

open Idealize.ShloMosaic Cert.Kernel6Ideal Cert.Kernel6Ideal.Gen Cert.Layer

/-- The token's column is first in its row. -/
theorem first_word : ∀ r : Fin 2048, IntOp.cmpi .eq (IntOp.remsi ArithUnit.vector (BitVec.ofNat 32 r.val) 64#32) 0#32
    = if r.val % 64 = 0 then 1#1 else 0#1 := by decide +kernel

/-- The token's column is last in its row. -/
theorem last_word : ∀ r : Fin 2048, IntOp.cmpi .eq (IntOp.remsi ArithUnit.vector (BitVec.ofNat 32 r.val) 64#32) 63#32
    = if r.val % 64 = 63 then 1#1 else 0#1 := by decide +kernel

theorem pay3_at (r : Fin 2048) (q : Fin 256) : k0_pay3 (ix2 r q) = IntOp.remsi ArithUnit.vector (BitVec.ofNat 32 r.val) 64#32 := by
  pointwise [k0_pay3]

variable (v0 : Vec Ideal S2048x256 .bf16)

/-- A channel of the block. -/
abbrev chan (q : Fin 256) : Fin 2048 → EReal := fun k => v0 (ix2 k q)

theorem pay2_at (r : Fin 2048) (q : Fin 256) :
    k0_pay2 (F := Ideal) v0 (ix2 r q) = grid (chan v0 q) (r.val / 64 + 1) (r.val % 64 + 1) :=
  (grid_self (chan v0 q) r).symm

theorem pay4_at (r : Fin 2048) (q : Fin 256) :
    k0_pay4 (F := Ideal) v0 (ix2 r q) = grid (chan v0 q) (r.val / 64 + 1) (r.val % 64) := by
  pointwise [k0_pay4, k0_pay2]
  rw [pay3_at, first_word]
  by_cases h : r.val % 64 = 0
  · rw [if_pos h, grid_zero _ _ _ (by omega)]
    rfl
  · rw [if_neg h, grid_left _ r h (Nat.mod_lt _ (by omega))]
    rfl

theorem pay5_at (r : Fin 2048) (q : Fin 256) :
    k0_pay5 (F := Ideal) v0 (ix2 r q) = grid (chan v0 q) (r.val / 64 + 1) (r.val % 64 + 2) := by
  pointwise [k0_pay5, k0_pay2]
  rw [pay3_at, last_word]
  by_cases h : r.val % 64 = 63
  · rw [if_pos h, grid_zero _ _ _ (by omega)]
    rfl
  · rw [if_neg h, grid_right _ r h (Nat.mod_lt _ (by omega))]
    rfl

/-- The middle row's taps. -/
theorem pay6_at (a b c : Vec Ideal S1x256 .f32) (r : Fin 2048) (q : Fin 256) :
    k0_pay6 (F := Ideal) v0 a b c (ix2 r q)
      = taps (a (ix2 0 q)) (b (ix2 0 q)) (c (ix2 0 q)) (chan v0 q) (r.val / 64 + 1) (r.val % 64) := by
  pointwise [k0_pay6]
  rw [pay4_at, pay2_at, pay5_at]
  rfl

theorem pay7_at (r : Fin 64) (q : Fin 256) : k0_pay7 (F := Ideal) (ix2 r q) = 0 := by
  pointwise [k0_pay7]

theorem pay8_at (a b : Vec Ideal S1x256 .f32) (r : Fin 2048) (q : Fin 256) :
    k0_pay8 (F := Ideal) v0 a b (ix2 r q)
      = a (ix2 0 q) * grid (chan v0 q) (r.val / 64 + 1) (r.val % 64) + b (ix2 0 q) * grid (chan v0 q) (r.val / 64 + 1) (r.val % 64 + 1) := by
  pointwise [k0_pay8]
  rw [pay4_at, pay2_at]

theorem pay9_at (a : Vec Ideal S1x256 .f32) (r : Fin 2048) (q : Fin 256) : k0_pay9 (F := Ideal) a (ix2 r q) = a (ix2 0 q) := by
  pointwise [k0_pay9]

/-- The scale of a column block: the first two hold the queries. -/
def scaleOf (s : BitVec 32) : EReal :=
  Scalar.select (Scalar.cmpi CmpIPredicate.slt s 2#32) (Ideal.ofBits FTy.f32 0x3DB504F3#32) 1

/-- The stored block at token `r`, column `q`. -/
theorem pay1_at (s : BitVec 32) (w : Fin 16 → Vec Ideal S1x256 .f32) (r : Fin 2048) (q : Fin 256) :
    k0_pay1 (F := Ideal) s (k0_pay2 v0) (k0_pay4 v0) (k0_pay5 v0) (k0_pay6 v0 (w 3) (w 4) (w 5)) k0_pay7 (k0_pay8 v0 (w 0) (w 1))
        (k0_pay9 (w 2)) (w 6) (w 7) (w 8) (ix2 r q)
      = act (fun k => w k (ix2 0 q)) (chan v0 q) r.val * scaleOf s := by
  have hr := r.isLt
  have up : (if h : r.val < 64 then k0_pay7 (F := Ideal) (ix2 ⟨r.val, h⟩ q)
      else k0_pay8 (F := Ideal) v0 (w 0) (w 1) (ix2 ⟨r.val - 64, by omega⟩ q) + k0_pay9 (F := Ideal) (w 2) (ix2 ⟨r.val - 64, by omega⟩ q) * k0_pay5 (F := Ideal) v0 (ix2 ⟨r.val - 64, by omega⟩ q))
      = taps (w 0 (ix2 0 q)) (w 1 (ix2 0 q)) (w 2 (ix2 0 q)) (chan v0 q) (r.val / 64) (r.val % 64) := by
    by_cases h : r.val < 64
    · rw [dif_pos h, pay7_at, taps_zero _ _ _ _ _ _ (by omega)]
    · rw [dif_neg h, pay8_at, pay9_at, pay5_at, taps]
      have e1 : (r.val - 64) / 64 + 1 = r.val / 64 := by omega
      have e2 : (r.val - 64) % 64 = r.val % 64 := by omega
      simp only [e1, e2]
  have down : (if h : r.val < 1984 then w 6 (ix2 0 q) * k0_pay4 (F := Ideal) v0 (ix2 ⟨64 + r.val, by omega⟩ q) + w 7 (ix2 0 q) * k0_pay2 (F := Ideal) v0 (ix2 ⟨64 + r.val, by omega⟩ q)
        + w 8 (ix2 0 q) * k0_pay5 (F := Ideal) v0 (ix2 ⟨64 + r.val, by omega⟩ q)
      else k0_pay7 (F := Ideal) (ix2 ⟨r.val - 1984, by omega⟩ q))
      = taps (w 6 (ix2 0 q)) (w 7 (ix2 0 q)) (w 8 (ix2 0 q)) (chan v0 q) (r.val / 64 + 2) (r.val % 64) := by
    by_cases h : r.val < 1984
    · rw [dif_pos h, pay4_at, pay2_at, pay5_at, taps]
      have e1 : (64 + r.val) / 64 + 1 = r.val / 64 + 2 := by omega
      have e2 : (64 + r.val) % 64 = r.val % 64 := by omega
      simp only [e1, e2]
    · rw [dif_neg h, pay7_at, taps_zero _ _ _ _ _ _ (by omega)]
  pointwise [k0_pay1]
  rw [up, down, pay6_at, zero_sub_ereal]
  unfold act conv sigm scaleOf
  rw [add_comm (taps (w 3 (ix2 0 q)) _ _ _ _ _)]

end Cert.Conv

end
-- ==== Proof.Conv.Ref.lean ====
/-
  The short convolution's reference at an index: the padded grid, the nine taps, the silu and the scale of the queries.
-/
module

public import proofs.«01_k».proof.Proof.Conv.Spec
public import proofs.«01_k».proof.Proof.Gen.Reference6Ideal.Read
public import Idealize.ShloMosaic.Lib.Pointwise

@[expose] public section

set_option maxRecDepth 16384

noncomputable section

namespace Cert.Conv

open Idealize.ShloMosaic Cert.Reference6Ideal Cert.Reference6Ideal.Read Cert.Layer

variable (x0 : (⟨S32768x5632, .bf16⟩ : BufTy).Contents (Elt Ideal)) (x1 : (⟨S16x1024, .f32⟩ : BufTy).Contents (Elt Ideal))

/-- Column `q` of batch `b`. -/
abbrev column (b : Fin 16) (q : Fin 1024) : Fin 2048 → EReal :=
  fun k => x0 (ix2 (⟨b.val * 2048 + k.val, by omega⟩ : Fin 32768) (⟨q.val, by omega⟩ : Fin 5632))

theorem v2_at (b : Fin 16) (i : Fin 32) (j : Fin 64) (q : Fin 1024) :
    val_main_v2 (F := Ideal) x0 (ix4 b i j q) = column x0 b q ⟨i.val * 64 + j.val, by omega⟩ := by
  rw [val_main_v2_apply, val_main_v1_apply, val_main_v0_apply]
  show x0 _ = x0 _
  congr 1
  funext a
  match a with
  | ⟨0, _⟩ => apply Fin.ext; show (((b.val * 32 + i.val) * 64 + j.val) * 1024 + q.val) / 1024 = b.val * 2048 + (i.val * 64 + j.val); omega
  | ⟨1, _⟩ => apply Fin.ext; show (((b.val * 32 + i.val) * 64 + j.val) * 1024 + q.val) % 1024 = q.val; omega

/-- The padded grid. -/
theorem v3_at (b : Fin 16) (i : Fin 34) (j : Fin 66) (q : Fin 1024) :
    val_main_v3 (F := Ideal) x0 (ix4 b i j q) = grid (column x0 b q) i.val j.val := by
  unfold val_main_v3
  by_cases h : 1 ≤ i.val ∧ i.val ≤ 32 ∧ 1 ≤ j.val ∧ j.val ≤ 64
  · rw [grid, dif_pos h]
    unfold pad
    rw [dif_pos (fun a => by
      match a with
      | ⟨0, _⟩ => show 0 ≤ b.val ∧ (b.val - 0) % 1 = 0 ∧ (b.val - 0) / 1 < 16; omega
      | ⟨1, _⟩ => show 1 ≤ i.val ∧ (i.val - 1) % 1 = 0 ∧ (i.val - 1) / 1 < 32; omega
      | ⟨2, _⟩ => show 1 ≤ j.val ∧ (j.val - 1) % 1 = 0 ∧ (j.val - 1) / 1 < 64; omega
      | ⟨3, _⟩ => show 0 ≤ q.val ∧ (q.val - 0) % 1 = 0 ∧ (q.val - 0) / 1 < 1024; omega)]
    refine Eq.trans (congrArg (val_main_v2 (F := Ideal) x0) ?_) (v2_at x0 b (⟨i.val - 1, by omega⟩ : Fin 32) (⟨j.val - 1, by omega⟩ : Fin 64) q)
    funext a
    match a with
    | ⟨0, _⟩ => exact Fin.ext (by show (b.val - 0) / 1 = b.val; omega)
    | ⟨1, _⟩ => exact Fin.ext (by show (i.val - 1) / 1 = i.val - 1; omega)
    | ⟨2, _⟩ => exact Fin.ext (by show (j.val - 1) / 1 = j.val - 1; omega)
    | ⟨3, _⟩ => exact Fin.ext (by show (q.val - 0) / 1 = q.val; omega)
  · rw [grid, dif_neg h]
    unfold pad
    rw [dif_neg (fun hin => h (by
      have h1 : 1 ≤ i.val ∧ (i.val - 1) % 1 = 0 ∧ (i.val - 1) / 1 < 32 := hin 1
      have h2 : 1 ≤ j.val ∧ (j.val - 1) % 1 = 0 ∧ (j.val - 1) / 1 < 64 := hin 2
      omega))]
    pointwise [val_main_call0_v0, val_main_c]
    show (((0#32 : BitVec 32).toInt : ℝ) : EReal) = 0
    simp

/-- The weights of a column. -/
abbrev weights (q : Fin 1024) : Fin 16 → EReal := fun k => x1 (ix2 k q)

set_option maxHeartbeats 1000000 in
/-- The nine taps at a token of the grid. -/
theorem v67_at (b : Fin 16) (i : Fin 32) (j : Fin 64) (q : Fin 1024) :
    val_main_v67 (F := Ideal) x0 x1 (ix4 b i j q)
      = taps (x1 (ix2 0 q)) (x1 (ix2 1 q)) (x1 (ix2 2 q)) (column x0 b q) i.val j.val
        + taps (x1 (ix2 3 q)) (x1 (ix2 4 q)) (x1 (ix2 5 q)) (column x0 b q) (i.val + 1) j.val
        + taps (x1 (ix2 6 q)) (x1 (ix2 7 q)) (x1 (ix2 8 q)) (column x0 b q) (i.val + 2) j.val := by
  pointwise [val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst]
  simp only [v3_at, taps, zero_add, add_assoc, Nat.add_comm 1, Nat.add_comm 2]

/-- The convolution at a token counted over all batches. -/
theorem v68_at (n : Fin 32768) (q : Fin 1024) :
    val_main_v68 (F := Ideal) x0 x1 (ix2 n q)
      = conv (weights x1 q) (column x0 ⟨n.val / 2048, by omega⟩ q) (n.val % 2048) := by
  have e : idx_main_v68 (ix2 n q) = ix4 (⟨n.val / 2048, by omega⟩ : Fin 16) (⟨n.val % 2048 / 64, by omega⟩ : Fin 32)
      (⟨n.val % 2048 % 64, by omega⟩ : Fin 64) q := by
    funext a
    match a with
    | ⟨0, _⟩ => apply Fin.ext; show (n.val * 1024 + q.val) / 2097152 = n.val / 2048; omega
    | ⟨1, _⟩ => apply Fin.ext; show (n.val * 1024 + q.val) / 65536 % 32 = n.val % 2048 / 64; omega
    | ⟨2, _⟩ => apply Fin.ext; show (n.val * 1024 + q.val) / 1024 % 64 = n.val % 2048 % 64; omega
    | ⟨3, _⟩ => apply Fin.ext; show (n.val * 1024 + q.val) % 1024 = q.val; omega
  rw [val_main_v68_apply, e, v67_at]
  rfl

/-- The convolution under its silu. -/
theorem v75_at (n : Fin 32768) (q : Fin 1024) :
    val_main_v75 (F := Ideal) x0 x1 (ix2 n q)
      = act (weights x1 q) (column x0 ⟨n.val / 2048, by omega⟩ q) (n.val % 2048) := by
  pointwise [val_main_v75, val_main_v74, val_main_v73, val_main_v72, val_main_v71, val_main_v70, val_main_v69, val_main_cst_0, val_main_cst_1]
  rw [v68_at]
  rfl

/-- The scale of a column: the first half holds the queries. -/
def scaleAt (q : ℕ) : EReal := if q < 512 then Ideal.ofBits FTy.f32 0x3DB504F3#32 else 1

/-- The result at a token counted over all batches. -/
theorem v81_at (n : Fin 32768) (q : Fin 1024) :
    val_main_v81 (F := Ideal) x0 x1 (ix2 n q)
      = act (weights x1 q) (column x0 ⟨n.val / 2048, by omega⟩ q) (n.val % 2048) * scaleAt q.val := by
  pointwise [val_main_v81, val_main_v80, val_main_v79, val_main_v78, val_main_v77, val_main_v76, val_main_cst_2]
  by_cases h : q.val < 512
  · rw [dif_pos h, v75_at, scaleAt, if_pos h]
  · rw [dif_neg h, v75_at, scaleAt, if_neg h, mul_one]
    have e : (⟨512 + (q.val - 512), by omega⟩ : Fin 1024) = q := Fin.ext (by show 512 + (q.val - 512) = q.val; omega)
    rw [e]

end Cert.Conv

end
-- ==== Proof.Conv.Kernel.lean ====
/-
  The array the short convolution leaves: every point convolves its block of columns of one batch, and the blocks cover the
  array.
-/
module

public import proofs.«01_k».proof.Proof.Conv.Block
public import proofs.«01_k».proof.Proof.Conv.Ref
public import proofs.«01_k».proof.Proof.Gen.Kernel6Ideal.Value
public import Idealize.ShloMosaic.Lib.Pipeline.Value
public import Idealize.ShloMosaic.Lib.Tactic

@[expose] public section

set_option maxRecDepth 16384

noncomputable section

namespace Cert.Conv

open Idealize.ShloMosaic Idealize.ShloMosaic.TcCoe Idealize.SL.Sem
open Cert.Kernel6Ideal Cert.Kernel6Ideal.Gen Cert.Kernel6Ideal.Value

variable (m : (ℓ : Loc nD τ sig) → Buf (Elt Ideal) ℓ)

theorem zero2 : (![0, 0] : Fin 2 → Nat) = fun _ => 0 := funext fun a => by fin_cases a <;> rfl

theorem points_eq : cfg0.N = 64 := N_0

/-- The row of the whole array that row `r` of point `t`'s block is. -/
abbrev rowOf (t : Fin cfg0.N) (r : Fin 2048) : Fin 32768 :=
  ⟨t.val / 4 * 2048 + r.val, by have ht : t.val < 64 := t.isLt; have := r.isLt; omega⟩

/-- The column of the whole array that column `q` of point `t`'s block is. -/
abbrev colOf (t : Fin cfg0.N) (q : Fin 256) : Fin 1024 :=
  ⟨t.val % 4 * 256 + q.val, by have := q.isLt; omega⟩

/-- The batch point `t` lies in. -/
abbrev batOf (t : Fin cfg0.N) : Fin 16 := ⟨t.val / 4, by have ht : t.val < 64 := t.isLt; omega⟩

theorem win0_ix : ∀ t : Fin cfg0.N, win0_0.index t (0 : Fin 2) = t.val / 4 ∧ win0_0.index t (1 : Fin 2) = t.val % 4 :=
  (by decide +kernel : ∀ t : Fin grid0.N, _)

theorem blk0_at (c : Dev nD) (t : Fin cfg0.N) (r : Fin 2048) (q : Fin 256) :
    iblk m c 0 t (ix2 r q)
      = m ((c : Thread nD τ).loc main_arg0) (ix2 (rowOf t r) (⟨(colOf t q).val, by have := (colOf t q).isLt; omega⟩ : Fin 5632)) := by
  obtain ⟨e0, e1⟩ := win0_ix t
  show m ((c : Thread nD τ).loc main_arg0) (((cfg0.win 0).blk t).view.emb (ix2 r q)) = _
  congr 1
  funext a
  match a with
  | ⟨0, _⟩ => exact Fin.ext (by show win0_0.index t (0 : Fin 2) * 2048 + 1 * r.val = t.val / 4 * 2048 + r.val; omega)
  | ⟨1, _⟩ => exact Fin.ext (by show win0_0.index t (1 : Fin 2) * 256 + 1 * q.val = t.val % 4 * 256 + q.val; omega)

theorem win1_ix : ∀ t : Fin cfg0.N, win0_1.index t (0 : Fin 2) = 0 ∧ win0_1.index t (1 : Fin 2) = t.val % 4 :=
  (by decide +kernel : ∀ t : Fin grid0.N, _)

theorem blk1_at (c : Dev nD) (t : Fin cfg0.N) (k : Fin 16) (q : Fin 256) :
    iblk m c 1 t (ix2 k q) = m ((c : Thread nD τ).loc main_arg1) (ix2 k (colOf t q)) := by
  obtain ⟨e0, e1⟩ := win1_ix t
  show m ((c : Thread nD τ).loc main_arg1) (((cfg0.win 1).blk t).view.emb (ix2 k q)) = _
  congr 1
  funext a
  match a with
  | ⟨0, _⟩ => exact Fin.ext (by show win0_1.index t (0 : Fin 2) * 16 + 1 * k.val = k.val; omega)
  | ⟨1, _⟩ => exact Fin.ext (by show win0_1.index t (1 : Fin 2) * 256 + 1 * q.val = t.val % 4 * 256 + q.val; omega)

theorem win2_ix : ∀ t : Fin cfg0.N, win0_2.index t (0 : Fin 2) = t.val / 4 ∧ win0_2.index t (1 : Fin 2) = t.val % 4 :=
  (by decide +kernel : ∀ t : Fin grid0.N, _)

theorem coord_ix : ∀ t : Fin cfg0.N, ((grid0.coords t) 1).val = t.val % 4 :=
  (by decide +kernel : ∀ t : Fin grid0.N, _)

/-- The scale of a point's block is the scale of its columns. -/
theorem scale_eq (t : Fin cfg0.N) (q : Fin 256) : scaleOf (BitVec.ofNat 32 ((grid0.coords t) 1).val) = scaleAt (colOf t q).val := by
  have hq := q.isLt
  have h4 : t.val % 4 < 4 := Nat.mod_lt _ (by omega)
  rw [coord_ix]
  show scaleOf (BitVec.ofNat 32 (t.val % 4)) = scaleAt (t.val % 4 * 256 + q.val)
  generalize t.val % 4 = j at h4
  unfold scaleAt
  match j, h4 with
  | 0, _ => rw [if_pos (by omega)]; rfl
  | 1, _ => rw [if_pos (by omega)]; rfl
  | 2, _ => rw [if_neg (by omega)]; rfl
  | 3, _ => rw [if_neg (by omega)]; rfl

/-- The loaded rows of weights. -/
def wrow (x1 : Vec Ideal S16x256 .f32) (k : Fin 16) : Vec Ideal S1x256 .f32 := fun y => x1 (ix2 k (y 1))

theorem row0 (x1 : Vec Ideal S16x256 .f32) : View.ld x1 r0_4 = wrow x1 0 := by
  funext y
  show x1 _ = x1 _
  congr 1
  funext a
  match a with
  | ⟨0, _⟩ => exact Fin.ext (by have h : (y 0).val < 1 := (y 0).isLt; show 0 + 1 * (y 0).val = 0; omega)
  | ⟨1, _⟩ => exact Fin.ext (by show 0 + 1 * (y 1).val = (y 1).val; omega)

theorem row1 (x1 : Vec Ideal S16x256 .f32) : View.ld x1 r0_5 = wrow x1 1 := by
  funext y
  show x1 _ = x1 _
  congr 1
  funext a
  match a with
  | ⟨0, _⟩ => exact Fin.ext (by have h : (y 0).val < 1 := (y 0).isLt; show 1 + 1 * (y 0).val = 1; omega)
  | ⟨1, _⟩ => exact Fin.ext (by show 0 + 1 * (y 1).val = (y 1).val; omega)

theorem row2 (x1 : Vec Ideal S16x256 .f32) : View.ld x1 r0_6 = wrow x1 2 := by
  funext y
  show x1 _ = x1 _
  congr 1
  funext a
  match a with
  | ⟨0, _⟩ => exact Fin.ext (by have h : (y 0).val < 1 := (y 0).isLt; show 2 + 1 * (y 0).val = 2; omega)
  | ⟨1, _⟩ => exact Fin.ext (by show 0 + 1 * (y 1).val = (y 1).val; omega)

theorem row3 (x1 : Vec Ideal S16x256 .f32) : View.ld x1 r0_1 = wrow x1 3 := by
  funext y
  show x1 _ = x1 _
  congr 1
  funext a
  match a with
  | ⟨0, _⟩ => exact Fin.ext (by have h : (y 0).val < 1 := (y 0).isLt; show 3 + 1 * (y 0).val = 3; omega)
  | ⟨1, _⟩ => exact Fin.ext (by show 0 + 1 * (y 1).val = (y 1).val; omega)

theorem row4 (x1 : Vec Ideal S16x256 .f32) : View.ld x1 r0_2 = wrow x1 4 := by
  funext y
  show x1 _ = x1 _
  congr 1
  funext a
  match a with
  | ⟨0, _⟩ => exact Fin.ext (by have h : (y 0).val < 1 := (y 0).isLt; show 4 + 1 * (y 0).val = 4; omega)
  | ⟨1, _⟩ => exact Fin.ext (by show 0 + 1 * (y 1).val = (y 1).val; omega)

theorem row5 (x1 : Vec Ideal S16x256 .f32) : View.ld x1 r0_3 = wrow x1 5 := by
  funext y
  show x1 _ = x1 _
  congr 1
  funext a
  match a with
  | ⟨0, _⟩ => exact Fin.ext (by have h : (y 0).val < 1 := (y 0).isLt; show 5 + 1 * (y 0).val = 5; omega)
  | ⟨1, _⟩ => exact Fin.ext (by show 0 + 1 * (y 1).val = (y 1).val; omega)

theorem row6 (x1 : Vec Ideal S16x256 .f32) : View.ld x1 r0_7 = wrow x1 6 := by
  funext y
  show x1 _ = x1 _
  congr 1
  funext a
  match a with
  | ⟨0, _⟩ => exact Fin.ext (by have h : (y 0).val < 1 := (y 0).isLt; show 6 + 1 * (y 0).val = 6; omega)
  | ⟨1, _⟩ => exact Fin.ext (by show 0 + 1 * (y 1).val = (y 1).val; omega)

theorem row7 (x1 : Vec Ideal S16x256 .f32) : View.ld x1 r0_8 = wrow x1 7 := by
  funext y
  show x1 _ = x1 _
  congr 1
  funext a
  match a with
  | ⟨0, _⟩ => exact Fin.ext (by have h : (y 0).val < 1 := (y 0).isLt; show 7 + 1 * (y 0).val = 7; omega)
  | ⟨1, _⟩ => exact Fin.ext (by show 0 + 1 * (y 1).val = (y 1).val; omega)

theorem row8 (x1 : Vec Ideal S16x256 .f32) : View.ld x1 r0_9 = wrow x1 8 := by
  funext y
  show x1 _ = x1 _
  congr 1
  funext a
  match a with
  | ⟨0, _⟩ => exact Fin.ext (by have h : (y 0).val < 1 := (y 0).isLt; show 8 + 1 * (y 0).val = 8; omega)
  | ⟨1, _⟩ => exact Fin.ext (by show 0 + 1 * (y 1).val = (y 1).val; omega)

/-- The block stored from two input blocks, at token `r`, column `q`. -/
theorem out_at (i : grid0.Coords) (x0 : Vec Ideal S2048x256 .bf16) (x1 : Vec Ideal S16x256 .f32) (r : Fin 2048) (q : Fin 256) :
    out0_2 (F := Ideal) i x0 x1 (ix2 r q)
      = act (fun k => x1 (ix2 k q)) (fun k => x0 (ix2 k q)) r.val * scaleOf (BitVec.ofNat 32 (i 1).val) := by
  refine Eq.trans ?_ (pay1_at x0 (BitVec.ofNat 32 (i 1).val) (wrow x1) r q)
  unfold out0_2
  rw [View.canon_unit_zero zero2, View.ld_unit_zero (S := S2048x256) zero2]
  rw [row0, row1, row2, row3, row4, row5, row6, row7, row8]

/-- The array as the reference computes it, over the kernel's arguments. -/
abbrev qkRef (c : Dev nD) : S32768x1024.Idx → EReal :=
  Cert.Reference6Ideal.Read.val_main_v81 (F := Ideal) (m ((c : Thread nD τ).loc main_arg0)) (m ((c : Thread nD τ).loc main_arg1))

theorem qk_row (c : Dev nD) (t : Fin cfg0.N) (r : Fin 2048) (q : Fin 256) :
    out0_2 (F := Ideal) (grid0.coords t) (iblk m c 0 t) (iblk m c 1 t) (ix2 r q) = qkRef m c (ix2 (rowOf t r) (colOf t q)) := by
  have hr := r.isLt
  have hb : (⟨(rowOf t r).val / 2048, by omega⟩ : Fin 16) = batOf t :=
    Fin.ext (by show (t.val / 4 * 2048 + r.val) / 2048 = t.val / 4; omega)
  have hm : (rowOf t r).val % 2048 = r.val := by show (t.val / 4 * 2048 + r.val) % 2048 = r.val; omega
  rw [out_at, scale_eq t q]
  refine Eq.trans ?_ (v81_at _ _ (rowOf t r) (colOf t q)).symm
  rw [hb, hm]
  simp only [blk0_at, blk1_at]

theorem qk_flushed (c : Dev nD) (t : Fin cfg0.N) :
    (dats m 0 c).flushed 2 t = ((cfg0.win 2).blk t).view.read (Elt Ideal) (qkRef m c) := by
  obtain ⟨e0, e1⟩ := win2_ix t
  rw [flushed2]
  funext y
  have hy0 : (y 0).val < 2048 := (y 0).isLt
  have hy1 : (y 1).val < 256 := (y 1).isLt
  have hl : (cfg0.win 2).xinj (grid0.coords t) y = ix2 (⟨(y 0).val, hy0⟩ : Fin 2048) (⟨(y 1).val, hy1⟩ : Fin 256) := by
    funext a
    match a with
    | ⟨0, _⟩ => rfl
    | ⟨1, _⟩ => rfl
  have hr : ((cfg0.win 2).blk t).view.emb y = ix2 (rowOf t ⟨(y 0).val, hy0⟩) (colOf t ⟨(y 1).val, hy1⟩) := by
    funext a
    match a with
    | ⟨0, _⟩ => exact Fin.ext (by show win0_2.index t (0 : Fin 2) * 2048 + 1 * (y 0).val = t.val / 4 * 2048 + (y 0).val; omega)
    | ⟨1, _⟩ => exact Fin.ext (by show win0_2.index t (1 : Fin 2) * 256 + 1 * (y 1).val = t.val % 4 * 256 + (y 1).val; omega)
  show out0_2 (F := Ideal) (grid0.coords t) (iblk m c 0 t) (iblk m c 1 t) ((cfg0.win 2).xinj (grid0.coords t) y) = qkRef m c (((cfg0.win 2).blk t).view.emb y)
  rw [hl, hr, qk_row]

/-- Every point writes its block back. -/
theorem flush2 : ∀ t : Fin cfg0.N, (cfg0.win 2).flush t = true :=
  (by decide +kernel : ∀ t : Fin grid0.N, (win0_2).flush t = true)

/-- The output blocks cover the array. -/
theorem qk_cover (i : S32768x1024.Idx) :
    ∃ t : Fin cfg0.N, (cfg0.win 2).flush t = true ∧ i ∈ ((cfg0.win 2).blk t).view.set := by
  have h0 : (i 0).val < 32768 := (i 0).isLt
  have h1 : (i 1).val < 1024 := (i 1).isLt
  have ht : (i 0).val / 2048 * 4 + (i 1).val / 256 < cfg0.N := by
    rw [points_eq]
    omega
  refine ⟨⟨(i 0).val / 2048 * 4 + (i 1).val / 256, ht⟩, flush2 _, ?_⟩
  obtain ⟨e0, e1⟩ := win2_ix ⟨(i 0).val / 2048 * 4 + (i 1).val / 256, ht⟩
  dsimp only at e0 e1
  show i ∈ ((View.whole main_v0).slice ((cfg0.win 2).rect ⟨(i 0).val / 2048 * 4 + (i 1).val / 256, ht⟩)).set
  rw [View.set_slice_whole, Rect.mem_set_unit]
  intro x
  match x with
  | ⟨0, _⟩ =>
    show win0_2.index ⟨(i 0).val / 2048 * 4 + (i 1).val / 256, ht⟩ (0 : Fin 2) * 2048 ≤ (i 0).val ∧ (i 0).val < win0_2.index ⟨(i 0).val / 2048 * 4 + (i 1).val / 256, ht⟩ (0 : Fin 2) * 2048 + 2048
    omega
  | ⟨1, _⟩ =>
    show win0_2.index ⟨(i 0).val / 2048 * 4 + (i 1).val / 256, ht⟩ (1 : Fin 2) * 256 ≤ (i 1).val ∧ (i 1).val < win0_2.index ⟨(i 0).val / 2048 * 4 + (i 1).val / 256, ht⟩ (1 : Fin 2) * 256 + 256
    omega

/-- The array after the run is the reference's. -/
theorem qk_array (c : Dev nD) : (dats m 0 c).arrAt 2 cfg0.N = qkRef m c :=
  (dats m 0 c).arrAt_eq_of_cover 2 (qkRef m c) (fun t _ => qk_flushed m c t) (fun i => qk_cover i)

end Cert.Conv

end
-- ==== Proof.lean ====
/-
  The proof of `Cert.Claim`, call by call. The runs of a call and of its reference leave the same arrays by the call's own
  `Kernel.lean`: `Merge`, `InProj`, `InProjFloat`, `Experts`, `Combine` and `Conv`.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Merge.Kernel
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.InProj.Kernel
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.InProjFloat.Kernel
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_tables_in_range
public import proofs.«01_k».proof.Proof.Experts.Kernel
public import proofs.«01_k».proof.Proof.Experts.WordsTables
public import proofs.«01_k».proof.Proof.Gen.Kernel5
public import proofs.«01_k».proof.Proof.Gen.Kernel5.Skeleton
public import proofs.«01_k».proof.Proof.Gen.Kernel5.Loops
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Loops
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_dest_in_range
public import proofs.«01_k».proof.Proof.Combine.Kernel
public import proofs.«01_k».proof.Proof.Combine.WordsFrame
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Conv.Kernel
public import Idealize.ShloMosaic.Adequacy
public import Idealize.ShloMosaic.Init

@[expose] public section

noncomputable section

namespace Cert.Proof

open Idealize.ShloMosaic Idealize.SL.Sem

/-- The gate merge's frame, at machine words. -/
theorem frame1 : Cert.quiescent_Kernel := fun m ρ _ => Cert.Kernel.Gen.frame m ρ

/-- The gate merge's frame, at ideal floats. -/
theorem frame1I : Cert.quiescent_KernelIdeal := fun m ρ _ => Cert.KernelIdeal.Gen.frame m ρ

/-- The reference of the gate merge leaves its arguments and has no counters. -/
theorem frame1R : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- The gate merge and its reference leave the same `x1` and `h2`. -/
theorem algebraic1 : Cert.algebraic_KernelIdeal_ReferenceIdeal := fun m ρ m' ρ' _ hag =>
  ⟨fun c => Cert.Layer.x1Ref m c, fun c => Cert.Layer.h2Ref m c,
    (θ_run _ _ _).mono (fun _ h c => by
      obtain ⟨h0, h1, -, -, -, -, hargs⟩ := h c
      exact ⟨h0.trans (Cert.Layer.x1_array m c), h1.trans (Cert.Layer.h2_array m c), hargs⟩)
      (Cert.KernelIdeal.Value.run_blocks m ρ),
    (θ_run _ _ _).mono (fun _ h c => by
      obtain ⟨h0, h1, hargs⟩ := h c
      obtain ⟨e0, e1, e2, e3, e4, e5, e6, e7, e8, e9, e10, e11, e12, e13⟩ := hag c
      refine ⟨h0.trans ?_, h1.trans ?_, hargs⟩
      · rw [Cert.ReferenceIdeal.Read.val_main_v64_eq, e0, e1, e2, e3, e4, e7, e9, e10, e11]
      · rw [Cert.ReferenceIdeal.Read.val_main_v65_eq, e0, e1, e2, e3, e4, e5, e6, e7, e8, e9, e10, e11])
      (Cert.ReferenceIdeal.Value.run m' ρ')⟩

/-- The input projection's frame, at machine words. -/
theorem frame2 : Cert.quiescent_Kernel2 := fun m ρ _ => Cert.Kernel2.Gen.frame m ρ

/-- The input projection's frame, at ideal floats. -/
theorem frame2I : Cert.quiescent_Kernel2Ideal := fun m ρ _ => Cert.Kernel2Ideal.Gen.frame m ρ

/-- The reference of the input projection leaves its arguments and has no counters. -/
theorem frame2R : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The input projection and its reference leave the same array. -/
theorem algebraic2 : Cert.algebraic_Kernel2Ideal_Reference2Ideal := fun m ρ m' ρ' _ hag =>
  ⟨fun c => Cert.InProj.yRef m c,
    (θ_run _ _ _).mono (fun _ h c => by
      obtain ⟨h0, hargs⟩ := h c
      exact ⟨h0.trans (Cert.InProj.y_array m c), hargs⟩)
      (Cert.Kernel2Ideal.Value.run_blocks m ρ),
    (θ_run _ _ _).mono (fun _ h c => by
      obtain ⟨h0, hargs⟩ := h c
      obtain ⟨e0, e1, e2, e3, e4, e5⟩ := hag c
      refine ⟨h0.trans ?_, hargs⟩
      rw [Cert.Reference2Ideal.Read.val_main_v25_eq, e0, e1, e2, e3, e4, e5])
      (Cert.Reference2Ideal.Value.run m' ρ')⟩

/-- The tables of a memory that meets the precondition are in range. -/
theorem tables (m : (ℓ : Loc Cert.Kernel3Ideal.nD Cert.Kernel3Ideal.τ Cert.Kernel3Ideal.sig) → Buf (Elt Ideal) ℓ)
    (h : Cert.Pre_Kernel3Ideal m) : Cert.Experts.InRange (Cert.Experts.tabsOf m 0) (Cert.Experts.tabsOf m 1) :=
  Cert.Experts.inRange_of_fn _ _ _ _ _ _ _ (h 0)

/-- The experts' frame, at machine words. -/
theorem frame3 : Cert.quiescent_Kernel3 := fun m ρ hpre => by
  have h : Cert.Experts.InRange (Cert.ExpertsWords.tabsOf m 0) (Cert.ExpertsWords.tabsOf m 1) :=
    Cert.Experts.inRange_of_fn _ _ _ _ _ _ _ (hpre 0)
  exact Cert.ExpertsWords.frame (Cert.ExpertsWords.admOf m h) m ρ (Cert.ExpertsWords.held_of m h)

/-- The experts' frame, at ideal floats. -/
theorem frame3I : Cert.quiescent_Kernel3Ideal := fun m ρ hpre =>
  Cert.Experts.frame (Cert.Experts.admOf m (tables m hpre)) m ρ (Cert.Experts.held_of m (tables m hpre))

/-- The reference of the experts leaves its arguments and has no counters. -/
theorem frame3R : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The same, asked only where the precondition holds. -/
theorem frame3R_pre : Cert.quiescent_Reference3Ideal_pre_tables_in_range := fun m ρ _ => frame3R m ρ trivial

/-- The experts and their reference leave the same array. -/
theorem algebraic3 : Cert.algebraic_Kernel3Ideal_Reference3Ideal := fun m ρ m' ρ' hpre hag =>
  have h := tables m hpre
  have hp := Cert.Experts.held_of m h
  ⟨fun c => Cert.Experts.yRef (Cert.Experts.admOf m h) m c,
    Cert.Experts.run_value (Cert.Experts.admOf m h) m ρ hp h,
    (θ_run _ _ _).mono (fun _ hr c => by
      obtain ⟨h0, hargs⟩ := hr c
      obtain ⟨e0, e1, e2, e3, e4, e5, e6⟩ := hag c
      refine ⟨h0.trans ?_, hargs⟩
      rw [Cert.Reference3Ideal.Read.val_main_v60_eq, e2, e3, e4, e5, e6, e0.trans (hp.1 c), e1.trans (hp.2 c)])
      (Cert.Reference3Ideal.Value.run m' ρ')⟩

/-- The float columns' frame, at machine words. -/
theorem frame4 : Cert.quiescent_Kernel4 := fun m ρ _ => Cert.Kernel4.Gen.frame m ρ

/-- The float columns' frame, at ideal floats. -/
theorem frame4I : Cert.quiescent_Kernel4Ideal := fun m ρ _ => Cert.Kernel4Ideal.Gen.frame m ρ

/-- The reference of the float columns leaves its arguments and has no counters. -/
theorem frame4R : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- The float columns and their reference leave the same array. -/
theorem algebraic4 : Cert.algebraic_Kernel4Ideal_Reference4Ideal := fun m ρ m' ρ' _ hag =>
  ⟨fun c => Cert.InProjFloat.yRef m c,
    (θ_run _ _ _).mono (fun _ h c => by
      obtain ⟨h0, hargs⟩ := h c
      exact ⟨h0.trans (Cert.InProjFloat.y_array m c), hargs⟩)
      (Cert.Kernel4Ideal.Value.run_blocks m ρ),
    (θ_run _ _ _).mono (fun _ h c => by
      obtain ⟨h0, hargs⟩ := h c
      obtain ⟨e0, e1, e2, e3, e4, e5⟩ := hag c
      refine ⟨h0.trans ?_, hargs⟩
      rw [Cert.Reference4Ideal.Read.val_main_v24_eq, e0, e1, e2, e3, e4, e5])
      (Cert.Reference4Ideal.Value.run m' ρ')⟩

/-- The rows named by a memory that meets the combine's precondition are in range, at ideal floats. -/
theorem rows5 (m : (ℓ : Loc Cert.Kernel5Ideal.nD Cert.Kernel5Ideal.τ Cert.Kernel5Ideal.sig) → Buf (Elt Ideal) ℓ)
    (h : Cert.Pre_Kernel5Ideal m) : Cert.Combine.Rows m := fun c => Cert.Combine.rows_of_fn _ _ _ _ _ _ (h c)

/-- The combine's frame, at machine words. -/
theorem frame5 : Cert.quiescent_Kernel5 := fun m ρ hpre =>
  Cert.CombineWords.quiescent m ρ (fun c => Cert.Combine.rows_of_fn _ _ _ _ _ _ (hpre c))

/-- The combine's frame, at ideal floats. -/
theorem frame5I : Cert.quiescent_Kernel5Ideal := fun m ρ hpre => Cert.Combine.quiescent m ρ (rows5 m hpre)

/-- The reference of the combine leaves its arguments and has no counters. -/
theorem frame5R : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- The same, asked only where the precondition holds. -/
theorem frame5R_pre : Cert.quiescent_Reference5Ideal_pre_dest_in_range := fun m ρ _ => frame5R m ρ trivial

/-- The combine and its reference leave the same array. -/
theorem algebraic5 : Cert.algebraic_Kernel5Ideal_Reference5Ideal := fun m ρ m' ρ' hpre hag =>
  ⟨fun c => Cert.Combine.outRef m c,
    (θ_run _ _ _).mono (fun _ h c => by
      obtain ⟨h0, hargs⟩ := h c
      exact ⟨h0.trans (Cert.Combine.out_array m (rows5 m hpre) c), hargs⟩)
      (Cert.Combine.result m ρ (rows5 m hpre)),
    (θ_run _ _ _).mono (fun _ h c => by
      obtain ⟨h0, hargs⟩ := h c
      obtain ⟨e0, e1, e2, e3, e4, e5⟩ := hag c
      refine ⟨h0.trans ?_, hargs⟩
      rw [Cert.Reference5Ideal.Read.val_main_v31_eq, e0, e1, e2, e3, e4, e5])
      (Cert.Reference5Ideal.Value.run m' ρ')⟩

/-- The short convolution's frame, at machine words. -/
theorem frame6 : Cert.quiescent_Kernel6 := fun m ρ _ => Cert.Kernel6.Gen.frame m ρ

/-- The short convolution's frame, at ideal floats. -/
theorem frame6I : Cert.quiescent_Kernel6Ideal := fun m ρ _ => Cert.Kernel6Ideal.Gen.frame m ρ

/-- The reference of the short convolution leaves its arguments and has no counters. -/
theorem frame6R : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

/-- The short convolution and its reference leave the same array. -/
theorem algebraic6 : Cert.algebraic_Kernel6Ideal_Reference6Ideal := fun m ρ m' ρ' _ hag =>
  ⟨fun c => Cert.Conv.qkRef m c,
    (θ_run _ _ _).mono (fun _ h c => by
      obtain ⟨h0, hargs⟩ := h c
      exact ⟨h0.trans (Cert.Conv.qk_array m c), hargs⟩)
      (Cert.Kernel6Ideal.Value.run_blocks m ρ),
    (θ_run _ _ _).mono (fun _ h c => by
      obtain ⟨h0, hargs⟩ := h c
      obtain ⟨e0, e1⟩ := hag c
      refine ⟨h0.trans ?_, hargs⟩
      rw [Cert.Reference6Ideal.Read.val_main_v81_eq, e0, e1])
      (Cert.Reference6Ideal.Value.run m' ρ')⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_tables_in_range.Gen.facts, Cert.Pre_dest_in_range.Gen.facts,
    frame1, frame1I, frame1R, frame2, frame2I, frame2R, frame3, frame3I, frame3R, frame3R_pre, frame4, frame4I, frame4R, frame5, frame5I, frame5R, frame5R_pre, frame6, frame6I, frame6R,
    trivial, algebraic1, trivial, algebraic2, trivial, algebraic3, trivial, algebraic4, trivial, algebraic5, trivial, algebraic6⟩

end Cert.Proof

end
